-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_ret [hPre_finite_ret : Cert.Pre_finite_ret.Facts] (m : (ℓ : Loc Cert.KernelIdeal.nD Cert.KernelIdeal.τ Cert.KernelIdeal.sig) → Buf (Elt Ideal) ℓ) : Prop :=
  ∀ c : Dev Cert.KernelIdeal.nD,
    (Cert.Pre_finite_ret.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ret [hPre_finite_ret : Cert.Pre_finite_ret.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ret.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_ada [hPre_finite_ada : Cert.Pre_finite_ada.Facts] (m : (ℓ : Loc Cert.PrepIdeal.nD Cert.PrepIdeal.τ Cert.PrepIdeal.sig) → Buf (Elt Ideal) ℓ) : Prop :=
  ∀ c : Dev Cert.PrepIdeal.nD,
    (Cert.Pre_finite_ada.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))) = (fun _ => 1#1)

def Pre_AdaReferenceIdeal (m : (ℓ : Loc Cert.AdaReferenceIdeal.nD Cert.AdaReferenceIdeal.τ Cert.AdaReferenceIdeal.sig) → Buf (Elt Ideal) ℓ) : Prop :=
  True

def Pre_AdaReferenceIdeal_finite_ada [hPre_finite_ada : Cert.Pre_finite_ada.Facts] (m : (ℓ : Loc Cert.AdaReferenceIdeal.nD Cert.AdaReferenceIdeal.τ Cert.AdaReferenceIdeal.sig) → Buf (Elt Ideal) ℓ) : Prop :=
  ∀ c : Dev Cert.AdaReferenceIdeal.nD,
    (Cert.Pre_finite_ada.fn (F := Ideal) (m ((c.tc : Thread Cert.AdaReferenceIdeal.nD Cert.AdaReferenceIdeal.τ).loc Cert.AdaReferenceIdeal.main_arg0)) (m ((c.tc : Thread Cert.AdaReferenceIdeal.nD Cert.AdaReferenceIdeal.τ).loc Cert.AdaReferenceIdeal.main_arg1)) (m ((c.tc : Thread Cert.AdaReferenceIdeal.nD Cert.AdaReferenceIdeal.τ).loc Cert.AdaReferenceIdeal.main_arg2)) (m ((c.tc : Thread Cert.AdaReferenceIdeal.nD Cert.AdaReferenceIdeal.τ).loc Cert.AdaReferenceIdeal.main_arg3)) (m ((c.tc : Thread Cert.AdaReferenceIdeal.nD Cert.AdaReferenceIdeal.τ).loc Cert.AdaReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_ret [hKernelIdeal : Cert.KernelIdeal.Facts] [hPre_finite_ret : Cert.Pre_finite_ret.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_ret m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ret [hReferenceIdeal : Cert.ReferenceIdeal.Facts] [hPre_finite_ret : Cert.Pre_finite_ret.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ret m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1)
      ∧ r.2.mem ((c.tc : Thread Cert.CtxProj.nD Cert.CtxProj.τ).loc Cert.CtxProj.main_arg2) = m ((c.tc : Thread Cert.CtxProj.nD Cert.CtxProj.τ).loc Cert.CtxProj.main_arg2)
      ∧ r.2.mem ((c.tc : Thread Cert.CtxProj.nD Cert.CtxProj.τ).loc Cert.CtxProj.main_arg3) = m ((c.tc : Thread Cert.CtxProj.nD Cert.CtxProj.τ).loc Cert.CtxProj.main_arg3)
      ∧ r.2.mem ((c.tc : Thread Cert.CtxProj.nD Cert.CtxProj.τ).loc Cert.CtxProj.main_arg4) = m ((c.tc : Thread Cert.CtxProj.nD Cert.CtxProj.τ).loc Cert.CtxProj.main_arg4)
      ∧ r.2.mem ((c.tc : Thread Cert.CtxProj.nD Cert.CtxProj.τ).loc Cert.CtxProj.main_arg5) = m ((c.tc : Thread Cert.CtxProj.nD Cert.CtxProj.τ).loc Cert.CtxProj.main_arg5)
      ∧ r.2.mem ((c.tc : Thread Cert.CtxProj.nD Cert.CtxProj.τ).loc Cert.CtxProj.main_arg6) = m ((c.tc : Thread Cert.CtxProj.nD Cert.CtxProj.τ).loc Cert.CtxProj.main_arg6))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
      ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
      ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3)
      ∧ r.2.mem ((c.tc : Thread Cert.CtxProjIdeal.nD Cert.CtxProjIdeal.τ).loc Cert.CtxProjIdeal.main_arg4) = m ((c.tc : Thread Cert.CtxProjIdeal.nD Cert.CtxProjIdeal.τ).loc Cert.CtxProjIdeal.main_arg4)
      ∧ r.2.mem ((c.tc : Thread Cert.CtxProjIdeal.nD Cert.CtxProjIdeal.τ).loc Cert.CtxProjIdeal.main_arg5) = m ((c.tc : Thread Cert.CtxProjIdeal.nD Cert.CtxProjIdeal.τ).loc Cert.CtxProjIdeal.main_arg5)
      ∧ r.2.mem ((c.tc : Thread Cert.CtxProjIdeal.nD Cert.CtxProjIdeal.τ).loc Cert.CtxProjIdeal.main_arg6) = m ((c.tc : Thread Cert.CtxProjIdeal.nD Cert.CtxProjIdeal.τ).loc Cert.CtxProjIdeal.main_arg6))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3)
      ∧ r.2.mem ((c.tc : Thread Cert.CtxReferenceIdeal.nD Cert.CtxReferenceIdeal.τ).loc Cert.CtxReferenceIdeal.main_arg4) = m ((c.tc : Thread Cert.CtxReferenceIdeal.nD Cert.CtxReferenceIdeal.τ).loc Cert.CtxReferenceIdeal.main_arg4)
      ∧ r.2.mem ((c.tc : Thread Cert.CtxReferenceIdeal.nD Cert.CtxReferenceIdeal.τ).loc Cert.CtxReferenceIdeal.main_arg5) = m ((c.tc : Thread Cert.CtxReferenceIdeal.nD Cert.CtxReferenceIdeal.τ).loc Cert.CtxReferenceIdeal.main_arg5)
      ∧ r.2.mem ((c.tc : Thread Cert.CtxReferenceIdeal.nD Cert.CtxReferenceIdeal.τ).loc Cert.CtxReferenceIdeal.main_arg6) = m ((c.tc : Thread Cert.CtxReferenceIdeal.nD Cert.CtxReferenceIdeal.τ).loc Cert.CtxReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepIdeal_pre_finite_ada [hPrepIdeal : Cert.PrepIdeal.Facts] [hPre_finite_ada : Cert.Pre_finite_ada.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_ada m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_AdaReferenceIdeal_pre_finite_ada [hAdaReferenceIdeal : Cert.AdaReferenceIdeal.Facts] [hPre_finite_ada : Cert.Pre_finite_ada.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal_finite_ada m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def preserves_Kernel_KernelIdeal : Prop :=
  True

def algebraic_KernelIdeal_ReferenceIdeal_pre_finite_ret [hKernelIdeal : Cert.KernelIdeal.Facts] [hReferenceIdeal : Cert.ReferenceIdeal.Facts] [hPre_finite_ret : Cert.Pre_finite_ret.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_ret m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_InProj_InProjIdeal : Prop :=
  True

def algebraic_InProjIdeal_InReferenceIdeal [hInProjIdeal : Cert.InProjIdeal.Facts] [hInReferenceIdeal : Cert.InReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InProjIdeal m →
    (∀ c : Dev Cert.InProjIdeal.nD,
      m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)
      ∧ m' ((c.tc : Thread Cert.InReferenceIdeal.nD Cert.InReferenceIdeal.τ).loc Cert.InReferenceIdeal.main_arg2) = m ((c.tc : Thread Cert.InProjIdeal.nD Cert.InProjIdeal.τ).loc Cert.InProjIdeal.main_arg2)
      ∧ m' ((c.tc : Thread Cert.InReferenceIdeal.nD Cert.InReferenceIdeal.τ).loc Cert.InReferenceIdeal.main_arg3) = m ((c.tc : Thread Cert.InProjIdeal.nD Cert.InProjIdeal.τ).loc Cert.InProjIdeal.main_arg3)
      ∧ m' ((c.tc : Thread Cert.InReferenceIdeal.nD Cert.InReferenceIdeal.τ).loc Cert.InReferenceIdeal.main_arg4) = m ((c.tc : Thread Cert.InProjIdeal.nD Cert.InProjIdeal.τ).loc Cert.InProjIdeal.main_arg4)
      ∧ m' ((c.tc : Thread Cert.InReferenceIdeal.nD Cert.InReferenceIdeal.τ).loc Cert.InReferenceIdeal.main_arg5) = m ((c.tc : Thread Cert.InProjIdeal.nD Cert.InProjIdeal.τ).loc Cert.InProjIdeal.main_arg5)
      ∧ m' ((c.tc : Thread Cert.InReferenceIdeal.nD Cert.InReferenceIdeal.τ).loc Cert.InReferenceIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v11_0)) (v1 : (c : Dev Cert.InProjIdeal.nD) → Buf (Elt Ideal) ((c.tc : Thread Cert.InProjIdeal.nD Cert.InProjIdeal.τ).loc Cert.InProjIdeal.main_v11_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v11_0) = v0 c
          ∧ r.2.mem ((c.tc : Thread Cert.InProjIdeal.nD Cert.InProjIdeal.τ).loc Cert.InProjIdeal.main_v11_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v85) = v0 c
          ∧ r.2.mem ((c.tc : Thread Cert.InReferenceIdeal.nD Cert.InReferenceIdeal.τ).loc Cert.InReferenceIdeal.main_v87) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_CtxProj_CtxProjIdeal : Prop :=
  True

def algebraic_CtxProjIdeal_CtxReferenceIdeal [hCtxProjIdeal : Cert.CtxProjIdeal.Facts] [hCtxReferenceIdeal : Cert.CtxReferenceIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxProjIdeal m →
    (∀ c : Dev Cert.CtxProjIdeal.nD,
      m' ((c.tc : Thread Cert.CtxReferenceIdeal.nD Cert.CtxReferenceIdeal.τ).loc Cert.CtxReferenceIdeal.main_arg0) = m ((c.tc : Thread Cert.CtxProjIdeal.nD Cert.CtxProjIdeal.τ).loc Cert.CtxProjIdeal.main_arg0)
      ∧ m' ((c.tc : Thread Cert.CtxReferenceIdeal.nD Cert.CtxReferenceIdeal.τ).loc Cert.CtxReferenceIdeal.main_arg1) = m ((c.tc : Thread Cert.CtxProjIdeal.nD Cert.CtxProjIdeal.τ).loc Cert.CtxProjIdeal.main_arg1)
      ∧ m' ((c.tc : Thread Cert.CtxReferenceIdeal.nD Cert.CtxReferenceIdeal.τ).loc Cert.CtxReferenceIdeal.main_arg2) = m ((c.tc : Thread Cert.CtxProjIdeal.nD Cert.CtxProjIdeal.τ).loc Cert.CtxProjIdeal.main_arg2)
      ∧ m' ((c.tc : Thread Cert.CtxReferenceIdeal.nD Cert.CtxReferenceIdeal.τ).loc Cert.CtxReferenceIdeal.main_arg3) = m ((c.tc : Thread Cert.CtxProjIdeal.nD Cert.CtxProjIdeal.τ).loc Cert.CtxProjIdeal.main_arg3)
      ∧ m' ((c.tc : Thread Cert.CtxReferenceIdeal.nD Cert.CtxReferenceIdeal.τ).loc Cert.CtxReferenceIdeal.main_arg4) = m ((c.tc : Thread Cert.CtxProjIdeal.nD Cert.CtxProjIdeal.τ).loc Cert.CtxProjIdeal.main_arg4)
      ∧ m' ((c.tc : Thread Cert.CtxReferenceIdeal.nD Cert.CtxReferenceIdeal.τ).loc Cert.CtxReferenceIdeal.main_arg5) = m ((c.tc : Thread Cert.CtxProjIdeal.nD Cert.CtxProjIdeal.τ).loc Cert.CtxProjIdeal.main_arg5)
      ∧ m' ((c.tc : Thread Cert.CtxReferenceIdeal.nD Cert.CtxReferenceIdeal.τ).loc Cert.CtxReferenceIdeal.main_arg6) = m ((c.tc : Thread Cert.CtxProjIdeal.nD Cert.CtxProjIdeal.τ).loc Cert.CtxProjIdeal.main_arg6)) →
    ∃ (v0 : (c : Dev Cert.CtxProjIdeal.nD) → Buf (Elt Ideal) ((c.tc : Thread Cert.CtxProjIdeal.nD Cert.CtxProjIdeal.τ).loc Cert.CtxProjIdeal.main_v12_0)) (v1 : (c : Dev Cert.CtxProjIdeal.nD) → Buf (Elt Ideal) ((c.tc : Thread Cert.CtxProjIdeal.nD Cert.CtxProjIdeal.τ).loc Cert.CtxProjIdeal.main_v12_1)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v12_0) = v0 c
          ∧ r.2.mem ((c.tc : Thread Cert.CtxProjIdeal.nD Cert.CtxProjIdeal.τ).loc Cert.CtxProjIdeal.main_v12_1) = v1 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1)
          ∧ r.2.mem ((c.tc : Thread Cert.CtxProjIdeal.nD Cert.CtxProjIdeal.τ).loc Cert.CtxProjIdeal.main_arg2) = m ((c.tc : Thread Cert.CtxProjIdeal.nD Cert.CtxProjIdeal.τ).loc Cert.CtxProjIdeal.main_arg2)
          ∧ r.2.mem ((c.tc : Thread Cert.CtxProjIdeal.nD Cert.CtxProjIdeal.τ).loc Cert.CtxProjIdeal.main_arg3) = m ((c.tc : Thread Cert.CtxProjIdeal.nD Cert.CtxProjIdeal.τ).loc Cert.CtxProjIdeal.main_arg3)
          ∧ r.2.mem ((c.tc : Thread Cert.CtxProjIdeal.nD Cert.CtxProjIdeal.τ).loc Cert.CtxProjIdeal.main_arg4) = m ((c.tc : Thread Cert.CtxProjIdeal.nD Cert.CtxProjIdeal.τ).loc Cert.CtxProjIdeal.main_arg4)
          ∧ r.2.mem ((c.tc : Thread Cert.CtxProjIdeal.nD Cert.CtxProjIdeal.τ).loc Cert.CtxProjIdeal.main_arg5) = m ((c.tc : Thread Cert.CtxProjIdeal.nD Cert.CtxProjIdeal.τ).loc Cert.CtxProjIdeal.main_arg5)
          ∧ r.2.mem ((c.tc : Thread Cert.CtxProjIdeal.nD Cert.CtxProjIdeal.τ).loc Cert.CtxProjIdeal.main_arg6) = m ((c.tc : Thread Cert.CtxProjIdeal.nD Cert.CtxProjIdeal.τ).loc Cert.CtxProjIdeal.main_arg6))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v40) = v0 c
          ∧ r.2.mem ((c.tc : Thread Cert.CtxReferenceIdeal.nD Cert.CtxReferenceIdeal.τ).loc Cert.CtxReferenceIdeal.main_v42) = v1 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3)
          ∧ r.2.mem ((c.tc : Thread Cert.CtxReferenceIdeal.nD Cert.CtxReferenceIdeal.τ).loc Cert.CtxReferenceIdeal.main_arg4) = m' ((c.tc : Thread Cert.CtxReferenceIdeal.nD Cert.CtxReferenceIdeal.τ).loc Cert.CtxReferenceIdeal.main_arg4)
          ∧ r.2.mem ((c.tc : Thread Cert.CtxReferenceIdeal.nD Cert.CtxReferenceIdeal.τ).loc Cert.CtxReferenceIdeal.main_arg5) = m' ((c.tc : Thread Cert.CtxReferenceIdeal.nD Cert.CtxReferenceIdeal.τ).loc Cert.CtxReferenceIdeal.main_arg5)
          ∧ r.2.mem ((c.tc : Thread Cert.CtxReferenceIdeal.nD Cert.CtxReferenceIdeal.τ).loc Cert.CtxReferenceIdeal.main_arg6) = m' ((c.tc : Thread Cert.CtxReferenceIdeal.nD Cert.CtxReferenceIdeal.τ).loc Cert.CtxReferenceIdeal.main_arg6))

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)
      ∧ m' ((c.tc : Thread Cert.OutReferenceIdeal.nD Cert.OutReferenceIdeal.τ).loc Cert.OutReferenceIdeal.main_arg4) = m ((c.tc : Thread Cert.OutProjIdeal.nD Cert.OutProjIdeal.τ).loc Cert.OutProjIdeal.main_arg4)
      ∧ m' ((c.tc : Thread Cert.OutReferenceIdeal.nD Cert.OutReferenceIdeal.τ).loc Cert.OutReferenceIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v24) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Prep_PrepIdeal : Prop :=
  True

def algebraic_PrepIdeal_AdaReferenceIdeal_pre_finite_ada [hPrepIdeal : Cert.PrepIdeal.Facts] [hAdaReferenceIdeal : Cert.AdaReferenceIdeal.Facts] [hPre_finite_ada : Cert.Pre_finite_ada.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_PrepIdeal_finite_ada m →
    (∀ c : Dev Cert.PrepIdeal.nD,
      m' ((c.tc : Thread Cert.AdaReferenceIdeal.nD Cert.AdaReferenceIdeal.τ).loc Cert.AdaReferenceIdeal.main_arg0) = m ((c.tc : Thread Cert.PrepIdeal.nD Cert.PrepIdeal.τ).loc Cert.PrepIdeal.main_arg0)
      ∧ m' ((c.tc : Thread Cert.AdaReferenceIdeal.nD Cert.AdaReferenceIdeal.τ).loc Cert.AdaReferenceIdeal.main_arg1) = m ((c.tc : Thread Cert.PrepIdeal.nD Cert.PrepIdeal.τ).loc Cert.PrepIdeal.main_arg1)
      ∧ m' ((c.tc : Thread Cert.AdaReferenceIdeal.nD Cert.AdaReferenceIdeal.τ).loc Cert.AdaReferenceIdeal.main_arg2) = m ((c.tc : Thread Cert.PrepIdeal.nD Cert.PrepIdeal.τ).loc Cert.PrepIdeal.main_arg2)
      ∧ m' ((c.tc : Thread Cert.AdaReferenceIdeal.nD Cert.AdaReferenceIdeal.τ).loc Cert.AdaReferenceIdeal.main_arg3) = m ((c.tc : Thread Cert.PrepIdeal.nD Cert.PrepIdeal.τ).loc Cert.PrepIdeal.main_arg3)
      ∧ m' ((c.tc : Thread Cert.AdaReferenceIdeal.nD Cert.AdaReferenceIdeal.τ).loc Cert.AdaReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v7_0)) (v1 : (c : Dev Cert.PrepIdeal.nD) → Buf (Elt Ideal) ((c.tc : Thread Cert.PrepIdeal.nD Cert.PrepIdeal.τ).loc Cert.PrepIdeal.main_v7_1)) (v2 : (c : Dev Cert.PrepIdeal.nD) → Buf (Elt Ideal) ((c.tc : Thread Cert.PrepIdeal.nD Cert.PrepIdeal.τ).loc Cert.PrepIdeal.main_v7_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v7_0) = v0 c
          ∧ r.2.mem ((c.tc : Thread Cert.PrepIdeal.nD Cert.PrepIdeal.τ).loc Cert.PrepIdeal.main_v7_1) = v1 c
          ∧ r.2.mem ((c.tc : Thread Cert.PrepIdeal.nD Cert.PrepIdeal.τ).loc Cert.PrepIdeal.main_v7_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v9) = v0 c
          ∧ r.2.mem ((c.tc : Thread Cert.AdaReferenceIdeal.nD Cert.AdaReferenceIdeal.τ).loc Cert.AdaReferenceIdeal.main_v13) = v1 c
          ∧ r.2.mem ((c.tc : Thread Cert.AdaReferenceIdeal.nD Cert.AdaReferenceIdeal.τ).loc Cert.AdaReferenceIdeal.main_v15) = v2 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInReferenceIdeal : Cert.InReferenceIdeal.Facts) (hCtxProj : Cert.CtxProj.Facts) (hCtxProjIdeal : Cert.CtxProjIdeal.Facts) (hCtxReferenceIdeal : Cert.CtxReferenceIdeal.Facts) (hOutProj : Cert.OutProj.Facts) (hOutProjIdeal : Cert.OutProjIdeal.Facts) (hOutReferenceIdeal : Cert.OutReferenceIdeal.Facts) (hPrep : Cert.Prep.Facts) (hPrepIdeal : Cert.PrepIdeal.Facts) (hAdaReferenceIdeal : Cert.AdaReferenceIdeal.Facts) (hPre_finite_ret : Cert.Pre_finite_ret.Facts) (hPre_finite_ada : Cert.Pre_finite_ada.Facts),
    quiescent_Kernel (hKernel := hKernel)
    ∧ quiescent_KernelIdeal (hKernelIdeal := hKernelIdeal)
    ∧ quiescent_KernelIdeal_pre_finite_ret (hKernelIdeal := hKernelIdeal) (hPre_finite_ret := hPre_finite_ret)
    ∧ quiescent_ReferenceIdeal (hReferenceIdeal := hReferenceIdeal)
    ∧ quiescent_ReferenceIdeal_pre_finite_ret (hReferenceIdeal := hReferenceIdeal) (hPre_finite_ret := hPre_finite_ret)
    ∧ quiescent_InProj (hInProj := hInProj)
    ∧ quiescent_InProjIdeal (hInProjIdeal := hInProjIdeal)
    ∧ quiescent_InReferenceIdeal (hInReferenceIdeal := hInReferenceIdeal)
    ∧ quiescent_CtxProj (hCtxProj := hCtxProj)
    ∧ quiescent_CtxProjIdeal (hCtxProjIdeal := hCtxProjIdeal)
    ∧ quiescent_CtxReferenceIdeal (hCtxReferenceIdeal := hCtxReferenceIdeal)
    ∧ quiescent_OutProj (hOutProj := hOutProj)
    ∧ quiescent_OutProjIdeal (hOutProjIdeal := hOutProjIdeal)
    ∧ quiescent_OutReferenceIdeal (hOutReferenceIdeal := hOutReferenceIdeal)
    ∧ quiescent_Prep (hPrep := hPrep)
    ∧ quiescent_PrepIdeal (hPrepIdeal := hPrepIdeal)
    ∧ quiescent_PrepIdeal_pre_finite_ada (hPrepIdeal := hPrepIdeal) (hPre_finite_ada := hPre_finite_ada)
    ∧ quiescent_AdaReferenceIdeal (hAdaReferenceIdeal := hAdaReferenceIdeal)
    ∧ quiescent_AdaReferenceIdeal_pre_finite_ada (hAdaReferenceIdeal := hAdaReferenceIdeal) (hPre_finite_ada := hPre_finite_ada)
    ∧ preserves_Kernel_KernelIdeal
    ∧ algebraic_KernelIdeal_ReferenceIdeal_pre_finite_ret (hKernelIdeal := hKernelIdeal) (hReferenceIdeal := hReferenceIdeal) (hPre_finite_ret := hPre_finite_ret)
    ∧ preserves_InProj_InProjIdeal
    ∧ algebraic_InProjIdeal_InReferenceIdeal (hInProjIdeal := hInProjIdeal) (hInReferenceIdeal := hInReferenceIdeal)
    ∧ preserves_CtxProj_CtxProjIdeal
    ∧ algebraic_CtxProjIdeal_CtxReferenceIdeal (hCtxProjIdeal := hCtxProjIdeal) (hCtxReferenceIdeal := hCtxReferenceIdeal)
    ∧ preserves_OutProj_OutProjIdeal
    ∧ algebraic_OutProjIdeal_OutReferenceIdeal (hOutProjIdeal := hOutProjIdeal) (hOutReferenceIdeal := hOutReferenceIdeal)
    ∧ preserves_Prep_PrepIdeal
    ∧ algebraic_PrepIdeal_AdaReferenceIdeal_pre_finite_ada (hPrepIdeal := hPrepIdeal) (hAdaReferenceIdeal := hAdaReferenceIdeal) (hPre_finite_ada := hPre_finite_ada)
-- ==== Pre_finite_ada.lean ====
abbrev S16x1024 : Shape := ⟨2, ![16, 1024]⟩
abbrev S1024 : Shape := ⟨1, ![1024]⟩
abbrev S1x1024x3072 : Shape := ⟨3, ![1, 1024, 3072]⟩
abbrev S1x3072 : Shape := ⟨2, ![1, 3072]⟩
abbrev S1x1024x4096 : Shape := ⟨3, ![1, 1024, 4096]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024x3072 : S_.BroadcastsInDim S1x1024x3072 (![] : Fin 0 → Fin S1x1024x3072.rank)
  reducesTo_S1x1024x3072_S_d0_1_2 : S1x1024x3072.ReducesTo [0, 1, 2] S_

variable [Facts]

def fn {F : FTy → Type} [FloatOps F] (main_arg0 : FVec F S16x1024 .f32) (main_arg1 : FVec F S1024 .f32) (main_arg2 : FVec F S1x1024x3072 .f32) (main_arg3 : FVec F S1x3072 .f32) (main_arg4 : FVec F S1x1024x4096 .f32) : IVec S_ 1 :=
  let main_v0 : FVec F S16x1024 .f32 := Host.absf main_arg0
  let main_cst : FVec F S_ .f32 := constant S_ .f32 0x7F800000#32
  let main_v1 : FVec F S16x1024 .f32 := broadcastInDim S16x1024 ![] bcast_S_S16x1024 main_cst
  let main_v2 : IVec S16x1024 1 := cmpf .olt main_v0 main_v1
  let main_c : IVec S_ 1 := constantI S_ 1 1#1
  let main_v3 : IVec S_ 1 := (fun x v => Host.reduce IntOp.andi x v reducesTo_S16x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024x3072 .f32 := Host.absf main_arg2
  let main_cst_2 : FVec F S_ .f32 := constant S_ .f32 0x7F800000#32
  let main_v10 : FVec F S1x1024x3072 .f32 := broadcastInDim S1x1024x3072 ![] bcast_S_S1x1024x3072 main_cst_2
  let main_v11 : IVec S1x1024x3072 1 := cmpf .olt main_v9 main_v10
  let main_c_3 : IVec S_ 1 := constantI S_ 1 1#1
  let main_v12 : IVec S_ 1 := (fun x v => Host.reduce IntOp.andi x v reducesTo_S1x1024x3072_S_d0_1_2 h_S_) main_v11 main_c_3
  let main_v13 : IVec S_ 1 := andi main_v8 main_v12
  main_v13
-- ==== Pre_finite_ret.lean ====
abbrev S1x8x15x31 : Shape := ⟨4, ![1, 8, 15, 31]⟩
abbrev S1x4 : Shape := ⟨2, ![1, 4]⟩
abbrev S16x28x2048x128 : Shape := ⟨4, ![16, 28, 2048, 128]⟩
abbrev S16x512x2048 : Shape := ⟨3, ![16, 512, 2048]⟩
abbrev S1x12x4096x128 : Shape := ⟨4, ![1, 12, 4096, 128]⟩
abbrev S1x512x4096 : Shape := ⟨3, ![1, 512, 4096]⟩
abbrev S1x512 : Shape := ⟨2, ![1, 512]⟩
abbrev S16x8x2048x128 : Shape := ⟨4, ![16, 8, 2048, 128]⟩
abbrev S_ : Shape := ⟨0, ![]⟩
abbrev S16x4x2048x128 : Shape := ⟨4, ![16, 4, 2048, 128]⟩
abbrev S1x8x4096x128 : Shape := ⟨4, ![1, 8, 4096, 128]⟩

class Facts : Prop where
  slices_S16x28x2048x128_S16x8x2048x128_0_8_0_0 : S16x28x2048x128.Slices ![0, 8, 0, 0] S16x8x2048x128
  bitsLt_bf16_f32 : FTy.bits .bf16 < FTy.bits .f32
  bcast_S_S16x8x2048x128 : S_.BroadcastsInDim S16x8x2048x128 (![] : Fin 0 → Fin S16x8x2048x128.rank)
  reducesTo_S16x8x2048x128_S_d0_1_2_3 : S16x8x2048x128.ReducesTo [0, 1, 2, 3] S_
  h_S_ : 0 < S_.numel
  slices_S16x28x2048x128_S16x4x2048x128_0_24_0_0 : S16x28x2048x128.Slices ![0, 24, 0, 0] S16x4x2048x128
  bcast_S_S16x4x2048x128 : S_.BroadcastsInDim S16x4x2048x128 (![] : Fin 0 → Fin S16x4x2048x128.rank)
  reducesTo_S16x4x2048x128_S_d0_1_2_3 : S16x4x2048x128.ReducesTo [0, 1, 2, 3] S_
  slices_S1x12x4096x128_S1x8x4096x128_0_4_0_0 : S1x12x4096x128.Slices ![0, 4, 0, 0] S1x8x4096x128
  bcast_S_S1x8x4096x128 : S_.BroadcastsInDim S1x8x4096x128 (![] : Fin 0 → Fin S1x8x4096x128.rank)
  reducesTo_S1x8x4096x128_S_d0_1_2_3 : S1x8x4096x128.ReducesTo [0, 1, 2, 3] S_

variable [Facts]

def fn_part1 {F : FTy → Type} [FloatOps F] (main_v12 : IVec S_ 1) (main_v17 : IVec S1x8x4096x128 1) (main_c_3 : IVec S_ 1) : IVec S_ 1 :=
  let main_v18 : IVec S_ 1 := (fun x v => Host.reduce IntOp.andi x v reducesTo_S1x8x4096x128_S_d0_1_2_3 h_S_) main_v17 main_c_3
  let main_v19 : IVec S_ 1 := andi main_v12 main_v18
  main_v19

def fn {F : FTy → Type} [FloatOps F] (main_arg0 : FVec F S1x8x15x31 .f32) (main_arg1 : FVec F S1x4 .f32) (main_arg2 : FVec F S1x4 .f32) (main_arg3 : FVec F S16x28x2048x128 .bf16) (main_arg4 : FVec F S16x512x2048 .bf16) (main_arg5 : FVec F S1x12x4096x128 .bf16) (main_arg6 : FVec F S1x512x4096 .bf16) (main_arg7 : FVec F S1x512 .f32) : IVec S_ 1 :=
  let main_v0 : FVec F S16x8x2048x128 .bf16 := (extractStridedSlice S16x8x2048x128 ![0, 8, 0, 0] · slices_S16x28x2048x128_S16x8x2048x128_0_8_0_0) main_arg3
  let main_v1 : FVec F S16x8x2048x128 .f32 := (extf .f32 · bitsLt_bf16_f32) main_v0
  let main_v2 : FVec F S16x8x2048x128 .f32 := Host.absf main_v1
  let main_cst : FVec F S_ .f32 := constant S_ .f32 0x7F800000#32
  let main_v3 : FVec F S16x8x2048x128 .f32 := broadcastInDim S16x8x2048x128 ![] bcast_S_S16x8x2048x128 main_cst
  let main_v4 : IVec S16x8x2048x128 1 := cmpf .olt main_v2 main_v3
  let main_c : IVec S_ 1 := constantI S_ 1 1#1
  let main_v5 : IVec S_ 1 := (fun x v => Host.reduce IntOp.andi x v reducesTo_S16x8x2048x128_S_d0_1_2_3 h_S_) main_v4 main_c
  let main_v6 : FVec F S16x4x2048x128 .bf16 := (extractStridedSlice S16x4x2048x128 ![0, 24, 0, 0] · slices_S16x28x2048x128_S16x4x2048x128_0_24_0_0) main_arg3
  let main_v7 : FVec F S16x4x2048x128 .f32 := (extf .f32 · bitsLt_bf16_f32) main_v6
  let main_v8 : FVec F S16x4x2048x128 .f32 := Host.absf main_v7
  let main_cst_0 : FVec F S_ .f32 := constant S_ .f32 0x7F800000#32
  let main_v9 : FVec F S16x4x2048x128 .f32 := broadcastInDim S16x4x2048x128 ![] bcast_S_S16x4x2048x128 main_cst_0
  let main_v10 : IVec S16x4x2048x128 1 := cmpf .olt main_v8 main_v9
  let main_c_1 : IVec S_ 1 := constantI S_ 1 1#1
  let main_v11 : IVec S_ 1 := (fun x v => Host.reduce IntOp.andi x v reducesTo_S16x4x2048x128_S_d0_1_2_3 h_S_) main_v10 main_c_1
  let main_v12 : IVec S_ 1 := andi main_v5 main_v11
  let main_v13 : FVec F S1x8x4096x128 .bf16 := (extractStridedSlice S1x8x4096x128 ![0, 4, 0, 0] · slices_S1x12x4096x128_S1x8x4096x128_0_4_0_0) main_arg5
  let main_v14 : FVec F S1x8x4096x128 .f32 := (extf .f32 · bitsLt_bf16_f32) main_v13
  let main_v15 : FVec F S1x8x4096x128 .f32 := Host.absf main_v14
  let main_cst_2 : FVec F S_ .f32 := constant S_ .f32 0x7F800000#32
  let main_v16 : FVec F S1x8x4096x128 .f32 := broadcastInDim S1x8x4096x128 ![] bcast_S_S1x8x4096x128 main_cst_2
  let main_v17 : IVec S1x8x4096x128 1 := cmpf .olt main_v15 main_v16
  let main_c_3 : IVec S_ 1 := constantI S_ 1 1#1
  fn_part1 (F := F) main_v12 main_v17 main_c_3
-- ==== Kernel.lean ====
abbrev S1x8x15x31 : Shape := ⟨4, ![1, 8, 15, 31]⟩
abbrev S1x4 : Shape := ⟨2, ![1, 4]⟩
abbrev S16x28x2048x128 : Shape := ⟨4, ![16, 28, 2048, 128]⟩
abbrev S16x512x2048 : Shape := ⟨3, ![16, 512, 2048]⟩
abbrev S1x12x4096x128 : Shape := ⟨4, ![1, 12, 4096, 128]⟩
abbrev S1x512x4096 : Shape := ⟨3, ![1, 512, 4096]⟩
abbrev S1x512 : Shape := ⟨2, ![1, 512]⟩
abbrev S4 : Shape := ⟨1, ![4]⟩
abbrev S2x4 : Shape := ⟨2, ![2, 4]⟩
abbrev S8x15x31 : Shape := ⟨3, ![8, 15, 31]⟩
abbrev S512 : Shape := ⟨1, ![512]⟩
abbrev S3720 : Shape := ⟨1, ![3720]⟩
abbrev S16x4x2048x128 : Shape := ⟨4, ![16, 4, 2048, 128]⟩
abbrev S2x1x2048x128 : Shape := ⟨4, ![2, 1, 2048, 128]⟩
abbrev S2x128x2048 : Shape := ⟨3, ![2, 128, 2048]⟩
abbrev S1x1x512x128 : Shape := ⟨4, ![1, 1, 512, 128]⟩
abbrev S1x128x512 : Shape := ⟨3, ![1, 128, 512]⟩
abbrev S1x128 : Shape := ⟨2, ![1, 128]⟩
abbrev S3x2x768x256 : Shape := ⟨4, ![3, 2, 768, 256]⟩
abbrev S15x64x128 : Shape := ⟨3, ![15, 64, 128]⟩
abbrev S2x2x80x2048 : Shape := ⟨4, ![2, 2, 80, 2048]⟩
abbrev S2x2x80x256 : Shape := ⟨4, ![2, 2, 80, 256]⟩
abbrev S2x8x128x256 : Shape := ⟨4, ![2, 8, 128, 256]⟩
abbrev S64x128 : Shape := ⟨2, ![64, 128]⟩
abbrev S1 : Shape := ⟨1, ![1]⟩
abbrev S1x64x128 : Shape := ⟨3, ![1, 64, 128]⟩
abbrev S1x1x64x128 : Shape := ⟨4, ![1, 1, 64, 128]⟩
abbrev S1x1 : Shape := ⟨2, ![1, 1]⟩
abbrev S256x256 : Shape := ⟨2, ![256, 256]⟩
abbrev S256x1 : Shape := ⟨2, ![256, 1]⟩
abbrev S1x256 : Shape := ⟨2, ![1, 256]⟩
abbrev S1x512x128 : Shape := ⟨3, ![1, 512, 128]⟩
abbrev S1x256x128 : Shape := ⟨3, ![1, 256, 128]⟩
abbrev S256x128 : Shape := ⟨2, ![256, 128]⟩
abbrev S128x256 : Shape := ⟨2, ![128, 256]⟩
abbrev S128x128 : Shape := ⟨2, ![128, 128]⟩
abbrev S1x1x2048x128 : Shape := ⟨4, ![1, 1, 2048, 128]⟩
abbrev S1x2048x128 : Shape := ⟨3, ![1, 2048, 128]⟩
abbrev S1x8x128x256 : Shape := ⟨4, ![1, 8, 128, 256]⟩
abbrev S8x128x256 : Shape := ⟨3, ![8, 128, 256]⟩
abbrev S1x128x256 : Shape := ⟨3, ![1, 128, 256]⟩
abbrev S1x128x128 : Shape := ⟨3, ![1, 128, 128]⟩
abbrev S1x1x128x128 : Shape := ⟨4, ![1, 1, 128, 128]⟩
abbrev S1x128x2048 : Shape := ⟨3, ![1, 128, 2048]⟩
abbrev S1x64x2048 : Shape := ⟨3, ![1, 64, 2048]⟩
abbrev S64x2048 : Shape := ⟨2, ![64, 2048]⟩
abbrev S1x2x80x2048 : Shape := ⟨4, ![1, 2, 80, 2048]⟩
abbrev S2x80x2048 : Shape := ⟨3, ![2, 80, 2048]⟩
abbrev S1x1x64x2048 : Shape := ⟨4, ![1, 1, 64, 2048]⟩
abbrev S16x2048 : Shape := ⟨2, ![16, 2048]⟩
abbrev S1x16x2048 : Shape := ⟨3, ![1, 16, 2048]⟩
abbrev S1x1x16x2048 : Shape := ⟨4, ![1, 1, 16, 2048]⟩
abbrev S1x64x256 : Shape := ⟨3, ![1, 64, 256]⟩
abbrev S64x256 : Shape := ⟨2, ![64, 256]⟩
abbrev S1x2x80x256 : Shape := ⟨4, ![1, 2, 80, 256]⟩
abbrev S2x80x256 : Shape := ⟨3, ![2, 80, 256]⟩
abbrev S1x1x64x256 : Shape := ⟨4, ![1, 1, 64, 256]⟩
abbrev S16x256 : Shape := ⟨2, ![16, 256]⟩
abbrev S1x16x256 : Shape := ⟨3, ![1, 16, 256]⟩
abbrev S1x1x16x256 : Shape := ⟨4, ![1, 1, 16, 256]⟩
abbrev S512x128 : Shape := ⟨2, ![512, 128]⟩
abbrev S512x256 : Shape := ⟨2, ![512, 256]⟩
abbrev S1x704x128 : Shape := ⟨3, ![1, 704, 128]⟩
abbrev S704x128 : Shape := ⟨2, ![704, 128]⟩
abbrev S704x256 : Shape := ⟨2, ![704, 256]⟩
abbrev S576x128 : Shape := ⟨2, ![576, 128]⟩
abbrev S1x1x576x128 : Shape := ⟨4, ![1, 1, 576, 128]⟩
abbrev S128 : Shape := ⟨1, ![128]⟩
abbrev S1x80x512 : Shape := ⟨3, ![1, 80, 512]⟩
abbrev S80x512 : Shape := ⟨2, ![80, 512]⟩
abbrev S80x256 : Shape := ⟨2, ![80, 256]⟩
abbrev S1x80x256 : Shape := ⟨3, ![1, 80, 256]⟩
abbrev S256 : Shape := ⟨1, ![256]⟩
abbrev S1x1x256x128 : Shape := ⟨4, ![1, 1, 256, 128]⟩
abbrev S192x128 : Shape := ⟨2, ![192, 128]⟩
abbrev S768x128 : Shape := ⟨2, ![768, 128]⟩
abbrev S768x256 : Shape := ⟨2, ![768, 256]⟩
abbrev S1x80x768 : Shape := ⟨3, ![1, 80, 768]⟩
abbrev S80x768 : Shape := ⟨2, ![80, 768]⟩

abbrev nBuf : Space → Nat
  | .hbm => 23
  | .vmem => 36
  | .smem => 2
  | _ => 0

abbrev bufTy : (tb : Table) → Fin (tcTables nBuf tb) → BufTy
  | .hbm, ⟨0, _⟩ => ⟨S1x8x15x31, .f32⟩
  | .hbm, ⟨1, _⟩ => ⟨S1x4, .f32⟩
  | .hbm, ⟨2, _⟩ => ⟨S1x4, .f32⟩
  | .hbm, ⟨3, _⟩ => ⟨S16x28x2048x128, .bf16⟩
  | .hbm, ⟨4, _⟩ => ⟨S16x512x2048, .bf16⟩
  | .hbm, ⟨5, _⟩ => ⟨S1x12x4096x128, .bf16⟩
  | .hbm, ⟨6, _⟩ => ⟨S1x512x4096, .bf16⟩
  | .hbm, ⟨7, _⟩ => ⟨S1x512, .f32⟩
  | .hbm, ⟨8, _⟩ => ⟨S4, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S1x4, .f32⟩
  | .hbm, ⟨15, _⟩ => ⟨S1x4, .f32⟩
  | .hbm, ⟨16, _⟩ => ⟨S2x4, .f32⟩
  | .hbm, ⟨17, _⟩ => ⟨S8x15x31, .f32⟩
  | .hbm, ⟨18, _⟩ => ⟨S512, .f32⟩
  | .hbm, ⟨19, _⟩ => ⟨S3720, .f32⟩
  | .hbm, ⟨20, _⟩ => ⟨S1x512, .f32⟩
  | .hbm, ⟨21, _⟩ => ⟨S16x4x2048x128, .bf16⟩
  | .hbm, ⟨22, _⟩ => ⟨S16x4x2048x128, .bf16⟩
  | .local _ .vmem, ⟨0, _⟩ => ⟨S2x1x2048x128, .bf16⟩
  | .local _ .vmem, ⟨1, _⟩ => ⟨S2x1x2048x128, .bf16⟩
  | .local _ .vmem, ⟨2, _⟩ => ⟨S2x1x2048x128, .bf16⟩
  | .local _ .vmem, ⟨3, _⟩ => ⟨S2x1x2048x128, .bf16⟩
  | .local _ .vmem, ⟨4, _⟩ => ⟨S2x128x2048, .bf16⟩
  | .local _ .vmem, ⟨5, _⟩ => ⟨S2x128x2048, .bf16⟩
  | .local _ .vmem, ⟨6, _⟩ => ⟨S2x1x2048x128, .bf16⟩
  | .local _ .vmem, ⟨7, _⟩ => ⟨S2x1x2048x128, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x128x512, .bf16⟩
  | .local _ .vmem, ⟨11, _⟩ => ⟨S1x128x512, .bf16⟩
  | .local _ .vmem, ⟨12, _⟩ => ⟨S2x1x2048x128, .bf16⟩
  | .local _ .vmem, ⟨13, _⟩ => ⟨S2x1x2048x128, .bf16⟩
  | .local _ .vmem, ⟨14, _⟩ => ⟨S2x1x2048x128, .bf16⟩
  | .local _ .vmem, ⟨15, _⟩ => ⟨S2x1x2048x128, .bf16⟩
  | .local _ .vmem, ⟨16, _⟩ => ⟨S2x1x2048x128, .bf16⟩
  | .local _ .vmem, ⟨17, _⟩ => ⟨S2x1x2048x128, .bf16⟩
  | .local _ .vmem, ⟨18, _⟩ => ⟨S2x1x2048x128, .bf16⟩
  | .local _ .vmem, ⟨19, _⟩ => ⟨S2x1x2048x128, .bf16⟩
  | .local _ .vmem, ⟨20, _⟩ => ⟨S1x1x512x128, .bf16⟩
  | .local _ .vmem, ⟨21, _⟩ => ⟨S1x1x512x128, .bf16⟩
  | .local _ .vmem, ⟨22, _⟩ => ⟨S1x1x512x128, .bf16⟩
  | .local _ .vmem, ⟨23, _⟩ => ⟨S1x1x512x128, .bf16⟩
  | .local _ .vmem, ⟨24, _⟩ => ⟨S1x128, .f32⟩
  | .local _ .vmem, ⟨25, _⟩ => ⟨S1x128, .f32⟩
  | .local _ .vmem, ⟨26, _⟩ => ⟨S2x1x2048x128, .bf16⟩
  | .local _ .vmem, ⟨27, _⟩ => ⟨S2x1x2048x128, .bf16⟩
  | .local _ .vmem, ⟨28, _⟩ => ⟨S2x1x2048x128, .bf16⟩
  | .local _ .vmem, ⟨29, _⟩ => ⟨S2x1x2048x128, .bf16⟩
  | .local _ .vmem, ⟨30, _⟩ => ⟨S3x2x768x256, .f32⟩
  | .local _ .vmem, ⟨31, _⟩ => ⟨S15x64x128, .f32⟩
  | .local _ .vmem, ⟨32, _⟩ => ⟨S2x2x80x2048, .bf16⟩
  | .local _ .vmem, ⟨33, _⟩ => ⟨S2x2x80x256, .bf16⟩
  | .local _ .vmem, ⟨34, _⟩ => ⟨S2x8x128x256, .f32⟩
  | .local _ .vmem, ⟨35, _⟩ => ⟨S2x8x128x256, .bf16⟩
  | .local _ .smem, ⟨0, _⟩ => ⟨S3720, .f32⟩
  | .local _ .smem, ⟨1, _⟩ => ⟨S2x4, .f32⟩
  | _, _ => ⟨S1x8x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_3549 : BitVec 32) (c0_i32_3552 : BitVec 32) (c0_i32_3551 : BitVec 32) : Fin 1 → Nat :=
  let c2_i32 : BitVec 32 := 2#32
  let arg0 : BitVec 32 := BitVec.ofNat 32 (i 0).val
  let v4481 : BitVec 32 := Scalar.muli c2_i32 arg0
  let v4482 : BitVec 32 := Scalar.addi v4481 c0_i32_3549
  let c15_i32 : BitVec 32 := 15#32
  let v4486 : BitVec 32 := Scalar.muli v4482 c15_i32
  let v4487 : BitVec 32 := Scalar.addi v4486 c0_i32_3552
  let c31_i32 : BitVec 32 := 31#32
  let v4488 : BitVec 32 := Scalar.muli v4487 c31_i32
  let v4489 : BitVec 32 := Scalar.addi v4488 c0_i32_3551
  let v4490 : Index := Scalar.indexCast v4489
  ![v4490.toNat]
def k0_off2 (i : grid0.Coords) : Fin 2 → Nat :=
  let c0 : Index := 0#32
  let arg0 : BitVec 32 := BitVec.ofNat 32 (i 0).val
  let v3 : Index := Scalar.indexCast arg0
  ![0, v3.toNat]
def k0_off3 (i : grid0.Coords) : Fin 2 → Nat :=
  let c1 : Index := 1#32
  let arg0 : BitVec 32 := BitVec.ofNat 32 (i 0).val
  let v5 : Index := Scalar.indexCast arg0
  ![1, v5.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![arg1.toNat, v0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, arg1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_8 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![arg1.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, v0.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, v0.toNat, arg1.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 1 → Memref sig .tc .smem S3720 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S2x1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2x1x2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ReferenceIdeal.lean ====
abbrev S1x8x15x31 : Shape := ⟨4, ![1, 8, 15, 31]⟩
abbrev S1x4 : Shape := ⟨2, ![1, 4]⟩
abbrev S16x28x2048x128 : Shape := ⟨4, ![16, 28, 2048, 128]⟩
abbrev S16x512x2048 : Shape := ⟨3, ![16, 512, 2048]⟩
abbrev S1x12x4096x128 : Shape := ⟨4, ![1, 12, 4096, 128]⟩
abbrev S1x512x4096 : Shape := ⟨3, ![1, 512, 4096]⟩
abbrev S1x512 : Shape := ⟨2, ![1, 512]⟩
abbrev S16x4x2048x128 : Shape := ⟨4, ![16, 4, 2048, 128]⟩
abbrev S1x4x4096x128 : Shape := ⟨4, ![1, 4, 4096, 128]⟩
abbrev S4x4096x128 : Shape := ⟨3, ![4, 4096, 128]⟩
abbrev S4x16x256x128 : Shape := ⟨4, ![4, 16, 256, 128]⟩
abbrev S2048 : Shape := ⟨1, ![2048]⟩
abbrev S256 : Shape := ⟨1, ![256]⟩
abbrev S16x4x2048x2048 : Shape := ⟨4, ![16, 4, 2048, 2048]⟩
abbrev S4 : Shape := ⟨1, ![4]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4x1 : Shape := ⟨2, ![4, 1]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x256 : Shape := ⟨2, ![1, 256]⟩
abbrev S4x256 : Shape := ⟨2, ![4, 256]⟩
abbrev S4x1x256x1 : Shape := ⟨4, ![4, 1, 256, 1]⟩
abbrev S16x4x128x128 : Shape := ⟨4, ![16, 4, 128, 128]⟩
abbrev S4x2048 : Shape := ⟨2, ![4, 2048]⟩
abbrev S1x4x2048x1 : Shape := ⟨4, ![1, 4, 2048, 1]⟩
abbrev S1x4x2048x2048 : Shape := ⟨4, ![1, 4, 2048, 2048]⟩
abbrev S16x4x2048 : Shape := ⟨3, ![16, 4, 2048]⟩
abbrev S16x4x2048x1 : Shape := ⟨4, ![16, 4, 2048, 1]⟩
abbrev S512 : Shape := ⟨1, ![512]⟩
abbrev S4x1x128 : Shape := ⟨3, ![4, 1, 128]⟩
abbrev S1x4x1x128 : Shape := ⟨4, ![1, 4, 1, 128]⟩

abbrev nBuf : Space → Nat
  | .hbm => 157
  | .vmem => 0
  | .smem => 0
  | _ => 0

abbrev hbmTy0_0 (i : Nat) : BufTy := match i % 128 with
  | 0 => ⟨S1x8x15x31, .f32⟩
  | 1 => ⟨S1x4, .f32⟩
  | 2 => ⟨S1x4, .f32⟩
  | 3 => ⟨S16x28x2048x128, .bf16⟩
  | 4 => ⟨S16x512x2048, .bf16⟩
  | 5 => ⟨S1x12x4096x128, .bf16⟩
  | 6 => ⟨S1x512x4096, .bf16⟩
  | 7 => ⟨S1x512, .f32⟩
  | 8 => ⟨S16x4x2048x128, .bf16⟩
  | 9 => ⟨S16x4x2048x128, .f32⟩
  | 10 => ⟨S16x4x2048x128, .bf16⟩
  | 11 => ⟨S16x4x2048x128, .f32⟩
  | 12 => ⟨S16x4x2048x128, .bf16⟩
  | 13 => ⟨S16x4x2048x128, .f32⟩
  | 14 => ⟨S16x4x2048x128, .bf16⟩
  | 15 => ⟨S16x4x2048x128, .f32⟩
  | 16 => ⟨S1x4x4096x128, .bf16⟩
  | 17 => ⟨S4x4096x128, .bf16⟩
  | 18 => ⟨S4x4096x128, .f32⟩
  | 19 => ⟨S4x16x256x128, .f32⟩
  | 20 => ⟨S1x4x4096x128, .bf16⟩
  | 21 => ⟨S4x4096x128, .bf16⟩
  | 22 => ⟨S4x4096x128, .f32⟩
  | 23 => ⟨S4x16x256x128, .f32⟩
  | 24 => ⟨S2048, .i32⟩
  | 25 => ⟨S2048, .f32⟩
  | 26 => ⟨S256, .i32⟩
  | 27 => ⟨S256, .f32⟩
  | 28 => ⟨S16x4x2048x2048, .f32⟩
  | 29 => ⟨S4, .f32⟩
  | 30 => ⟨S4, .f32⟩
  | 31 => ⟨S4, .f32⟩
  | 32 => ⟨S2048x1, .f32⟩
  | 33 => ⟨S1x2048, .f32⟩
  | 34 => ⟨S2048x2048, .f32⟩
  | 35 => ⟨S2048x2048, .f32⟩
  | 36 => ⟨S2048x2048, .f32⟩
  | 37 => ⟨S_, .f32⟩
  | 38 => ⟨S2048, .f32⟩
  | 39 => ⟨S2048, .f32⟩
  | 40 => ⟨S_, .f32⟩
  | 41 => ⟨S256, .f32⟩
  | 42 => ⟨S256, .f32⟩
  | 43 => ⟨S4x1, .f32⟩
  | 44 => ⟨S_, .f32⟩
  | 45 => ⟨S2048x2048, .f32⟩
  | 46 => ⟨S2048x2048, .i1⟩
  | 47 => ⟨S4x1x1, .f32⟩
  | 48 => ⟨S_, .f32⟩
  | 49 => ⟨S2048x2048, .f32⟩
  | 50 => ⟨S2048x2048, .f32⟩
  | 51 => ⟨S1x2048x2048, .f32⟩
  | 52 => ⟨S4x2048x2048, .f32⟩
  | 53 => ⟨S4x2048x2048, .f32⟩
  | 54 => ⟨S4x2048x2048, .f32⟩
  | 55 => ⟨S4x2048x2048, .f32⟩
  | 56 => ⟨S_, .f32⟩
  | 57 => ⟨S_, .f32⟩
  | 58 => ⟨S4x2048x2048, .i1⟩
  | 59 => ⟨S4x2048x2048, .f32⟩
  | 60 => ⟨S4x2048x2048, .f32⟩
  | 61 => ⟨S1x256, .f32⟩
  | 62 => ⟨S4x256, .f32⟩
  | 63 => ⟨S4x256, .f32⟩
  | 64 => ⟨S4x256, .f32⟩
  | 65 => ⟨S4x256, .f32⟩
  | 66 => ⟨S4x1x256x1, .f32⟩
  | 67 => ⟨S4x16x256x128, .f32⟩
  | 68 => ⟨S4x16x256x128, .f32⟩
  | 69 => ⟨S16x4x128x128, .f32⟩
  | 70 => ⟨S1x2048, .f32⟩
  | 71 => ⟨S4x2048, .f32⟩
  | 72 => ⟨S4x2048, .f32⟩
  | 73 => ⟨S4x2048, .f32⟩
  | 74 => ⟨S4x2048, .f32⟩
  | 75 => ⟨S1x4x2048x1, .f32⟩
  | 76 => ⟨S16x4x2048x128, .f32⟩
  | 77 => ⟨S16x4x2048x128, .f32⟩
  | 78 => ⟨S1x4x2048x2048, .f32⟩
  | 79 => ⟨S16x4x2048x2048, .f32⟩
  | 80 => ⟨S16x4x2048x2048, .f32⟩
  | 81 => ⟨S16x4x2048x128, .f32⟩
  | 82 => ⟨S16x4x2048x128, .f32⟩
  | 83 => ⟨S16x4x2048x128, .f32⟩
  | 84 => ⟨S4, .f32⟩
  | 85 => ⟨S4, .f32⟩
  | 86 => ⟨S4, .f32⟩
  | 87 => ⟨S1x2048, .f32⟩
  | 88 => ⟨S2048x1, .f32⟩
  | 89 => ⟨S2048x2048, .f32⟩
  | 90 => ⟨S2048x2048, .f32⟩
  | 91 => ⟨S2048x2048, .f32⟩
  | 92 => ⟨S_, .f32⟩
  | 93 => ⟨S2048, .f32⟩
  | 94 => ⟨S2048, .f32⟩
  | 95 => ⟨S4x1, .f32⟩
  | 96 => ⟨S_, .f32⟩
  | 97 => ⟨S2048x2048, .f32⟩
  | 98 => ⟨S2048x2048, .i1⟩
  | 99 => ⟨S4x1x1, .f32⟩
  | 100 => ⟨S_, .f32⟩
  | 101 => ⟨S2048x2048, .f32⟩
  | 102 => ⟨S2048x2048, .f32⟩
  | 103 => ⟨S1x2048x2048, .f32⟩
  | 104 => ⟨S4x2048x2048, .f32⟩
  | 105 => ⟨S4x2048x2048, .f32⟩
  | 106 => ⟨S4x2048x2048, .f32⟩
  | 107 => ⟨S4x2048x2048, .f32⟩
  | 108 => ⟨S_, .f32⟩
  | 109 => ⟨S_, .f32⟩
  | 110 => ⟨S4x2048x2048, .i1⟩
  | 111 => ⟨S4x2048x2048, .f32⟩
  | 112 => ⟨S4x2048x2048, .f32⟩
  | 113 => ⟨S1x256, .f32⟩
  | 114 => ⟨S4x256, .f32⟩
  | 115 => ⟨S4x256, .f32⟩
  | 116 => ⟨S4x256, .f32⟩
  | 117 => ⟨S4x256, .f32⟩
  | 118 => ⟨S4x1x256x1, .f32⟩
  | 119 => ⟨S4x16x256x128, .f32⟩
  | 120 => ⟨S4x16x256x128, .f32⟩
  | 121 => ⟨S16x4x128x128, .f32⟩
  | 122 => ⟨S1x2048, .f32⟩
  | 123 => ⟨S4x2048, .f32⟩
  | 124 => ⟨S4x2048, .f32⟩
  | 125 => ⟨S4x2048, .f32⟩
  | 126 => ⟨S4x2048, .f32⟩
  | 127 => ⟨S1x4x2048x1, .f32⟩
  | _ => ⟨S1x8x15x31, .f32⟩

abbrev hbmTy0_1 (i : Nat) : BufTy := match i % 128 with
  | 0 => ⟨S16x4x2048x128, .f32⟩
  | 1 => ⟨S16x4x2048x128, .f32⟩
  | 2 => ⟨S1x4x2048x2048, .f32⟩
  | 3 => ⟨S16x4x2048x2048, .f32⟩
  | 4 => ⟨S16x4x2048x2048, .f32⟩
  | 5 => ⟨S16x4x2048x128, .f32⟩
  | 6 => ⟨S16x4x2048x128, .f32⟩
  | 7 => ⟨S16x4x2048x128, .f32⟩
  | 8 => ⟨S16x4x2048x128, .f32⟩
  | 9 => ⟨S16x4x2048x128, .f32⟩
  | 10 => ⟨S_, .f32⟩
  | 11 => ⟨S16x4x2048, .f32⟩
  | 12 => ⟨S16x4x2048x1, .f32⟩
  | 13 => ⟨S_, .f32⟩
  | 14 => ⟨S16x4x2048x1, .f32⟩
  | 15 => ⟨S16x4x2048x1, .f32⟩
  | 16 => ⟨S_, .f32⟩
  | 17 => ⟨S16x4x2048x1, .f32⟩
  | 18 => ⟨S16x4x2048x1, .f32⟩
  | 19 => ⟨S16x4x2048x1, .f32⟩
  | 20 => ⟨S16x4x2048x128, .f32⟩
  | 21 => ⟨S16x4x2048x128, .f32⟩
  | 22 => ⟨S512, .f32⟩
  | 23 => ⟨S4x1x128, .f32⟩
  | 24 => ⟨S1x4x1x128, .f32⟩
  | 25 => ⟨S16x4x2048x128, .f32⟩
  | 26 => ⟨S16x4x2048x128, .f32⟩
  | 27 => ⟨S16x4x2048x128, .f32⟩
  | 28 => ⟨S16x4x2048x128, .bf16⟩
  | _ => ⟨S1x8x15x31, .f32⟩

abbrev hbmTy (i : Nat) : BufTy := match i / 128 with
  | 0 => hbmTy0_0 i
  | 1 => hbmTy0_1 i
  | _ => ⟨S1x8x15x31, .f32⟩

abbrev bufTy : (tb : Table) → Fin (tcTables nBuf tb) → BufTy
  | .hbm, ⟨i, _⟩ => hbmTy i
  | _, _ => ⟨S1x8x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_0 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_1 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_4 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_5 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_6 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_7 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_8 : Ref sig .tc := ⟨.hbm, 138, rfl⟩
abbrev main_v115 : Ref sig .tc := ⟨.hbm, 139, rfl⟩
abbrev main_v116 : Ref sig .tc := ⟨.hbm, 140, rfl⟩
abbrev main_cst_9 : Ref sig .tc := ⟨.hbm, 141, rfl⟩
abbrev main_v117 : Ref sig .tc := ⟨.hbm, 142, rfl⟩
abbrev main_v118 : Ref sig .tc := ⟨.hbm, 143, rfl⟩
abbrev main_cst_10 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩

abbrev nD : Nat := 1
abbrev τ : Topo := Topo.v7x

variable {F : FTy → Type} [FloatOps F]
-- ==== InProj.lean ====
abbrev S16x2048x1024 : Shape := ⟨3, ![16, 2048, 1024]⟩
abbrev S16x1x1024 : Shape := ⟨3, ![16, 1, 1024]⟩
abbrev S1x1024 : Shape := ⟨2, ![1, 1024]⟩
abbrev S1x1024x4096 : Shape := ⟨3, ![1, 1024, 4096]⟩
abbrev S2048x64 : Shape := ⟨2, ![2048, 64]⟩
abbrev S1024x4096 : Shape := ⟨2, ![1024, 4096]⟩
abbrev S1024x512 : Shape := ⟨2, ![1024, 512]⟩
abbrev S512x1024 : Shape := ⟨2, ![512, 1024]⟩
abbrev S2048x128 : Shape := ⟨2, ![2048, 128]⟩
abbrev S1024 : Shape := ⟨1, ![1024]⟩
abbrev S16x28x2048x128 : Shape := ⟨4, ![16, 28, 2048, 128]⟩
abbrev S16x512x2048 : Shape := ⟨3, ![16, 512, 2048]⟩
abbrev S1x1024x1024 : Shape := ⟨3, ![1, 1024, 1024]⟩
abbrev S1x1x1024 : Shape := ⟨3, ![1, 1, 1024]⟩
abbrev S1024x128 : Shape := ⟨2, ![1024, 128]⟩
abbrev S1x28x1024x128 : Shape := ⟨4, ![1, 28, 1024, 128]⟩
abbrev S1x512x1024 : Shape := ⟨3, ![1, 512, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S512x256 : Shape := ⟨2, ![512, 256]⟩
abbrev S1x512x256 : Shape := ⟨3, ![1, 512, 256]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 20
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1x1024x4096, .f32⟩
  | .hbm, ⟨5, _⟩ => ⟨S2048x64, .f32⟩
  | .hbm, ⟨6, _⟩ => ⟨S2048x64, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x512, .f32⟩
  | .hbm, ⟨11, _⟩ => ⟨S512x1024, .f32⟩
  | .hbm, ⟨12, _⟩ => ⟨S512x1024, .bf16⟩
  | .hbm, ⟨13, _⟩ => ⟨S2048x128, .f32⟩
  | .hbm, ⟨14, _⟩ => ⟨S2048x64, .f32⟩
  | .hbm, ⟨15, _⟩ => ⟨S2048x128, .f32⟩
  | .hbm, ⟨16, _⟩ => ⟨S1024, .f32⟩
  | .hbm, ⟨17, _⟩ => ⟨S1x1024, .f32⟩
  | .hbm, ⟨18, _⟩ => ⟨S16x28x2048x128, .bf16⟩
  | .hbm, ⟨19, _⟩ => ⟨S16x512x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4096, .bf16⟩
  | .local _ .vmem, ⟨8, _⟩ => ⟨S512x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x28x1024x128, .bf16⟩
  | .local _ .vmem, ⟨14, _⟩ => ⟨S1x28x1024x128, .bf16⟩
  | .local _ .vmem, ⟨15, _⟩ => ⟨S1x512x1024, .bf16⟩
  | .local _ .vmem, ⟨16, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x28x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjIdeal.lean ====
abbrev S16x2048x1024 : Shape := ⟨3, ![16, 2048, 1024]⟩
abbrev S16x1x1024 : Shape := ⟨3, ![16, 1, 1024]⟩
abbrev S1x1024 : Shape := ⟨2, ![1, 1024]⟩
abbrev S1x1024x4096 : Shape := ⟨3, ![1, 1024, 4096]⟩
abbrev S2048x64 : Shape := ⟨2, ![2048, 64]⟩
abbrev S1024x4096 : Shape := ⟨2, ![1024, 4096]⟩
abbrev S1024x512 : Shape := ⟨2, ![1024, 512]⟩
abbrev S512x1024 : Shape := ⟨2, ![512, 1024]⟩
abbrev S2048x128 : Shape := ⟨2, ![2048, 128]⟩
abbrev S1024 : Shape := ⟨1, ![1024]⟩
abbrev S16x28x2048x128 : Shape := ⟨4, ![16, 28, 2048, 128]⟩
abbrev S16x512x2048 : Shape := ⟨3, ![16, 512, 2048]⟩
abbrev S1x1024x1024 : Shape := ⟨3, ![1, 1024, 1024]⟩
abbrev S1x1x1024 : Shape := ⟨3, ![1, 1, 1024]⟩
abbrev S1024x128 : Shape := ⟨2, ![1024, 128]⟩
abbrev S1x28x1024x128 : Shape := ⟨4, ![1, 28, 1024, 128]⟩
abbrev S1x512x1024 : Shape := ⟨3, ![1, 512, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S512x256 : Shape := ⟨2, ![512, 256]⟩
abbrev S1x512x256 : Shape := ⟨3, ![1, 512, 256]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 20
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1x1024x4096, .f32⟩
  | .hbm, ⟨5, _⟩ => ⟨S2048x64, .f32⟩
  | .hbm, ⟨6, _⟩ => ⟨S2048x64, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x512, .f32⟩
  | .hbm, ⟨11, _⟩ => ⟨S512x1024, .f32⟩
  | .hbm, ⟨12, _⟩ => ⟨S512x1024, .bf16⟩
  | .hbm, ⟨13, _⟩ => ⟨S2048x128, .f32⟩
  | .hbm, ⟨14, _⟩ => ⟨S2048x64, .f32⟩
  | .hbm, ⟨15, _⟩ => ⟨S2048x128, .f32⟩
  | .hbm, ⟨16, _⟩ => ⟨S1024, .f32⟩
  | .hbm, ⟨17, _⟩ => ⟨S1x1024, .f32⟩
  | .hbm, ⟨18, _⟩ => ⟨S16x28x2048x128, .bf16⟩
  | .hbm, ⟨19, _⟩ => ⟨S16x512x2048, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4096, .bf16⟩
  | .local _ .vmem, ⟨8, _⟩ => ⟨S512x1024, .bf16⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1x28x1024x128, .bf16⟩
  | .local _ .vmem, ⟨14, _⟩ => ⟨S1x28x1024x128, .bf16⟩
  | .local _ .vmem, ⟨15, _⟩ => ⟨S1x512x1024, .bf16⟩
  | .local _ .vmem, ⟨16, _⟩ => ⟨S1x512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x28x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InReferenceIdeal.lean ====
abbrev S16x2048x1024 : Shape := ⟨3, ![16, 2048, 1024]⟩
abbrev S16x1x1024 : Shape := ⟨3, ![16, 1, 1024]⟩
abbrev S1x1024 : Shape := ⟨2, ![1, 1024]⟩
abbrev S1x1024x4096 : Shape := ⟨3, ![1, 1024, 4096]⟩
abbrev S2048x64 : Shape := ⟨2, ![2048, 64]⟩
abbrev S_ : Shape := ⟨0, ![]⟩
abbrev S16x2048 : Shape := ⟨2, ![16, 2048]⟩
abbrev S16x2048x1 : Shape := ⟨3, ![16, 2048, 1]⟩
abbrev S1024 : Shape := ⟨1, ![1024]⟩
abbrev S1x1x1024 : Shape := ⟨3, ![1, 1, 1024]⟩
abbrev S1024x4096 : Shape := ⟨2, ![1024, 4096]⟩
abbrev S16x2048x4096 : Shape := ⟨3, ![16, 2048, 4096]⟩
abbrev S16x2048x512 : Shape := ⟨3, ![16, 2048, 512]⟩
abbrev S16x2048x4x128 : Shape := ⟨4, ![16, 2048, 4, 128]⟩
abbrev S16x4x2048x128 : Shape := ⟨4, ![16, 4, 2048, 128]⟩
abbrev S16x4x2048x64 : Shape := ⟨4, ![16, 4, 2048, 64]⟩
abbrev S1x1x2048x64 : Shape := ⟨4, ![1, 1, 2048, 64]⟩
abbrev S16x28x2048x128 : Shape := ⟨4, ![16, 28, 2048, 128]⟩
abbrev S16x512x2048 : Shape := ⟨3, ![16, 512, 2048]⟩

abbrev nBuf : Space → Nat
  | .hbm => 117
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1x1024x4096, .f32⟩
  | .hbm, ⟨5, _⟩ => ⟨S2048x64, .f32⟩
  | .hbm, ⟨6, _⟩ => ⟨S2048x64, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1024, .f32⟩
  | .hbm, ⟨21, _⟩ => ⟨S1x1x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x1x1024, .f32⟩
  | .hbm, ⟨26, _⟩ => ⟨S16x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1024x4096, .f32⟩
  | .hbm, ⟨32, _⟩ => ⟨S16x2048x4096, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S16x2048x512, .f32⟩
  | .hbm, ⟨40, _⟩ => ⟨S16x2048x512, .f32⟩
  | .hbm, ⟨41, _⟩ => ⟨S16x2048x4x128, .f32⟩
  | .hbm, ⟨42, _⟩ => ⟨S16x4x2048x128, .f32⟩
  | .hbm, ⟨43, _⟩ => ⟨S_, .f32⟩
  | .hbm, ⟨44, _⟩ => ⟨S16x4x2048x128, .f32⟩
  | .hbm, ⟨45, _⟩ => ⟨S16x4x2048x128, .f32⟩
  | .hbm, ⟨46, _⟩ => ⟨S16x2048x4x128, .f32⟩
  | .hbm, ⟨47, _⟩ => ⟨S16x4x2048x128, .f32⟩
  | .hbm, ⟨48, _⟩ => ⟨S16x4x2048x128, .f32⟩
  | .hbm, ⟨49, _⟩ => ⟨S16x4x2048x128, .f32⟩
  | .hbm, ⟨50, _⟩ => ⟨S_, .f32⟩
  | .hbm, ⟨51, _⟩ => ⟨S16x4x2048x128, .f32⟩
  | .hbm, ⟨52, _⟩ => ⟨S16x4x2048x128, .f32⟩
  | .hbm, ⟨53, _⟩ => ⟨S_, .f32⟩
  | .hbm, ⟨54, _⟩ => ⟨S16x4x2048x128, .f32⟩
  | .hbm, ⟨55, _⟩ => ⟨S16x4x2048x128, .f32⟩
  | .hbm, ⟨56, _⟩ => ⟨S16x4x2048x128, .f32⟩
  | .hbm, ⟨57, _⟩ => ⟨S16x2048x4x128, .f32⟩
  | .hbm, ⟨58, _⟩ => ⟨S16x4x2048x128, .f32⟩
  | .hbm, ⟨59, _⟩ => ⟨S16x4x2048x64, .f32⟩
  | .hbm, ⟨60, _⟩ => ⟨S16x4x2048x64, .f32⟩
  | .hbm, ⟨61, _⟩ => ⟨S1x1x2048x64, .f32⟩
  | .hbm, ⟨62, _⟩ => ⟨S16x4x2048x64, .f32⟩
  | .hbm, ⟨63, _⟩ => ⟨S16x4x2048x64, .f32⟩
  | .hbm, ⟨64, _⟩ => ⟨S1x1x2048x64, .f32⟩
  | .hbm, ⟨65, _⟩ => ⟨S16x4x2048x64, .f32⟩
  | .hbm, ⟨66, _⟩ => ⟨S16x4x2048x64, .f32⟩
  | .hbm, ⟨67, _⟩ => ⟨S16x4x2048x64, .f32⟩
  | .hbm, ⟨68, _⟩ => ⟨S1x1x2048x64, .f32⟩
  | .hbm, ⟨69, _⟩ => ⟨S16x4x2048x64, .f32⟩
  | .hbm, ⟨70, _⟩ => ⟨S16x4x2048x64, .f32⟩
  | .hbm, ⟨71, _⟩ => ⟨S1x1x2048x64, .f32⟩
  | .hbm, ⟨72, _⟩ => ⟨S16x4x2048x64, .f32⟩
  | .hbm, ⟨73, _⟩ => ⟨S16x4x2048x64, .f32⟩
  | .hbm, ⟨74, _⟩ => ⟨S16x4x2048x64, .f32⟩
  | .hbm, ⟨75, _⟩ => ⟨S16x4x2048x128, .f32⟩
  | .hbm, ⟨76, _⟩ => ⟨S16x2048x4x128, .f32⟩
  | .hbm, ⟨77, _⟩ => ⟨S16x4x2048x128, .f32⟩
  | .hbm, ⟨78, _⟩ => ⟨S16x4x2048x64, .f32⟩
  | .hbm, ⟨79, _⟩ => ⟨S16x4x2048x64, .f32⟩
  | .hbm, ⟨80, _⟩ => ⟨S1x1x2048x64, .f32⟩
  | .hbm, ⟨81, _⟩ => ⟨S16x4x2048x64, .f32⟩
  | .hbm, ⟨82, _⟩ => ⟨S16x4x2048x64, .f32⟩
  | .hbm, ⟨83, _⟩ => ⟨S1x1x2048x64, .f32⟩
  | .hbm, ⟨84, _⟩ => ⟨S16x4x2048x64, .f32⟩
  | .hbm, ⟨85, _⟩ => ⟨S16x4x2048x64, .f32⟩
  | .hbm, ⟨86, _⟩ => ⟨S16x4x2048x64, .f32⟩
  | .hbm, ⟨87, _⟩ => ⟨S1x1x2048x64, .f32⟩
  | .hbm, ⟨88, _⟩ => ⟨S16x4x2048x64, .f32⟩
  | .hbm, ⟨89, _⟩ => ⟨S16x4x2048x64, .f32⟩
  | .hbm, ⟨90, _⟩ => ⟨S1x1x2048x64, .f32⟩
  | .hbm, ⟨91, _⟩ => ⟨S16x4x2048x64, .f32⟩
  | .hbm, ⟨92, _⟩ => ⟨S16x4x2048x64, .f32⟩
  | .hbm, ⟨93, _⟩ => ⟨S16x4x2048x64, .f32⟩
  | .hbm, ⟨94, _⟩ => ⟨S16x4x2048x128, .f32⟩
  | .hbm, ⟨95, _⟩ => ⟨S_, .f32⟩
  | .hbm, ⟨96, _⟩ => ⟨S16x4x2048x128, .f32⟩
  | .hbm, ⟨97, _⟩ => ⟨S16x4x2048x128, .f32⟩
  | .hbm, ⟨98, _⟩ => ⟨S16x2048x4x128, .f32⟩
  | .hbm, ⟨99, _⟩ => ⟨S16x4x2048x128, .f32⟩
  | .hbm, ⟨100, _⟩ => ⟨S16x4x2048x128, .f32⟩
  | .hbm, ⟨101, _⟩ => ⟨S16x4x2048x128, .f32⟩
  | .hbm, ⟨102, _⟩ => ⟨S_, .f32⟩
  | .hbm, ⟨103, _⟩ => ⟨S16x4x2048x128, .f32⟩
  | .hbm, ⟨104, _⟩ => ⟨S16x4x2048x128, .f32⟩
  | .hbm, ⟨105, _⟩ => ⟨S_, .f32⟩
  | .hbm, ⟨106, _⟩ => ⟨S16x4x2048x128, .f32⟩
  | .hbm, ⟨107, _⟩ => ⟨S16x4x2048x128, .f32⟩
  | .hbm, ⟨108, _⟩ => ⟨S16x4x2048x128, .f32⟩
  | .hbm, ⟨109, _⟩ => ⟨S16x2048x4x128, .f32⟩
  | .hbm, ⟨110, _⟩ => ⟨S16x4x2048x128, .f32⟩
  | .hbm, ⟨111, _⟩ => ⟨S16x2048x4x128, .f32⟩
  | .hbm, ⟨112, _⟩ => ⟨S16x4x2048x128, .f32⟩
  | .hbm, ⟨113, _⟩ => ⟨S16x28x2048x128, .f32⟩
  | .hbm, ⟨114, _⟩ => ⟨S16x28x2048x128, .bf16⟩
  | .hbm, ⟨115, _⟩ => ⟨S16x512x2048, .f32⟩
  | .hbm, ⟨116, _⟩ => ⟨S16x512x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_4 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== CtxProj.lean ====
abbrev S16x256x1024 : Shape := ⟨3, ![16, 256, 1024]⟩
abbrev S1x1x1024 : Shape := ⟨3, ![1, 1, 1024]⟩
abbrev S1x1024 : Shape := ⟨2, ![1, 1024]⟩
abbrev S1x1024x4096 : Shape := ⟨3, ![1, 1024, 4096]⟩
abbrev S2048x64 : Shape := ⟨2, ![2048, 64]⟩
abbrev S1024x4096 : Shape := ⟨2, ![1024, 4096]⟩
abbrev S1024x512 : Shape := ⟨2, ![1024, 512]⟩
abbrev S512x1024 : Shape := ⟨2, ![512, 1024]⟩
abbrev S2048x128 : Shape := ⟨2, ![2048, 128]⟩
abbrev S1x4096x1024 : Shape := ⟨3, ![1, 4096, 1024]⟩
abbrev S1024 : Shape := ⟨1, ![1024]⟩
abbrev S1x12x4096x128 : Shape := ⟨4, ![1, 12, 4096, 128]⟩
abbrev S1x512x4096 : Shape := ⟨3, ![1, 512, 4096]⟩
abbrev S1x1024x1024 : Shape := ⟨3, ![1, 1024, 1024]⟩
abbrev S1024x128 : Shape := ⟨2, ![1024, 128]⟩
abbrev S1x12x1024x128 : Shape := ⟨4, ![1, 12, 1024, 128]⟩
abbrev S1x512x1024 : Shape := ⟨3, ![1, 512, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S512x256 : Shape := ⟨2, ![512, 256]⟩
abbrev S1x512x256 : Shape := ⟨3, ![1, 512, 256]⟩
abbrev S256x512 : Shape := ⟨2, ![256, 512]⟩
abbrev S256x128 : Shape := ⟨2, ![256, 128]⟩
abbrev S1x1x256x128 : Shape := ⟨4, ![1, 1, 256, 128]⟩

abbrev nBuf : Space → Nat
  | .hbm => 21
  | .vmem => 13
  | .smem => 0
  | _ => 0

abbrev bufTy : (tb : Table) → Fin (tcTables nBuf tb) → BufTy
  | .hbm, ⟨0, _⟩ => ⟨S16x256x1024, .f32⟩
  | .hbm, ⟨1, _⟩ => ⟨S1x1x1024, .f32⟩
  | .hbm, ⟨2, _⟩ => ⟨S1x1x1024, .f32⟩
  | .hbm, ⟨3, _⟩ => ⟨S1x1024, .f32⟩
  | .hbm, ⟨4, _⟩ => ⟨S1x1024x4096, .f32⟩
  | .hbm, ⟨5, _⟩ => ⟨S2048x64, .f32⟩
  | .hbm, ⟨6, _⟩ => ⟨S2048x64, .f32⟩
  | .hbm, ⟨7, _⟩ => ⟨S1024x4096, .f32⟩
  | .hbm, ⟨8, _⟩ => ⟨S1024x4096, .bf16⟩
  | .hbm, ⟨9, _⟩ => ⟨S1024x4096, .f32⟩
  | .hbm, ⟨10, _⟩ => ⟨S1024x512, .f32⟩
  | .hbm, ⟨11, _⟩ => ⟨S512x1024, .f32⟩
  | .hbm, ⟨12, _⟩ => ⟨S512x1024, .bf16⟩
  | .hbm, ⟨13, _⟩ => ⟨S2048x128, .f32⟩
  | .hbm, ⟨14, _⟩ => ⟨S2048x64, .f32⟩
  | .hbm, ⟨15, _⟩ => ⟨S2048x128, .f32⟩
  | .hbm, ⟨16, _⟩ => ⟨S1x4096x1024, .f32⟩
  | .hbm, ⟨17, _⟩ => ⟨S1024, .f32⟩
  | .hbm, ⟨18, _⟩ => ⟨S1x1024, .f32⟩
  | .hbm, ⟨19, _⟩ => ⟨S1x12x4096x128, .bf16⟩
  | .hbm, ⟨20, _⟩ => ⟨S1x512x4096, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x4096, .bf16⟩
  | .local _ .vmem, ⟨6, _⟩ => ⟨S512x1024, .bf16⟩
  | .local _ .vmem, ⟨7, _⟩ => ⟨S1024x128, .f32⟩
  | .local _ .vmem, ⟨8, _⟩ => ⟨S1024x128, .f32⟩
  | .local _ .vmem, ⟨9, _⟩ => ⟨S1x12x1024x128, .bf16⟩
  | .local _ .vmem, ⟨10, _⟩ => ⟨S1x12x1024x128, .bf16⟩
  | .local _ .vmem, ⟨11, _⟩ => ⟨S1x512x1024, .bf16⟩
  | .local _ .vmem, ⟨12, _⟩ => ⟨S1x512x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x12x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CtxReferenceIdeal.lean ====
abbrev S16x256x1024 : Shape := ⟨3, ![16, 256, 1024]⟩
abbrev S1x1x1024 : Shape := ⟨3, ![1, 1, 1024]⟩
abbrev S1x1024 : Shape := ⟨2, ![1, 1024]⟩
abbrev S1x1024x4096 : Shape := ⟨3, ![1, 1024, 4096]⟩
abbrev S2048x64 : Shape := ⟨2, ![2048, 64]⟩
abbrev S_ : Shape := ⟨0, ![]⟩
abbrev S16x256 : Shape := ⟨2, ![16, 256]⟩
abbrev S16x256x1 : Shape := ⟨3, ![16, 256, 1]⟩
abbrev S1024 : Shape := ⟨1, ![1024]⟩
abbrev S1x4096x1024 : Shape := ⟨3, ![1, 4096, 1024]⟩
abbrev S1024x4096 : Shape := ⟨2, ![1024, 4096]⟩
abbrev S1x4096x4096 : Shape := ⟨3, ![1, 4096, 4096]⟩
abbrev S1x4096x512 : Shape := ⟨3, ![1, 4096, 512]⟩
abbrev S1x4096x4x128 : Shape := ⟨4, ![1, 4096, 4, 128]⟩
abbrev S1x4x4096x128 : Shape := ⟨4, ![1, 4, 4096, 128]⟩
abbrev S1x12x4096x128 : Shape := ⟨4, ![1, 12, 4096, 128]⟩
abbrev S1x512x4096 : Shape := ⟨3, ![1, 512, 4096]⟩

abbrev nBuf : Space → Nat
  | .hbm => 55
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1x1024, .f32⟩
  | .hbm, ⟨2, _⟩ => ⟨S1x1x1024, .f32⟩
  | .hbm, ⟨3, _⟩ => ⟨S1x1024, .f32⟩
  | .hbm, ⟨4, _⟩ => ⟨S1x1024x4096, .f32⟩
  | .hbm, ⟨5, _⟩ => ⟨S2048x64, .f32⟩
  | .hbm, ⟨6, _⟩ => ⟨S2048x64, .f32⟩
  | .hbm, ⟨7, _⟩ => ⟨S16x256x1024, .f32⟩
  | .hbm, ⟨8, _⟩ => ⟨S_, .f32⟩
  | .hbm, ⟨9, _⟩ => ⟨S16x256, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x1, .f32⟩
  | .hbm, ⟨18, _⟩ => ⟨S16x256x1024, .f32⟩
  | .hbm, ⟨19, _⟩ => ⟨S16x256x1024, .f32⟩
  | .hbm, ⟨20, _⟩ => ⟨S1024, .f32⟩
  | .hbm, ⟨21, _⟩ => ⟨S1x1x1024, .f32⟩
  | .hbm, ⟨22, _⟩ => ⟨S16x256x1024, .f32⟩
  | .hbm, ⟨23, _⟩ => ⟨S16x256x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S16x256x1024, .f32⟩
  | .hbm, ⟨30, _⟩ => ⟨S16x256x1024, .f32⟩
  | .hbm, ⟨31, _⟩ => ⟨S1x4096x1024, .f32⟩
  | .hbm, ⟨32, _⟩ => ⟨S1024x4096, .f32⟩
  | .hbm, ⟨33, _⟩ => ⟨S1x4096x4096, .f32⟩
  | .hbm, ⟨34, _⟩ => ⟨S1x4096x512, .f32⟩
  | .hbm, ⟨35, _⟩ => ⟨S1x4096x512, .f32⟩
  | .hbm, ⟨36, _⟩ => ⟨S1x4096x512, .f32⟩
  | .hbm, ⟨37, _⟩ => ⟨S1x4096x512, .f32⟩
  | .hbm, ⟨38, _⟩ => ⟨S1x4096x512, .f32⟩
  | .hbm, ⟨39, _⟩ => ⟨S1x4096x512, .f32⟩
  | .hbm, ⟨40, _⟩ => ⟨S1x4096x512, .f32⟩
  | .hbm, ⟨41, _⟩ => ⟨S1x4096x512, .f32⟩
  | .hbm, ⟨42, _⟩ => ⟨S1x4096x4x128, .f32⟩
  | .hbm, ⟨43, _⟩ => ⟨S1x4x4096x128, .f32⟩
  | .hbm, ⟨44, _⟩ => ⟨S1x4096x4x128, .f32⟩
  | .hbm, ⟨45, _⟩ => ⟨S1x4x4096x128, .f32⟩
  | .hbm, ⟨46, _⟩ => ⟨S_, .f32⟩
  | .hbm, ⟨47, _⟩ => ⟨S1x4x4096x128, .f32⟩
  | .hbm, ⟨48, _⟩ => ⟨S1x4x4096x128, .f32⟩
  | .hbm, ⟨49, _⟩ => ⟨S1x4096x4x128, .f32⟩
  | .hbm, ⟨50, _⟩ => ⟨S1x4x4096x128, .f32⟩
  | .hbm, ⟨51, _⟩ => ⟨S1x12x4096x128, .f32⟩
  | .hbm, ⟨52, _⟩ => ⟨S1x12x4096x128, .bf16⟩
  | .hbm, ⟨53, _⟩ => ⟨S1x512x4096, .f32⟩
  | .hbm, ⟨54, _⟩ => ⟨S1x512x4096, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== OutProj.lean ====
abbrev S16x2048x1024 : Shape := ⟨3, ![16, 2048, 1024]⟩
abbrev S16x1x1024 : Shape := ⟨3, ![16, 1, 1024]⟩
abbrev S16x4x2048x128 : Shape := ⟨4, ![16, 4, 2048, 128]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S1x2048x1024 : Shape := ⟨3, ![1, 2048, 1024]⟩
abbrev S1x1x1024 : Shape := ⟨3, ![1, 1, 1024]⟩
abbrev S1x4x2048x128 : Shape := ⟨4, ![1, 4, 2048, 128]⟩
abbrev S1x1x256x128 : Shape := ⟨4, ![1, 1, 256, 128]⟩
abbrev S256x128 : Shape := ⟨2, ![256, 128]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x4x2048x128, .bf16⟩
  | .hbm, ⟨3, _⟩ => ⟨S16x4x2048x128, .bf16⟩
  | .hbm, ⟨4, _⟩ => ⟨S1x1024x1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S16x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x4x2048x128, .bf16⟩
  | .local _ .vmem, ⟨5, _⟩ => ⟨S1x4x2048x128, .bf16⟩
  | .local _ .vmem, ⟨6, _⟩ => ⟨S1x4x2048x128, .bf16⟩
  | .local _ .vmem, ⟨7, _⟩ => ⟨S1x4x2048x128, .bf16⟩
  | .local _ .vmem, ⟨8, _⟩ => ⟨S1024x1024, .bf16⟩
  | .local _ .vmem, ⟨9, _⟩ => ⟨S1x1024, .f32⟩
  | .local _ .vmem, ⟨10, _⟩ => ⟨S1x2048x1024, .f32⟩
  | .local _ .vmem, ⟨11, _⟩ => ⟨S1x2048x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutReferenceIdeal.lean ====
abbrev S16x2048x1024 : Shape := ⟨3, ![16, 2048, 1024]⟩
abbrev S16x1x1024 : Shape := ⟨3, ![16, 1, 1024]⟩
abbrev S16x4x2048x128 : Shape := ⟨4, ![16, 4, 2048, 128]⟩
abbrev S1x1024x1024 : Shape := ⟨3, ![1, 1024, 1024]⟩
abbrev S1024 : Shape := ⟨1, ![1024]⟩
abbrev S16x2048x4x128 : Shape := ⟨4, ![16, 2048, 4, 128]⟩
abbrev S16x2048x512 : Shape := ⟨3, ![16, 2048, 512]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x1x1024, .f32⟩
  | .hbm, ⟨2, _⟩ => ⟨S16x4x2048x128, .bf16⟩
  | .hbm, ⟨3, _⟩ => ⟨S16x4x2048x128, .bf16⟩
  | .hbm, ⟨4, _⟩ => ⟨S1x1024x1024, .f32⟩
  | .hbm, ⟨5, _⟩ => ⟨S1024, .f32⟩
  | .hbm, ⟨6, _⟩ => ⟨S16x4x2048x128, .f32⟩
  | .hbm, ⟨7, _⟩ => ⟨S16x2048x4x128, .f32⟩
  | .hbm, ⟨8, _⟩ => ⟨S16x2048x512, .f32⟩
  | .hbm, ⟨9, _⟩ => ⟨S16x4x2048x128, .f32⟩
  | .hbm, ⟨10, _⟩ => ⟨S16x2048x4x128, .f32⟩
  | .hbm, ⟨11, _⟩ => ⟨S16x2048x512, .f32⟩
  | .hbm, ⟨12, _⟩ => ⟨S16x2048x1024, .f32⟩
  | .hbm, ⟨13, _⟩ => ⟨S1024x1024, .f32⟩
  | .hbm, ⟨14, _⟩ => ⟨S16x2048x1024, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Prep.lean ====
abbrev S16x1024 : Shape := ⟨2, ![16, 1024]⟩
abbrev S1024 : Shape := ⟨1, ![1024]⟩
abbrev S1x1024x3072 : Shape := ⟨3, ![1, 1024, 3072]⟩
abbrev S1x3072 : Shape := ⟨2, ![1, 3072]⟩
abbrev S1x1024x4096 : Shape := ⟨3, ![1, 1024, 4096]⟩
abbrev S1x1024 : Shape := ⟨2, ![1, 1024]⟩
abbrev S17x1024 : Shape := ⟨2, ![17, 1024]⟩
abbrev S_ : Shape := ⟨0, ![]⟩
abbrev S32x1024 : Shape := ⟨2, ![32, 1024]⟩
abbrev S1024x3072 : Shape := ⟨2, ![1024, 3072]⟩
abbrev S3072 : Shape := ⟨1, ![3072]⟩
abbrev S1024x4096 : Shape := ⟨2, ![1024, 4096]⟩
abbrev S32x3072 : Shape := ⟨2, ![32, 3072]⟩
abbrev S512x1024 : Shape := ⟨2, ![512, 1024]⟩
abbrev S1024x384 : Shape := ⟨2, ![1024, 384]⟩
abbrev S1x384 : Shape := ⟨2, ![1, 384]⟩
abbrev S128x4096 : Shape := ⟨2, ![128, 4096]⟩
abbrev S32x384 : Shape := ⟨2, ![32, 384]⟩
abbrev S512x128 : Shape := ⟨2, ![512, 128]⟩
abbrev S64x1024 : Shape := ⟨2, ![64, 1024]⟩
abbrev S64x384 : Shape := ⟨2, ![64, 384]⟩
abbrev S128x512 : Shape := ⟨2, ![128, 512]⟩

abbrev nBuf : Space → Nat
  | .hbm => 17
  | .vmem => 13
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1x1024x3072, .f32⟩
  | .hbm, ⟨3, _⟩ => ⟨S1x3072, .f32⟩
  | .hbm, ⟨4, _⟩ => ⟨S1x1024x4096, .f32⟩
  | .hbm, ⟨5, _⟩ => ⟨S1x1024, .f32⟩
  | .hbm, ⟨6, _⟩ => ⟨S17x1024, .f32⟩
  | .hbm, ⟨7, _⟩ => ⟨S_, .i32⟩
  | .hbm, ⟨8, _⟩ => ⟨S_, .f32⟩
  | .hbm, ⟨9, _⟩ => ⟨S32x1024, .f32⟩
  | .hbm, ⟨10, _⟩ => ⟨S1024x3072, .f32⟩
  | .hbm, ⟨11, _⟩ => ⟨S3072, .f32⟩
  | .hbm, ⟨12, _⟩ => ⟨S1024x4096, .f32⟩
  | .hbm, ⟨13, _⟩ => ⟨S1x3072, .f32⟩
  | .hbm, ⟨14, _⟩ => ⟨S32x3072, .f32⟩
  | .hbm, ⟨15, _⟩ => ⟨S1024x4096, .bf16⟩
  | .hbm, ⟨16, _⟩ => ⟨S512x1024, .bf16⟩
  | .local _ .vmem, ⟨0, _⟩ => ⟨S32x1024, .f32⟩
  | .local _ .vmem, ⟨1, _⟩ => ⟨S1024x384, .f32⟩
  | .local _ .vmem, ⟨2, _⟩ => ⟨S1024x384, .f32⟩
  | .local _ .vmem, ⟨3, _⟩ => ⟨S1x384, .f32⟩
  | .local _ .vmem, ⟨4, _⟩ => ⟨S1x384, .f32⟩
  | .local _ .vmem, ⟨5, _⟩ => ⟨S128x4096, .f32⟩
  | .local _ .vmem, ⟨6, _⟩ => ⟨S128x4096, .f32⟩
  | .local _ .vmem, ⟨7, _⟩ => ⟨S32x384, .f32⟩
  | .local _ .vmem, ⟨8, _⟩ => ⟨S32x384, .f32⟩
  | .local _ .vmem, ⟨9, _⟩ => ⟨S128x4096, .bf16⟩
  | .local _ .vmem, ⟨10, _⟩ => ⟨S128x4096, .bf16⟩
  | .local _ .vmem, ⟨11, _⟩ => ⟨S512x128, .bf16⟩
  | .local _ .vmem, ⟨12, _⟩ => ⟨S512x128, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdaReferenceIdeal.lean ====
abbrev S16x1024 : Shape := ⟨2, ![16, 1024]⟩
abbrev S1024 : Shape := ⟨1, ![1024]⟩
abbrev S1x1024x3072 : Shape := ⟨3, ![1, 1024, 3072]⟩
abbrev S1x3072 : Shape := ⟨2, ![1, 3072]⟩
abbrev S1x1024x4096 : Shape := ⟨3, ![1, 1024, 4096]⟩
abbrev S1x1024 : Shape := ⟨2, ![1, 1024]⟩
abbrev S_ : Shape := ⟨0, ![]⟩
abbrev S15x1024 : Shape := ⟨2, ![15, 1024]⟩
abbrev S32x1024 : Shape := ⟨2, ![32, 1024]⟩
abbrev S1024x3072 : Shape := ⟨2, ![1024, 3072]⟩
abbrev S32x3072 : Shape := ⟨2, ![32, 3072]⟩
abbrev S3072 : Shape := ⟨1, ![3072]⟩
abbrev S1024x4096 : Shape := ⟨2, ![1024, 4096]⟩
abbrev S1024x512 : Shape := ⟨2, ![1024, 512]⟩
abbrev S512x1024 : Shape := ⟨2, ![512, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S1x1024x3072, .f32⟩
  | .hbm, ⟨3, _⟩ => ⟨S1x3072, .f32⟩
  | .hbm, ⟨4, _⟩ => ⟨S1x1024x4096, .f32⟩
  | .hbm, ⟨5, _⟩ => ⟨S1x1024, .f32⟩
  | .hbm, ⟨6, _⟩ => ⟨S_, .f32⟩
  | .hbm, ⟨7, _⟩ => ⟨S15x1024, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S_, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S1024x3072, .f32⟩
  | .hbm, ⟨19, _⟩ => ⟨S32x3072, .f32⟩
  | .hbm, ⟨20, _⟩ => ⟨S3072, .f32⟩
  | .hbm, ⟨21, _⟩ => ⟨S1x3072, .f32⟩
  | .hbm, ⟨22, _⟩ => ⟨S32x3072, .f32⟩
  | .hbm, ⟨23, _⟩ => ⟨S32x3072, .f32⟩
  | .hbm, ⟨24, _⟩ => ⟨S1024x4096, .f32⟩
  | .hbm, ⟨25, _⟩ => ⟨S1024x512, .f32⟩
  | .hbm, ⟨26, _⟩ => ⟨S1024x4096, .f32⟩
  | .hbm, ⟨27, _⟩ => ⟨S1024x4096, .bf16⟩
  | .hbm, ⟨28, _⟩ => ⟨S512x1024, .f32⟩
  | .hbm, ⟨29, _⟩ => ⟨S512x1024, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩

abbrev nD : Nat := 1
abbrev τ : Topo := Topo.v7x

variable {F : FTy → Type} [FloatOps F]
-- ==== Proof.MixSpec.lean ====
module

public import proofs.«01_k».proof.Proof.Gen.KernelIdeal.Skeleton
public import proofs.«01_k».proof.Proof.Gen.KernelIdeal.Launch
public import Idealize.ShloMosaic.Lib.Tactic

@[expose] public section

set_option maxRecDepth 16384

noncomputable section

namespace Cert.Mix

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`, -/
abbrev Bf (c : Dev nD) {sp : Space} {S : Shape} {e : EltTy} (M : Memref sig .tc sp S e) : Type := Buf (Elt F) (M.view.loc (c : Thread nD τ))
/-- and it held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body does on core `c` with the memrefs it is called with: from the inputs' contents, whatever the two outputs
    and the scratch hold, it leaves the inputs as they were and `W` in the second output. -/
def Spec (c : Dev nD) (i : grid0.Coords)
    (M2 : Memref sig .tc .smem S3720 .f32) (h2 : M2.IsWhole) (M3 : Memref sig .tc .smem S2x4 .f32) (h3 : M3.IsWhole)
    (M4 : Memref sig .tc .vmem S2x1x2048x128 .bf16) (h4 : M4.IsWhole) (M5 : Memref sig .tc .vmem S2x1x2048x128 .bf16) (h5 : M5.IsWhole)
    (M6 : Memref sig .tc .vmem S2x128x2048 .bf16) (h6 : M6.IsWhole) (M7 : Memref sig .tc .vmem S2x1x2048x128 .bf16) (h7 : M7.IsWhole)
    (M8 : Memref sig .tc .vmem S1x1x512x128 .bf16) (h8 : M8.IsWhole) (M9 : Memref sig .tc .vmem S1x128x512 .bf16) (h9 : M9.IsWhole)
    (M10 : Memref sig .tc .vmem S2x1x2048x128 .bf16) (h10 : M10.IsWhole) (M11 : Memref sig .tc .vmem S2x1x2048x128 .bf16) (h11 : M11.IsWhole)
    (M12 : Memref sig .tc .vmem S2x1x2048x128 .bf16) (h12 : M12.IsWhole) (M13 : Memref sig .tc .vmem S2x1x2048x128 .bf16) (h13 : M13.IsWhole)
    (M14 : Memref sig .tc .vmem S1x1x512x128 .bf16) (h14 : M14.IsWhole) (M15 : Memref sig .tc .vmem S1x1x512x128 .bf16) (h15 : M15.IsWhole)
    (M16 : Memref sig .tc .vmem S1x128 .f32) (h16 : M16.IsWhole) (M17 : Memref sig .tc .vmem S2x1x2048x128 .bf16) (h17 : M17.IsWhole)
    (M18 : Memref sig .tc .vmem S2x1x2048x128 .bf16) (h18 : M18.IsWhole) (M19 : Memref sig .tc .vmem S3x2x768x256 .f32) (h19 : M19.IsWhole)
    (M20 : Memref sig .tc .vmem S15x64x128 .f32) (h20 : M20.IsWhole) (M21 : Memref sig .tc .vmem S2x2x80x2048 .bf16) (h21 : M21.IsWhole)
    (M22 : Memref sig .tc .vmem S2x2x80x256 .bf16) (h22 : M22.IsWhole) (M23 : Memref sig .tc .vmem S2x8x128x256 .f32) (h23 : M23.IsWhole)
    (M24 : Memref sig .tc .vmem S2x8x128x256 .bf16) (h24 : M24.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (W : Bf (F := F) c M18) : Prop :=
  ∀ (f17 : Bf (F := F) c M17) (f18 : Bf (F := F) c M18) (f19 : Bf (F := F) c M19) (f20 : Bf (F := F) c M20) (f21 : Bf (F := F) c M21) (f22 : Bf (F := F) c M22) (f23 : Bf (F := F) c M23) (f24 : Bf (F := F) c M24) (E : Set ℕ) (Q : PUnit → sProp 𝕄),
    iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24
      ∗ (iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16
          ∗ (∃ f, pt c M17 f) ∗ pt c M18 W ∗ (∃ f, pt c M19 f) ∗ (∃ f, pt c M20 f) ∗ (∃ f, pt c M21 f) ∗ (∃ f, pt c M22 f) ∗ (∃ f, pt c M23 f) ∗ (∃ f, pt c M24 f)) -∗ Q ⟨⟩))
    ⊢ wp frame (wpE (defs₀ (F := F)) Variants.none c none) E
        (cc0_mixers i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24) Q

end Cert.Mix

end
-- ==== Proof.MixRunA.lean ====
module

public import proofs.«01_k».proof.Proof.MixSpec

@[expose] public section

set_option maxRecDepth 16384

noncomputable section

namespace Cert.Mix

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.squeezeSlice true in
/-- The body at a point that builds the bias tables first. -/
noncomputable def kernelRunA (c : Dev nD) (i : grid0.Coords)
    (M2 : Memref sig .tc .smem S3720 .f32) (h2 : M2.IsWhole) (M3 : Memref sig .tc .smem S2x4 .f32) (h3 : M3.IsWhole)
    (M4 : Memref sig .tc .vmem S2x1x2048x128 .bf16) (h4 : M4.IsWhole) (M5 : Memref sig .tc .vmem S2x1x2048x128 .bf16) (h5 : M5.IsWhole)
    (M6 : Memref sig .tc .vmem S2x128x2048 .bf16) (h6 : M6.IsWhole) (M7 : Memref sig .tc .vmem S2x1x2048x128 .bf16) (h7 : M7.IsWhole)
    (M8 : Memref sig .tc .vmem S1x1x512x128 .bf16) (h8 : M8.IsWhole) (M9 : Memref sig .tc .vmem S1x128x512 .bf16) (h9 : M9.IsWhole)
    (M10 : Memref sig .tc .vmem S2x1x2048x128 .bf16) (h10 : M10.IsWhole) (M11 : Memref sig .tc .vmem S2x1x2048x128 .bf16) (h11 : M11.IsWhole)
    (M12 : Memref sig .tc .vmem S2x1x2048x128 .bf16) (h12 : M12.IsWhole) (M13 : Memref sig .tc .vmem S2x1x2048x128 .bf16) (h13 : M13.IsWhole)
    (M14 : Memref sig .tc .vmem S1x1x512x128 .bf16) (h14 : M14.IsWhole) (M15 : Memref sig .tc .vmem S1x1x512x128 .bf16) (h15 : M15.IsWhole)
    (M16 : Memref sig .tc .vmem S1x128 .f32) (h16 : M16.IsWhole) (M17 : Memref sig .tc .vmem S2x1x2048x128 .bf16) (h17 : M17.IsWhole)
    (M18 : Memref sig .tc .vmem S2x1x2048x128 .bf16) (h18 : M18.IsWhole) (M19 : Memref sig .tc .vmem S3x2x768x256 .f32) (h19 : M19.IsWhole)
    (M20 : Memref sig .tc .vmem S15x64x128 .f32) (h20 : M20.IsWhole) (M21 : Memref sig .tc .vmem S2x2x80x2048 .bf16) (h21 : M21.IsWhole)
    (M22 : Memref sig .tc .vmem S2x2x80x256 .bf16) (h22 : M22.IsWhole) (M23 : Memref sig .tc .vmem S2x8x128x256 .f32) (h23 : M23.IsWhole)
    (M24 : Memref sig .tc .vmem S2x8x128x256 .bf16) (h24 : M24.IsWhole)
    (hc : k0_cond1 i = 1#1)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M18 // Spec c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14 f15 f16 W } := by
  refine ⟨?_, ?run⟩
  case run =>
    intro f17 f18 f19 f20 f21 f22 f23 f24 E Q
    iintro ⟨H2, H3, H4, H5, H6, H7, H8, H9, H10, H11, H12, H13, H14, H15, H16, H17, H18, H19, H20, H21, H22, H23, H24, Hk⟩
    sl_exec_parts! (disch := first | sl_exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.Mix

end
-- ==== Proof.MixRunB.lean ====
module

public import proofs.«01_k».proof.Proof.MixSpec

@[expose] public section

set_option maxRecDepth 16384

noncomputable section

namespace Cert.Mix

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option sl_exec.squeezeSlice true in
/-- The body at a point that does not build the bias tables. -/
noncomputable def kernelRunB (c : Dev nD) (i : grid0.Coords)
    (M2 : Memref sig .tc .smem S3720 .f32) (h2 : M2.IsWhole) (M3 : Memref sig .tc .smem S2x4 .f32) (h3 : M3.IsWhole)
    (M4 : Memref sig .tc .vmem S2x1x2048x128 .bf16) (h4 : M4.IsWhole) (M5 : Memref sig .tc .vmem S2x1x2048x128 .bf16) (h5 : M5.IsWhole)
    (M6 : Memref sig .tc .vmem S2x128x2048 .bf16) (h6 : M6.IsWhole) (M7 : Memref sig .tc .vmem S2x1x2048x128 .bf16) (h7 : M7.IsWhole)
    (M8 : Memref sig .tc .vmem S1x1x512x128 .bf16) (h8 : M8.IsWhole) (M9 : Memref sig .tc .vmem S1x128x512 .bf16) (h9 : M9.IsWhole)
    (M10 : Memref sig .tc .vmem S2x1x2048x128 .bf16) (h10 : M10.IsWhole) (M11 : Memref sig .tc .vmem S2x1x2048x128 .bf16) (h11 : M11.IsWhole)
    (M12 : Memref sig .tc .vmem S2x1x2048x128 .bf16) (h12 : M12.IsWhole) (M13 : Memref sig .tc .vmem S2x1x2048x128 .bf16) (h13 : M13.IsWhole)
    (M14 : Memref sig .tc .vmem S1x1x512x128 .bf16) (h14 : M14.IsWhole) (M15 : Memref sig .tc .vmem S1x1x512x128 .bf16) (h15 : M15.IsWhole)
    (M16 : Memref sig .tc .vmem S1x128 .f32) (h16 : M16.IsWhole) (M17 : Memref sig .tc .vmem S2x1x2048x128 .bf16) (h17 : M17.IsWhole)
    (M18 : Memref sig .tc .vmem S2x1x2048x128 .bf16) (h18 : M18.IsWhole) (M19 : Memref sig .tc .vmem S3x2x768x256 .f32) (h19 : M19.IsWhole)
    (M20 : Memref sig .tc .vmem S15x64x128 .f32) (h20 : M20.IsWhole) (M21 : Memref sig .tc .vmem S2x2x80x2048 .bf16) (h21 : M21.IsWhole)
    (M22 : Memref sig .tc .vmem S2x2x80x256 .bf16) (h22 : M22.IsWhole) (M23 : Memref sig .tc .vmem S2x8x128x256 .f32) (h23 : M23.IsWhole)
    (M24 : Memref sig .tc .vmem S2x8x128x256 .bf16) (h24 : M24.IsWhole)
    (hc : ¬ k0_cond1 i = 1#1)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    { W : Bf (F := F) c M18 // Spec c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 f2 f3 f4 f5 f6 f7 f8 f9 f10 f11 f12 f13 f14 f15 f16 W } := by
  refine ⟨?_, ?run⟩
  case run =>
    intro f17 f18 f19 f20 f21 f22 f23 f24 E Q
    iintro ⟨H2, H3, H4, H5, H6, H7, H8, H9, H10, H11, H12, H13, H14, H15, H16, H17, H18, H19, H20, H21, H22, H23, H24, Hk⟩
    sl_exec_parts! (disch := first | sl_exact hc)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.Mix

end
-- ==== Proof.MixLaunch.lean ====
module

public import proofs.«01_k».proof.Proof.MixRunA
public import proofs.«01_k».proof.Proof.MixRunB
public import proofs.«01_k».proof.Proof.Gen.KernelIdeal.Frame

@[expose] public section

set_option maxRecDepth 16384

noncomputable section

/-!
The mixers' launch, over any float values: each grid point finds its blocks of the arrays in the staging buffers and
leaves the retention's block in window 16 (`tile`); what it leaves in window 15 (the attention's block) is not named.
-/

namespace Cert.Mix

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with at a point -/

abbrev ms2 (t : Fin cfg0.N) : Memref sig .tc .smem S3720 .f32 := win0_0.stage (cfg0.slots t 0)
theorem hs2 (t : Fin cfg0.N) : (ms2 t).IsWhole := hstage0_0 ((cfg0.slots t 0).cast nbuf0_0)
abbrev ms3 (t : Fin cfg0.N) : Memref sig .tc .smem S2x4 .f32 := win0_1.stage (cfg0.slots t 1)
theorem hs3 (t : Fin cfg0.N) : (ms3 t).IsWhole := hstage0_1 ((cfg0.slots t 1).cast nbuf0_1)
abbrev ms4 (t : Fin cfg0.N) : Memref sig .tc .vmem S2x1x2048x128 .bf16 := win0_2.stage (cfg0.slots t 2)
theorem hs4 (t : Fin cfg0.N) : (ms4 t).IsWhole := hstage0_2 ((cfg0.slots t 2).cast nbuf0_2)
abbrev ms5 (t : Fin cfg0.N) : Memref sig .tc .vmem S2x1x2048x128 .bf16 := win0_3.stage (cfg0.slots t 3)
theorem hs5 (t : Fin cfg0.N) : (ms5 t).IsWhole := hstage0_3 ((cfg0.slots t 3).cast nbuf0_3)
abbrev ms6 (t : Fin cfg0.N) : Memref sig .tc .vmem S2x128x2048 .bf16 := win0_4.stage (cfg0.slots t 4)
theorem hs6 (t : Fin cfg0.N) : (ms6 t).IsWhole := hstage0_4 ((cfg0.slots t 4).cast nbuf0_4)
abbrev ms7 (t : Fin cfg0.N) : Memref sig .tc .vmem S2x1x2048x128 .bf16 := win0_5.stage (cfg0.slots t 5)
theorem hs7 (t : Fin cfg0.N) : (ms7 t).IsWhole := hstage0_5 ((cfg0.slots t 5).cast nbuf0_5)
abbrev ms8 (t : Fin cfg0.N) : Memref sig .tc .vmem S1x1x512x128 .bf16 := win0_6.stage (cfg0.slots t 6)
theorem hs8 (t : Fin cfg0.N) : (ms8 t).IsWhole := hstage0_6 ((cfg0.slots t 6).cast nbuf0_6)
abbrev ms9 (t : Fin cfg0.N) : Memref sig .tc .vmem S1x128x512 .bf16 := win0_7.stage (cfg0.slots t 7)
theorem hs9 (t : Fin cfg0.N) : (ms9 t).IsWhole := hstage0_7 ((cfg0.slots t 7).cast nbuf0_7)
abbrev ms10 (t : Fin cfg0.N) : Memref sig .tc .vmem S2x1x2048x128 .bf16 := win0_8.stage (cfg0.slots t 8)
theorem hs10 (t : Fin cfg0.N) : (ms10 t).IsWhole := hstage0_8 ((cfg0.slots t 8).cast nbuf0_8)
abbrev ms11 (t : Fin cfg0.N) : Memref sig .tc .vmem S2x1x2048x128 .bf16 := win0_9.stage (cfg0.slots t 9)
theorem hs11 (t : Fin cfg0.N) : (ms11 t).IsWhole := hstage0_9 ((cfg0.slots t 9).cast nbuf0_9)
abbrev ms12 (t : Fin cfg0.N) : Memref sig .tc .vmem S2x1x2048x128 .bf16 := win0_10.stage (cfg0.slots t 10)
theorem hs12 (t : Fin cfg0.N) : (ms12 t).IsWhole := hstage0_10 ((cfg0.slots t 10).cast nbuf0_10)
abbrev ms13 (t : Fin cfg0.N) : Memref sig .tc .vmem S2x1x2048x128 .bf16 := win0_11.stage (cfg0.slots t 11)
theorem hs13 (t : Fin cfg0.N) : (ms13 t).IsWhole := hstage0_11 ((cfg0.slots t 11).cast nbuf0_11)
abbrev ms14 (t : Fin cfg0.N) : Memref sig .tc .vmem S1x1x512x128 .bf16 := win0_12.stage (cfg0.slots t 12)
theorem hs14 (t : Fin cfg0.N) : (ms14 t).IsWhole := hstage0_12 ((cfg0.slots t 12).cast nbuf0_12)
abbrev ms15 (t : Fin cfg0.N) : Memref sig .tc .vmem S1x1x512x128 .bf16 := win0_13.stage (cfg0.slots t 13)
theorem hs15 (t : Fin cfg0.N) : (ms15 t).IsWhole := hstage0_13 ((cfg0.slots t 13).cast nbuf0_13)
abbrev ms16 (t : Fin cfg0.N) : Memref sig .tc .vmem S1x128 .f32 := win0_14.stage (cfg0.slots t 14)
theorem hs16 (t : Fin cfg0.N) : (ms16 t).IsWhole := hstage0_14 ((cfg0.slots t 14).cast nbuf0_14)
abbrev ms17 (t : Fin cfg0.N) : Memref sig .tc .vmem S2x1x2048x128 .bf16 := win0_15.stage (cfg0.slots t 15)
theorem hs17 (t : Fin cfg0.N) : (ms17 t).IsWhole := hstage0_15 ((cfg0.slots t 15).cast nbuf0_15)
abbrev ms18 (t : Fin cfg0.N) : Memref sig .tc .vmem S2x1x2048x128 .bf16 := win0_16.stage (cfg0.slots t 16)
theorem hs18 (t : Fin cfg0.N) : (ms18 t).IsWhole := hstage0_16 ((cfg0.slots t 16).cast nbuf0_16)
abbrev sc19 : Memref sig .tc .vmem S3x2x768x256 .f32 := Memref.whole cc0_scratch0
theorem hsc19 : (sc19).IsWhole := Memref.isWhole_whole _
abbrev sc20 : Memref sig .tc .vmem S15x64x128 .f32 := Memref.whole cc0_scratch1
theorem hsc20 : (sc20).IsWhole := Memref.isWhole_whole _
abbrev sc21 : Memref sig .tc .vmem S2x2x80x2048 .bf16 := Memref.whole cc0_scratch2
theorem hsc21 : (sc21).IsWhole := Memref.isWhole_whole _
abbrev sc22 : Memref sig .tc .vmem S2x2x80x256 .bf16 := Memref.whole cc0_scratch3
theorem hsc22 : (sc22).IsWhole := Memref.isWhole_whole _
abbrev sc23 : Memref sig .tc .vmem S2x8x128x256 .f32 := Memref.whole cc0_scratch4
theorem hsc23 : (sc23).IsWhole := Memref.isWhole_whole _
abbrev sc24 : Memref sig .tc .vmem S2x8x128x256 .bf16 := Memref.whole cc0_scratch5
theorem hsc24 : (sc24).IsWhole := Memref.isWhole_whole _

/-- The body's run at point `t`, from the blocks of the arrays: whether or not the point builds the bias tables. -/
def runAt (c : Dev nD) (t : Fin cfg0.N) : { W : Bf (F := F) c (ms18 t) // Spec c (grid0.coords t)
    (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) sc19 hsc19 sc20 hsc20 sc21 hsc21 sc22 hsc22 sc23 hsc23 sc24 hsc24
    ((hs2 t).unread (iblk m c 0 t)) ((hs3 t).unread (iblk m c 1 t)) ((hs4 t).unread (iblk m c 2 t)) ((hs5 t).unread (iblk m c 3 t)) ((hs6 t).unread (iblk m c 4 t)) ((hs7 t).unread (iblk m c 5 t)) ((hs8 t).unread (iblk m c 6 t)) ((hs9 t).unread (iblk m c 7 t)) ((hs10 t).unread (iblk m c 8 t)) ((hs11 t).unread (iblk m c 9 t)) ((hs12 t).unread (iblk m c 10 t)) ((hs13 t).unread (iblk m c 11 t)) ((hs14 t).unread (iblk m c 12 t)) ((hs15 t).unread (iblk m c 13 t)) ((hs16 t).unread (iblk m c 14 t)) W } :=
  if hc : k0_cond1 (grid0.coords t) = 1#1 then
    kernelRunA c (grid0.coords t)
      (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) sc19 hsc19 sc20 hsc20 sc21 hsc21 sc22 hsc22 sc23 hsc23 sc24 hsc24 hc
      ((hs2 t).unread (iblk m c 0 t)) ((hs3 t).unread (iblk m c 1 t)) ((hs4 t).unread (iblk m c 2 t)) ((hs5 t).unread (iblk m c 3 t)) ((hs6 t).unread (iblk m c 4 t)) ((hs7 t).unread (iblk m c 5 t)) ((hs8 t).unread (iblk m c 6 t)) ((hs9 t).unread (iblk m c 7 t)) ((hs10 t).unread (iblk m c 8 t)) ((hs11 t).unread (iblk m c 9 t)) ((hs12 t).unread (iblk m c 10 t)) ((hs13 t).unread (iblk m c 11 t)) ((hs14 t).unread (iblk m c 12 t)) ((hs15 t).unread (iblk m c 13 t)) ((hs16 t).unread (iblk m c 14 t))
  else
    kernelRunB c (grid0.coords t)
      (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) sc19 hsc19 sc20 hsc20 sc21 hsc21 sc22 hsc22 sc23 hsc23 sc24 hsc24 hc
      ((hs2 t).unread (iblk m c 0 t)) ((hs3 t).unread (iblk m c 1 t)) ((hs4 t).unread (iblk m c 2 t)) ((hs5 t).unread (iblk m c 3 t)) ((hs6 t).unread (iblk m c 4 t)) ((hs7 t).unread (iblk m c 5 t)) ((hs8 t).unread (iblk m c 6 t)) ((hs9 t).unread (iblk m c 7 t)) ((hs10 t).unread (iblk m c 8 t)) ((hs11 t).unread (iblk m c 9 t)) ((hs12 t).unread (iblk m c 10 t)) ((hs13 t).unread (iblk m c 11 t)) ((hs14 t).unread (iblk m c 12 t)) ((hs15 t).unread (iblk m c 13 t)) ((hs16 t).unread (iblk m c 14 t))

/-- The retention's block as point `t` leaves it. -/
def tile (c : Dev nD) (t : Fin cfg0.N) : Vec F S2x1x2048x128 .bf16 := (ms18 t).view.read (Elt F) (runAt m c t).1

/-! ## The pipeline's proof data -/

/-- Window 15, the attention's output, is forgotten. -/
def forgets : Fin 17 → Bool := fun w => w.val == 15

/-- The proof data on core `c`: the arrays as the region finds them; each input's buffer at its block after the body, the
    retention's output at `tile`; the scratch and the generator register at anything; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨16, _⟩ => tile m c t
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after16 (c : Dev nD) (t : Fin cfg0.N) : (dats m 0 c).after 16 t = tile m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-- The invariant: the six scratch buffers at anything, and the generator register. -/
theorem Phi_eq (c : Dev nD) :
    (Pipeline.ΦA spec0 c : sProp 𝕄)
      = iprop(iprop((∃ d, pt c sc19 d) ∗ (∃ d, pt c sc20 d) ∗ (∃ d, pt c sc21 d) ∗ (∃ d, pt c sc22 d) ∗ (∃ d, pt c sc23 d) ∗ (∃ d, pt c sc24 d)) ∗ (∃ r, prngReg c r)) := by
  unfold Pipeline.ΦA; rw [scopedRest0_eq]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms2 t) fullShare ((dats m 0 c).before 0 t d))
    ∗ (∃ d, owns (c : Thread nD τ) (ms3 t) fullShare ((dats m 0 c).before 1 t d))
    ∗ (∃ d, owns (c : Thread nD τ) (ms4 t) fullShare ((dats m 0 c).before 2 t d))
    ∗ (∃ d, owns (c : Thread nD τ) (ms5 t) fullShare ((dats m 0 c).before 3 t d))
    ∗ (∃ d, owns (c : Thread nD τ) (ms6 t) fullShare ((dats m 0 c).before 4 t d))
    ∗ (∃ d, owns (c : Thread nD τ) (ms7 t) fullShare ((dats m 0 c).before 5 t d))
    ∗ (∃ d, owns (c : Thread nD τ) (ms8 t) fullShare ((dats m 0 c).before 6 t d))
    ∗ (∃ d, owns (c : Thread nD τ) (ms9 t) fullShare ((dats m 0 c).before 7 t d))
    ∗ (∃ d, owns (c : Thread nD τ) (ms10 t) fullShare ((dats m 0 c).before 8 t d))
    ∗ (∃ d, owns (c : Thread nD τ) (ms11 t) fullShare ((dats m 0 c).before 9 t d))
    ∗ (∃ d, owns (c : Thread nD τ) (ms12 t) fullShare ((dats m 0 c).before 10 t d))
    ∗ (∃ d, owns (c : Thread nD τ) (ms13 t) fullShare ((dats m 0 c).before 11 t d))
    ∗ (∃ d, owns (c : Thread nD τ) (ms14 t) fullShare ((dats m 0 c).before 12 t d))
    ∗ (∃ d, owns (c : Thread nD τ) (ms15 t) fullShare ((dats m 0 c).before 13 t d))
    ∗ (∃ d, owns (c : Thread nD τ) (ms16 t) fullShare ((dats m 0 c).before 14 t d))
    ∗ (∃ d, owns (c : Thread nD τ) (ms17 t) fullShare d)
    ∗ (∃ d, owns (c : Thread nD τ) (ms18 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (ms2 t) fullShare ((dats m 0 c).after 0 t)
    ∗ owns (c : Thread nD τ) (ms3 t) fullShare ((dats m 0 c).after 1 t)
    ∗ owns (c : Thread nD τ) (ms4 t) fullShare ((dats m 0 c).after 2 t)
    ∗ owns (c : Thread nD τ) (ms5 t) fullShare ((dats m 0 c).after 3 t)
    ∗ owns (c : Thread nD τ) (ms6 t) fullShare ((dats m 0 c).after 4 t)
    ∗ owns (c : Thread nD τ) (ms7 t) fullShare ((dats m 0 c).after 5 t)
    ∗ owns (c : Thread nD τ) (ms8 t) fullShare ((dats m 0 c).after 6 t)
    ∗ owns (c : Thread nD τ) (ms9 t) fullShare ((dats m 0 c).after 7 t)
    ∗ owns (c : Thread nD τ) (ms10 t) fullShare ((dats m 0 c).after 8 t)
    ∗ owns (c : Thread nD τ) (ms11 t) fullShare ((dats m 0 c).after 9 t)
    ∗ owns (c : Thread nD τ) (ms12 t) fullShare ((dats m 0 c).after 10 t)
    ∗ owns (c : Thread nD τ) (ms13 t) fullShare ((dats m 0 c).after 11 t)
    ∗ owns (c : Thread nD τ) (ms14 t) fullShare ((dats m 0 c).after 12 t)
    ∗ owns (c : Thread nD τ) (ms15 t) fullShare ((dats m 0 c).after 13 t)
    ∗ owns (c : Thread nD τ) (ms16 t) fullShare ((dats m 0 c).after 14 t)
    ∗ (∃ d, owns (c : Thread nD τ) (ms17 t) fullShare d)
    ∗ owns (c : Thread nD τ) (ms18 t) fullShare ((dats m 0 c).after 16 t))

/-- A whole memref held at what it reads is its buffer held at those contents. -/
theorem owns_in (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  rw [h.set_eq_univ]
  iintro ⟨%f, %hf, H⟩
  obtain rfl := h.eq_unread hf
  iexact H

theorem owns_out (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns
  rw [h.set_eq_univ]
  iintro H
  iexists f
  isplitr
  · ipureintro; rfl
  iexact H

theorem owns_back (c : Dev nD) {sp : Space} {S : Shape} {e : EltTy} (M : Memref sig .tc sp S e) (h : M.IsWhole) (X : S.Idx → Elt F e) :
    (pt c M (h.unread X) : sProp 𝕄) ⊢ owns (c : Thread nD τ) M fullShare X := by
  have := owns_out (F := F) c M h (h.unread X)
  rwa [h.read_unread] at this

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after16]
  rw [show (dats m 0 c).Φ t.castSucc = Pipeline.ΦA spec0 c from rfl, Phi_eq]
  iintro ⟨⟨⟨⟨%g19, G19⟩, ⟨%g20, G20⟩, ⟨%g21, G21⟩, ⟨%g22, G22⟩, ⟨%g23, G23⟩, ⟨%g24, G24⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply ((runAt m c t).2 ((hs17 t).unread d17) ((hs18 t).unread ((dats m 0 c).before 16 t d18)) g19 g20 g21 g22 g23 g24 Set.univ _)
  isplitl [H2]; · iapply (owns_in c (ms2 t) (hs2 t) _); iexact H2
  isplitl [H3]; · iapply (owns_in c (ms3 t) (hs3 t) _); iexact H3
  isplitl [H4]; · iapply (owns_in c (ms4 t) (hs4 t) _); iexact H4
  isplitl [H5]; · iapply (owns_in c (ms5 t) (hs5 t) _); iexact H5
  isplitl [H6]; · iapply (owns_in c (ms6 t) (hs6 t) _); iexact H6
  isplitl [H7]; · iapply (owns_in c (ms7 t) (hs7 t) _); iexact H7
  isplitl [H8]; · iapply (owns_in c (ms8 t) (hs8 t) _); iexact H8
  isplitl [H9]; · iapply (owns_in c (ms9 t) (hs9 t) _); iexact H9
  isplitl [H10]; · iapply (owns_in c (ms10 t) (hs10 t) _); iexact H10
  isplitl [H11]; · iapply (owns_in c (ms11 t) (hs11 t) _); iexact H11
  isplitl [H12]; · iapply (owns_in c (ms12 t) (hs12 t) _); iexact H12
  isplitl [H13]; · iapply (owns_in c (ms13 t) (hs13 t) _); iexact H13
  isplitl [H14]; · iapply (owns_in c (ms14 t) (hs14 t) _); iexact H14
  isplitl [H15]; · iapply (owns_in c (ms15 t) (hs15 t) _); iexact H15
  isplitl [H16]; · iapply (owns_in c (ms16 t) (hs16 t) _); iexact H16
  isplitl [H17]; · iapply (owns_in c (ms17 t) (hs17 t) _); iexact H17
  isplitl [H18]; · iapply (owns_in c (ms18 t) (hs18 t) _); iexact H18
  isplitl [G19]; · iexact G19
  isplitl [G20]; · iexact G20
  isplitl [G21]; · iexact G21
  isplitl [G22]; · iexact G22
  isplitl [G23]; · iexact G23
  isplitl [G24]; · iexact G24
  iintro ⟨H2, H3, H4, H5, H6, H7, H8, H9, H10, H11, H12, H13, H14, H15, H16, ⟨%e17, H17⟩, H18, G19, G20, G21, G22, G23, G24⟩
  isplitl [G19 G20 G21 G22 G23 G24 Hg]
  · isplitr [Hg]
    · isplitl [G19]; · iexact G19
      isplitl [G20]; · iexact G20
      isplitl [G21]; · iexact G21
      isplitl [G22]; · iexact G22
      isplitl [G23]; · iexact G23
      iexact G24
    iexact Hg
  isplitl [Ho]; · iexact Ho
  isplitl [H2]; · iapply (owns_back c (ms2 t) (hs2 t) _); iexact H2
  isplitl [H3]; · iapply (owns_back c (ms3 t) (hs3 t) _); iexact H3
  isplitl [H4]; · iapply (owns_back c (ms4 t) (hs4 t) _); iexact H4
  isplitl [H5]; · iapply (owns_back c (ms5 t) (hs5 t) _); iexact H5
  isplitl [H6]; · iapply (owns_back c (ms6 t) (hs6 t) _); iexact H6
  isplitl [H7]; · iapply (owns_back c (ms7 t) (hs7 t) _); iexact H7
  isplitl [H8]; · iapply (owns_back c (ms8 t) (hs8 t) _); iexact H8
  isplitl [H9]; · iapply (owns_back c (ms9 t) (hs9 t) _); iexact H9
  isplitl [H10]; · iapply (owns_back c (ms10 t) (hs10 t) _); iexact H10
  isplitl [H11]; · iapply (owns_back c (ms11 t) (hs11 t) _); iexact H11
  isplitl [H12]; · iapply (owns_back c (ms12 t) (hs12 t) _); iexact H12
  isplitl [H13]; · iapply (owns_back c (ms13 t) (hs13 t) _); iexact H13
  isplitl [H14]; · iapply (owns_back c (ms14 t) (hs14 t) _); iexact H14
  isplitl [H15]; · iapply (owns_back c (ms15 t) (hs15 t) _); iexact H15
  isplitl [H16]; · iapply (owns_back c (ms16 t) (hs16 t) _); iexact H16
  isplitl [H17]; · iexists _; iapply (owns_out c (ms17 t) (hs17 t) e17); iexact H17
  iapply (owns_out c (ms18 t) (hs18 t) _); iexact H18

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run -/

set_option backward.isDefEq.respectTransparency.types false in
/-- Every fair execution ends, with every array of the pipeline as the proof data say, and every counter at zero. -/
theorem run_main : θ_run defs (onTc (τ := τ) (main (F := F))) ⟨m, fun _ => 0, ρ⟩
    (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The argument arrays as the run leaves them, the retention's output array, and the counters. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ (r.2.sem = fun _ => 0)
      ∧ ∀ c : Dev nD, r.2.mem ((c.tc : Thread nD τ).loc main_v13_1) = (dats m 0 c).arrAt 16 cfg0.N) :=
  (θ_run defs _ _).mono (fun _ ⟨h, hs⟩ => ⟨fun c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 11 rfl).trans ((A_eq m c 11).trans (V_main_arg3 m c)),
      (Pipeline.RDat.FramePost.arr_in h c 4 rfl).trans ((A_eq m c 4).trans (V_main_arg4 m c)),
      (Pipeline.RDat.FramePost.arr_in h c 13 rfl).trans ((A_eq m c 13).trans (V_main_arg5 m c)),
      (Pipeline.RDat.FramePost.arr_in h c 7 rfl).trans ((A_eq m c 7).trans (V_main_arg6 m c)),
      ((h c).2 main_arg7 (Pipeline.mem_restRefs_of main_arg7 (by decide) (by decide))).trans (V_main_arg7 m c)⟩, hs,
      fun c => ((dats m 0 c).toRForget_arrAt_iff (fgt := forgets) (w := 16) rfl _ _).1 ((h c).1 16)⟩) (run_main m ρ)

end Cert.Mix

end
-- ==== Proof.MixBits.lean ====
module

public import proofs.«01_k».proof.Defs
public import proofs.«01_k».proof.Proof.Gen.Kernel
public import proofs.«01_k».proof.Proof.MixLaunch

@[expose] public section

noncomputable section

/-!
The mixers' program as printed for machine floats is, definition by definition, the program that the run is about.
-/

namespace Cert.Mix

open Idealize.ShloMosaic Idealize.SL.Sem
open Cert.KernelIdeal

/-- The machine-float program's claim, said of the program that the run is about. -/
def quiescent_bits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem same : quiescent_bits = Cert.quiescent_Kernel (hKernel := Cert.Kernel.Gen.facts) := by
  sl_kernel_rfl

theorem frame_bits : Cert.quiescent_Kernel (hKernel := Cert.Kernel.Gen.facts) :=
  same ▸ (fun m ρ _ => (θ_run defs _ _).mono (fun _ h => ⟨h.1, h.2.1⟩) (Cert.Mix.run (F := Bits) m ρ) : quiescent_bits)

end Cert.Mix

end
-- ==== Proof.InTile.lean ====
/- The input projection, one block of 1024 rows: what the kernel computes of them, at an index. -/
module

public import proofs.«01_k».proof.Proof.Gen.InProjIdeal.Value
public import Idealize.ShloMosaic.Lib.Pointwise
public import Idealize.ShloMosaic.Lib.Pipeline.ValueKit.Tiles

@[expose] public section

noncomputable section

namespace Cert.In

open Cert.InProjIdeal Cert.InProjIdeal.Gen Idealize.ShloMosaic Idealize.ShloMosaic.TcCoe Idealize.SL.Sem

/-- The reciprocal root of a row's mean square. -/
def inv (u : Fin 1024 → Ideal .f32) : Ideal .f32 :=
  Ideal.rsqrt (Ideal.div (∑ k : Fin 1024, u k * u k) (Ideal.ofBits .f32 0x44800000#32) + Ideal.ofBits .f32 0x358637BD#32)

/-- A token's row `x`, normalised with the scale `n` and modulated by `sc` and `sh`. -/
def modulated (x n sc sh : Fin 1024 → Ideal .f32) (k : Fin 1024) : Ideal .f32 :=
  x k * inv x * n k * (Ideal.ofBits .f32 0x3F800000#32 + sc k) + sh k

/-- One column of the projection of the row `h`. -/
def proj (h : Fin 1024 → Ideal .f32) (w : Fin 1024 → Fin 4096 → Ideal .f32) (o : Fin 4096) : Ideal .f32 :=
  ∑ k : Fin 1024, h k * w k o

def silu (t : Ideal .f32) : Ideal .f32 :=
  t * Ideal.div (Ideal.ofBits .f32 0x3F800000#32) (Ideal.ofBits .f32 0x3F800000#32 + Ideal.exp (-t))

/-- The rotary embedding of one head's 128 lanes. -/
def rotary (t : Fin 128 → Ideal .f32) (cs sn : Fin 64 → Ideal .f32) (d : Fin 128) : Ideal .f32 :=
  if h : d.val < 64 then t d * cs ⟨d.val, h⟩ - t ⟨d.val + 64, by omega⟩ * sn ⟨d.val, h⟩
  else t ⟨d.val - 64, by omega⟩ * sn ⟨d.val - 64, by omega⟩ + t d * cs ⟨d.val - 64, by omega⟩

/-- The lanes of head `q` of the group of columns that begins at `o`. -/
def lanes (p : Fin 4096 → Ideal .f32) (o : Nat) (ho : o ≤ 3584) (q : Fin 4) (d : Fin 128) : Ideal .f32 :=
  p ⟨o + (128 * q.val + d.val), by omega⟩

/-- One row of the block's normed and modulated rows. -/
theorem mod_apply (x : Vec Ideal S1x256x1024 .f32) (n : Vec Ideal S1x1024 .f32) (sc sh : Vec Ideal S1x1x1024 .f32)
    (r : Fin 256) (k : Fin 1024) :
    k0_pay1 x n sc sh (ix2 r k) = modulated (fun k => x (ix3 0 r k)) (fun k => n (ix2 0 k)) (fun k => sc (ix3 0 0 k))
      (fun k => sh (ix3 0 0 k)) k := by
  pointwise [k0_pay1, modulated, inv]

/-- The block's rows times 512 columns of the weights. -/
def acc (h : FVec Ideal S256x1024 .bf16) (w : Vec Ideal S1024x512 .bf16) : FVec Ideal S256x512 .f32 :=
  matmul (φ₂ := .bf16) dot_S256x1024_S1024x512_S256x512_1_0_0_1_n_n none h (shapeCast S1024x512 w shapeCasts_S1024x512_S1024x512)
    (constant S256x512 .f32 0x00000000#32)

theorem acc_apply (h : FVec Ideal S256x1024 .bf16) (w : Vec Ideal S1024x512 .bf16) (f : Fin 1024 → Ideal .f32) (r : Fin 256)
    (o : Fin 512) (hf : ∀ k, h (ix2 r k) = f k) : acc h w (ix2 r o) = ∑ k : Fin 1024, f k * w (ix2 k o) := by
  pointwise [acc, hf]

def scaled (c : BitVec 32) (a : FVec Ideal S256x512 .f32) : FVec Ideal S256x512 .f32 :=
  mulf a (broadcast S256x512 (Scalar.ofBits .f32 c))

theorem scaled_apply (c : BitVec 32) (a : FVec Ideal S256x512 .f32) (i : S256x512.Idx) :
    scaled c a i = a i * Ideal.ofBits .f32 c := by
  pointwise [scaled]

def gated (a : FVec Ideal S256x512 .f32) : FVec Ideal S256x512 .f32 :=
  mulf a (divf (broadcast S256x512 (Scalar.ofBits .f32 0x3F800000#32)) (addf (broadcast S256x512 (Scalar.ofBits .f32 0x3F800000#32))
    (exp (subf (broadcast S256x512 (Scalar.ofBits .f32 0x00000000#32)) a))))

theorem gated_apply (a : FVec Ideal S256x512 .f32) (i : S256x512.Idx) : gated a i = silu (a i) := by
  pointwise [gated, silu]
  rw [zero_sub]

/-- The 128 lanes of head `q`. -/
def lane (q : Fin 4) (a : FVec Ideal S256x512 .f32) : FVec Ideal S256x128 .f32 :=
  match q with
  | 0 => extractStridedSlice S256x128 ![0, 0] a slices_S256x512_o0_0_S256x128
  | 1 => extractStridedSlice S256x128 ![0, 128] a slices_S256x512_o0_128_S256x128
  | 2 => extractStridedSlice S256x128 ![0, 256] a slices_S256x512_o0_256_S256x128
  | 3 => extractStridedSlice S256x128 ![0, 384] a slices_S256x512_o0_384_S256x128

theorem lane_apply (q : Fin 4) (a : FVec Ideal S256x512 .f32) (r : Fin 256) (d : Fin 128) :
    lane q a (ix2 r d) = a (ix2 r ⟨128 * q.val + d.val, by omega⟩) := by
  match q with
  | 0 => pointwise [lane]
  | 1 => pointwise [lane]
  | 2 => pointwise [lane]
  | 3 => pointwise [lane]

def head (q : Fin 4) (a : FVec Ideal S256x512 .f32) : FVec Ideal S1x1x256x128 .bf16 :=
  shapeCast S1x1x256x128 (truncf .bf16 (lane q a) bitsLt_bf16_f32) shapeCasts_S256x128_S1x1x256x128

theorem head_apply (q : Fin 4) (a : FVec Ideal S256x512 .f32) (r : Fin 256) (d : Fin 128) :
    head q a (ix4 0 0 r d) = a (ix2 r ⟨128 * q.val + d.val, by omega⟩) := by
  refine Eq.trans ?_ (lane_apply q a r d)
  unfold head
  generalize lane q a = y
  pointwise

/-- Head `q` times the cosines plus its halves exchanged times the sines. -/
def turn (cs sn : Vec Ideal S256x128 .f32) (q : Fin 4) (a : FVec Ideal S256x512 .f32) : FVec Ideal S256x128 .f32 :=
  addf (mulf (lane q a) (shapeCast S256x128 cs shapeCasts_S256x128_S256x128))
    (mulf (dynamicRotate 1 64#32 none (lane q a) rotates_S256x128_d1) (shapeCast S256x128 sn shapeCasts_S256x128_S256x128))

theorem turn_apply (cs sn : Vec Ideal S256x128 .f32) (q : Fin 4) (a : FVec Ideal S256x512 .f32) (t : Fin 128 → Ideal .f32)
    (c s : Fin 64 → Ideal .f32) (r : Fin 256) (d : Fin 128)
    (ht : ∀ e : Fin 128, a (ix2 r ⟨128 * q.val + e.val, by omega⟩) = t e)
    (hc : ∀ e : Fin 128, cs (ix2 r e) = c ⟨e.val % 64, by omega⟩)
    (hs : ∀ e : Fin 128, sn (ix2 r e) = if e.val < 64 then -s ⟨e.val % 64, by omega⟩ else s ⟨e.val % 64, by omega⟩) :
    turn cs sn q a (ix2 r d) = rotary t c s d := by
  have ht' : ∀ e : Fin 128, lane q a (ix2 r e) = t e := fun e => (lane_apply q a r e).trans (ht e)
  have h1 : turn cs sn q a (ix2 r d) = t d * c ⟨d.val % 64, by omega⟩
      + t ⟨(d.val + 64) % 128, by omega⟩ * (if d.val < 64 then -s ⟨d.val % 64, by omega⟩ else s ⟨d.val % 64, by omega⟩) := by
    unfold turn
    generalize lane q a = y at ht'
    rw [← hs, ← hc, ← ht', ← ht']
    pointwise
    simp only [show d.val + 128 - 64 = d.val + 64 from by omega]
  rw [h1]
  unfold rotary
  have hd := d.isLt
  split
  · rename_i h
    have e1 : d.val % 64 = d.val := by omega
    have e2 : (d.val + 64) % 128 = d.val + 64 := by omega
    simp only [e1, e2]
    rw [mul_neg, ← sub_eq_add_neg]
  · rename_i h
    have e1 : d.val % 64 = d.val - 64 := by omega
    have e2 : (d.val + 64) % 128 = d.val - 64 := by omega
    simp only [e1, e2]
    rw [add_comm]

def rotated (cs sn : Vec Ideal S256x128 .f32) (a : FVec Ideal S256x512 .f32) : FVec Ideal S256x512 .f32 :=
  concatenate S256x512 1 [⟨S256x128, turn cs sn 0 a⟩, ⟨S256x128, turn cs sn 1 a⟩, ⟨S256x128, turn cs sn 2 a⟩,
    ⟨S256x128, turn cs sn 3 a⟩] concatenates_S256x128_S256x128_S256x128_S256x128_S256x512_d1

theorem rotated_apply (cs sn : Vec Ideal S256x128 .f32) (a : FVec Ideal S256x512 .f32) (q : Fin 4) (r : Fin 256) (d : Fin 128) :
    rotated cs sn a (ix2 r ⟨128 * q.val + d.val, by omega⟩) = turn cs sn q a (ix2 r d) := by
  unfold rotated
  have hd := d.isLt
  match q with
  | 0 => generalize turn cs sn 0 a = y; pointwise
  | 1 => generalize turn cs sn 1 a = y; pointwise
  | 2 =>
    generalize turn cs sn 2 a = y
    pointwise
    repeat' split
    all_goals first | omega | (congr 2; apply Fin.ext; simp only; omega)
  | 3 =>
    generalize turn cs sn 3 a = y
    pointwise
    repeat' split
    all_goals first | omega | (congr 2; apply Fin.ext; simp only; omega)

/-! ## The pieces the body stores -/

/-- A block of 1024 rows of `n` heads of 128 lanes. -/
abbrev SH (n : Nat) : Shape := ⟨4, ![1, n, 1024, 128]⟩

theorem inb (n g p : Nat) (hg : g < n) (hp : p + 256 ≤ 1024) :
    ∀ a, (![0, g, p, 0] : Fin 4 → Nat) a + S1x1x256x128.size a ≤ (SH n).size a := fun a => match a with
  | ⟨0, _⟩ => Nat.le_refl 1
  | ⟨1, _⟩ => hg
  | ⟨2, _⟩ => hp
  | ⟨3, _⟩ => Nat.le_refl 128

/-- The four heads of a group stored at the rows from `p`, before the pieces `L`. -/
def group (n g p : Nat) (hg : g + 4 ≤ n) (hp : p + 256 ≤ 1024) (a : FVec Ideal S256x512 .f32)
    (L : List (View.Piece (Elt Ideal) (SH n) .bf16)) : List (View.Piece (Elt Ideal) (SH n) .bf16) :=
  ⟨Rect.unit (s := SH n) ![0, g + 3, p, 0] S1x1x256x128.size (inb n (g + 3) p (by omega) hp), head 3 a⟩ ::
  ⟨Rect.unit (s := SH n) ![0, g + 2, p, 0] S1x1x256x128.size (inb n (g + 2) p (by omega) hp), head 2 a⟩ ::
  ⟨Rect.unit (s := SH n) ![0, g + 1, p, 0] S1x1x256x128.size (inb n (g + 1) p (by omega) hp), head 1 a⟩ ::
  ⟨Rect.unit (s := SH n) ![0, g, p, 0] S1x1x256x128.size (inb n g p (by omega) hp), head 0 a⟩ :: L

theorem head_tile (n g p : Nat) (q : Fin 4) (a : FVec Ideal S256x512 .f32) (y : (SH n).Idx) (v : Ideal .bf16)
    (hv : ∀ (r : Fin 256) (d : Fin 128), (y 1).val = g → (y 2).val = p + r.val → (y 3).val = d.val →
      a (ix2 r ⟨128 * q.val + d.val, by omega⟩) = v) :
    View.TileAt (Val := Elt Ideal) (e := .bf16) y ![0, g, p, 0] S1x1x256x128.size (head q a) v := by
  intro x hx
  have e1 : (y 1).val = g + (x 1).val := hx 1
  have e2 : (y 2).val = p + (x 2).val := hx 2
  have e3 : (y 3).val = 0 + (x 3).val := hx 3
  have l1 : (x 1).val < 1 := (x 1).isLt
  have hx' : x = ix4 0 0 (x 2) (x 3) := by
    funext b; apply Fin.ext
    match b with
    | ⟨0, _⟩ => exact Nat.lt_one_iff.mp (x 0).isLt
    | ⟨1, _⟩ => exact Nat.lt_one_iff.mp (x 1).isLt
    | ⟨2, _⟩ => rfl
    | ⟨3, _⟩ => rfl
  exact (congrArg (head q a) hx').trans ((head_apply q a (x 2) (x 3)).trans (hv (x 2) (x 3) (by omega) e2 (by omega)))

theorem group_allAt (n g p : Nat) (hg : g + 4 ≤ n) (hp : p + 256 ≤ 1024) (a : FVec Ideal S256x512 .f32)
    (L : List (View.Piece (Elt Ideal) (SH n) .bf16)) (y : (SH n).Idx) (v : Ideal .bf16)
    (hv : ∀ (q : Fin 4) (r : Fin 256) (d : Fin 128), (y 1).val = g + q.val → (y 2).val = p + r.val → (y 3).val = d.val →
      a (ix2 r ⟨128 * q.val + d.val, by omega⟩) = v)
    (hL : View.AllAt (Val := Elt Ideal) L y v) : View.AllAt (Val := Elt Ideal) (group n g p hg hp a L) y v := by
  unfold group
  refine View.allAt_cons_unit _ _ _ _ _ (head_tile n (g + 3) p 3 a y v (hv 3)) ?_
  refine View.allAt_cons_unit _ _ _ _ _ (head_tile n (g + 2) p 2 a y v (hv 2)) ?_
  refine View.allAt_cons_unit _ _ _ _ _ (head_tile n (g + 1) p 1 a y v (hv 1)) ?_
  exact View.allAt_cons_unit _ _ _ _ _ (head_tile n g p 0 a y v (hv 0)) hL

/-- The rows of the block from `p`, normed and modulated. -/
def normed (p : Nat) (hp : p + 256 ≤ 1024) (x0 : Vec Ideal S1x1024x1024 .f32) (x1 x2 : Vec Ideal S1x1x1024 .f32)
    (x3 : Vec Ideal S1x1024 .f32) : FVec Ideal S256x1024 .bf16 :=
  k0_pay1 (View.ld x0 (Rect.unit (s := S1x1024x1024) ![0, p, 0] S1x256x1024.size (fun a => match a with
    | ⟨0, _⟩ => Nat.le_refl 1 | ⟨1, _⟩ => hp | ⟨2, _⟩ => Nat.le_refl 1024)))
    (View.ld x3 r0_1) (View.ld x1 r0_2) (View.ld x2 r0_2)

/-- 512 columns of the weights, from column `o`. -/
def cols (o : Nat) (ho : o ≤ 3584) (x4 : Vec Ideal S1024x4096 .bf16) : Vec Ideal S1024x512 .bf16 :=
  View.ld x4 (Rect.unit (s := S1024x4096) ![0, o] S1024x512.size (fun a => match a with
    | ⟨0, _⟩ => Nat.le_refl 1024 | ⟨1, _⟩ => Nat.add_le_add_right ho 512))

/-- The rows of a rotary table from `p`. -/
def table (p : Nat) (hp : p + 256 ≤ 1024) (x : Vec Ideal S1024x128 .f32) : Vec Ideal S256x128 .f32 :=
  View.ld x (Rect.unit (s := S1024x128) ![p, 0] S256x128.size (fun a => match a with
    | ⟨0, _⟩ => hp | ⟨1, _⟩ => Nat.le_refl 128))

theorem normed_apply (p : Nat) (hp : p + 256 ≤ 1024) (x0 : Vec Ideal S1x1024x1024 .f32) (x1 x2 : Vec Ideal S1x1x1024 .f32)
    (x3 : Vec Ideal S1x1024 .f32) (r : Fin 256) (s : Fin 1024) (hs : s.val = p + r.val) (k : Fin 1024) :
    normed p hp x0 x1 x2 x3 (ix2 r k) = modulated (fun k => x0 (ix3 0 s k)) (fun k => x3 (ix2 0 k)) (fun k => x1 (ix3 0 0 k))
      (fun k => x2 (ix3 0 0 k)) k := by
  have hz3 : View.ld x3 r0_1 = x3 := View.ld_unit_zero (funext fun a => by fin_cases a <;> rfl) _ _
  have hz1 : View.ld x1 r0_2 = x1 := View.ld_unit_zero (funext fun a => by fin_cases a <;> rfl) _ _
  have hz2 : View.ld x2 r0_2 = x2 := View.ld_unit_zero (funext fun a => by fin_cases a <;> rfl) _ _
  unfold normed
  rw [hz3, hz1, hz2, mod_apply]
  have h : ∀ k : Fin 1024, View.ld x0 (Rect.unit (s := S1x1024x1024) ![0, p, 0] S1x256x1024.size (fun a => match a with
    | ⟨0, _⟩ => Nat.le_refl 1 | ⟨1, _⟩ => hp | ⟨2, _⟩ => Nat.le_refl 1024)) (ix3 0 r k) = x0 (ix3 0 s k) := fun k =>
    View.ld_unit_apply_of x0 _ _ _ _ _ fun a => match a with
    | ⟨0, _⟩ => rfl
    | ⟨1, _⟩ => hs
    | ⟨2, _⟩ => (Nat.zero_add _).symm
  exact congrArg (fun f => modulated f _ _ _ k) (funext h)

theorem cols_apply (o : Nat) (ho : o ≤ 3584) (x4 : Vec Ideal S1024x4096 .bf16) (k : Fin 1024) (j : Fin 512) :
    cols o ho x4 (ix2 k j) = x4 (ix2 k ⟨o + j.val, by omega⟩) :=
  View.ld_unit_apply_of x4 _ _ _ _ _ fun a => match a with
    | ⟨0, _⟩ => (Nat.zero_add _).symm
    | ⟨1, _⟩ => rfl

theorem table_apply (p : Nat) (hp : p + 256 ≤ 1024) (x : Vec Ideal S1024x128 .f32) (r : Fin 256) (s : Fin 1024)
    (hs : s.val = p + r.val) (d : Fin 128) : table p hp x (ix2 r d) = x (ix2 s d) :=
  View.ld_unit_apply_of x _ _ _ _ _ fun a => match a with
    | ⟨0, _⟩ => hs
    | ⟨1, _⟩ => (Nat.zero_add _).symm

/-- One column of the block's projection. -/
theorem column (p : Nat) (hp : p + 256 ≤ 1024) (x0 : Vec Ideal S1x1024x1024 .f32) (x1 x2 : Vec Ideal S1x1x1024 .f32)
    (x3 : Vec Ideal S1x1024 .f32) (x4 : Vec Ideal S1024x4096 .bf16) (o : Nat) (ho : o ≤ 3584) (r : Fin 256) (s : Fin 1024)
    (hs : s.val = p + r.val) (q : Fin 4) (d : Fin 128) :
    acc (normed p hp x0 x1 x2 x3) (cols o ho x4) (ix2 r ⟨128 * q.val + d.val, by omega⟩)
      = lanes (proj (modulated (fun k => x0 (ix3 0 s k)) (fun k => x3 (ix2 0 k)) (fun k => x1 (ix3 0 0 k))
        (fun k => x2 (ix3 0 0 k))) (fun k o => x4 (ix2 k o))) o ho q d := by
  rw [acc_apply _ _ _ r _ (normed_apply p hp x0 x1 x2 x3 r s hs)]
  exact Finset.sum_congr rfl fun k _ => congrArg _ (cols_apply o ho x4 k _)

/-- The heads of one position, by group of four: what the attention and the retention want of their columns. -/
def part (P : Fin 4096 → Ideal .f32) (c s : Fin 64 → Ideal .f32) (j : Nat) (q : Fin 4) (d : Fin 128) : Ideal .bf16 :=
  match j with
  | 0 => lanes P 0 (by decide) q d * Ideal.ofBits .f32 0x3E38AA3B#32
  | 1 => silu (lanes P 1536 (by decide) q d)
  | 2 => rotary (lanes P 2048 (by decide) q) c s d
  | 3 => rotary (lanes P 2560 (by decide) q) c s d * Ideal.ofBits .f32 0x3DB504F3#32
  | 4 => silu (lanes P 3584 (by decide) q d)
  | 5 => lanes P 512 (by decide) q d
  | _ => lanes P 3072 (by decide) q d

def lat (P : Fin 4096 → Ideal .f32) (c s : Fin 64 → Ideal .f32) (g : Fin 28) (d : Fin 128) : Ideal .bf16 :=
  part P c s (g.val / 4) ⟨g.val % 4, Nat.mod_lt _ (by decide)⟩ d

theorem lat_eq (P : Fin 4096 → Ideal .f32) (c s : Fin 64 → Ideal .f32) (j : Nat) (q : Fin 4) (g : Fin 28) (d d' : Fin 128)
    (hg : g.val = 4 * j + q.val) (hd : d.val = d'.val) : lat P c s g d = part P c s j q d' := by
  have e1 : g.val / 4 = j := by omega
  have e2 : (⟨g.val % 4, Nat.mod_lt _ (by decide)⟩ : Fin 4) = q := Fin.ext (by simp only; omega)
  unfold lat
  rw [e1, e2, Fin.ext hd]

/-- What the body stores of the rows from `p`, before the pieces `L`. -/
def rows (p : Nat) (hp : p + 256 ≤ 1024) (x0 : Vec Ideal S1x1024x1024 .f32) (x1 x2 : Vec Ideal S1x1x1024 .f32)
    (x3 : Vec Ideal S1x1024 .f32) (x4 : Vec Ideal S1024x4096 .bf16) (x6 x7 : Vec Ideal S1024x128 .f32)
    (L : List (View.Piece (Elt Ideal) (SH 28) .bf16)) : List (View.Piece (Elt Ideal) (SH 28) .bf16) :=
  group 28 24 p (by decide) hp (acc (normed p hp x0 x1 x2 x3) (cols 3072 (by decide) x4)) <|
  group 28 20 p (by decide) hp (acc (normed p hp x0 x1 x2 x3) (cols 512 (by decide) x4)) <|
  group 28 16 p (by decide) hp (gated (acc (normed p hp x0 x1 x2 x3) (cols 3584 (by decide) x4))) <|
  group 28 12 p (by decide) hp (scaled 0x3DB504F3#32 (rotated (table p hp x6) (table p hp x7)
    (acc (normed p hp x0 x1 x2 x3) (cols 2560 (by decide) x4)))) <|
  group 28 8 p (by decide) hp (rotated (table p hp x6) (table p hp x7)
    (acc (normed p hp x0 x1 x2 x3) (cols 2048 (by decide) x4))) <|
  group 28 4 p (by decide) hp (gated (acc (normed p hp x0 x1 x2 x3) (cols 1536 (by decide) x4))) <|
  group 28 0 p (by decide) hp (scaled 0x3E38AA3B#32 (acc (normed p hp x0 x1 x2 x3) (cols 0 (by decide) x4))) L

theorem pieces (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32) :
    out0_8 x0 x1 x2 x3 x4 x5 x6 x7 = View.canon (rows 768 (by decide) x0 x1 x2 x3 x4 x6 x7
      (rows 512 (by decide) x0 x1 x2 x3 x4 x6 x7 (rows 256 (by decide) x0 x1 x2 x3 x4 x6 x7
      (rows 0 (by decide) x0 x1 x2 x3 x4 x6 x7 [])))) := by
  rfl

theorem rows_allAt (p : Nat) (hp : p + 256 ≤ 1024) (x0 : Vec Ideal S1x1024x1024 .f32) (x1 x2 : Vec Ideal S1x1x1024 .f32)
    (x3 : Vec Ideal S1x1024 .f32) (x4 : Vec Ideal S1024x4096 .bf16) (x6 x7 : Vec Ideal S1024x128 .f32)
    (C S : Fin 1024 → Fin 64 → Ideal .f32)
    (hC : ∀ (s : Fin 1024) (e : Fin 128), x6 (ix2 s e) = C s ⟨e.val % 64, by omega⟩)
    (hS : ∀ (s : Fin 1024) (e : Fin 128),
      x7 (ix2 s e) = if e.val < 64 then -S s ⟨e.val % 64, by omega⟩ else S s ⟨e.val % 64, by omega⟩)
    (L : List (View.Piece (Elt Ideal) (SH 28) .bf16)) (y : (SH 28).Idx) (v : Ideal .bf16)
    (hv : lat (proj (modulated (fun k => x0 (ix3 0 (y 2) k)) (fun k => x3 (ix2 0 k)) (fun k => x1 (ix3 0 0 k))
        (fun k => x2 (ix3 0 0 k))) (fun k o => x4 (ix2 k o))) (C (y 2)) (S (y 2)) (y 1) (y 3) = v)
    (hL : View.AllAt (Val := Elt Ideal) L y v) :
    View.AllAt (Val := Elt Ideal) (rows p hp x0 x1 x2 x3 x4 x6 x7 L) y v := by
  have hcol := fun (o : Nat) (ho : o ≤ 3584) (r : Fin 256) (h2 : (y 2).val = p + r.val) (q : Fin 4) (d : Fin 128) =>
    column p hp x0 x1 x2 x3 x4 o ho r (y 2) h2 q d
  have hrot := fun (o : Nat) (ho : o ≤ 3584) (r : Fin 256) (h2 : (y 2).val = p + r.val) (q : Fin 4) (d : Fin 128) =>
    (rotated_apply (table p hp x6) (table p hp x7) (acc (normed p hp x0 x1 x2 x3) (cols o ho x4)) q r d).trans
      (turn_apply _ _ q _ _ (C (y 2)) (S (y 2)) r d (fun e => hcol o ho r h2 q e)
        (fun e => (table_apply p hp x6 r (y 2) h2 e).trans (hC _ e))
        (fun e => (table_apply p hp x7 r (y 2) h2 e).trans (hS _ e)))
  have hlat := fun (j : Nat) (q : Fin 4) (d : Fin 128) (h1 : (y 1).val = 4 * j + q.val) (h3 : (y 3).val = d.val) =>
    (lat_eq _ (C (y 2)) (S (y 2)) j q (y 1) (y 3) d h1 h3).symm.trans hv
  unfold rows
  refine group_allAt 28 24 p _ hp _ _ y v (fun q r d h1 h2 h3 => ?_) ?_
  · exact (hcol 3072 _ r h2 q d).trans (hlat 6 q d h1 h3)
  refine group_allAt 28 20 p _ hp _ _ y v (fun q r d h1 h2 h3 => ?_) ?_
  · exact (hcol 512 _ r h2 q d).trans (hlat 5 q d h1 h3)
  refine group_allAt 28 16 p _ hp _ _ y v (fun q r d h1 h2 h3 => ?_) ?_
  · exact (gated_apply _ _).trans ((congrArg silu (hcol 3584 _ r h2 q d)).trans (hlat 4 q d h1 h3))
  refine group_allAt 28 12 p _ hp _ _ y v (fun q r d h1 h2 h3 => ?_) ?_
  · exact (scaled_apply _ _ _).trans ((congrArg (· * _) (hrot 2560 _ r h2 q d)).trans (hlat 3 q d h1 h3))
  refine group_allAt 28 8 p _ hp _ _ y v (fun q r d h1 h2 h3 => ?_) ?_
  · exact (hrot 2048 _ r h2 q d).trans (hlat 2 q d h1 h3)
  refine group_allAt 28 4 p _ hp _ _ y v (fun q r d h1 h2 h3 => ?_) ?_
  · exact (gated_apply _ _).trans ((congrArg silu (hcol 1536 _ r h2 q d)).trans (hlat 1 q d h1 h3))
  refine group_allAt 28 0 p _ hp _ _ y v (fun q r d h1 h2 h3 => ?_) hL
  exact (scaled_apply _ _ _).trans ((congrArg (· * _) (hcol 0 _ r h2 q d)).trans (hlat 0 q d (by omega) h3))

/-- What the body leaves in the heads' block, at an index. -/
theorem block_apply (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32)
    (C S : Fin 1024 → Fin 64 → Ideal .f32)
    (hC : ∀ (s : Fin 1024) (e : Fin 128), x6 (ix2 s e) = C s ⟨e.val % 64, by omega⟩)
    (hS : ∀ (s : Fin 1024) (e : Fin 128),
      x7 (ix2 s e) = if e.val < 64 then -S s ⟨e.val % 64, by omega⟩ else S s ⟨e.val % 64, by omega⟩)
    (y : S1x28x1024x128.Idx) :
    out0_8 x0 x1 x2 x3 x4 x5 x6 x7 y = lat (proj (modulated (fun k => x0 (ix3 0 (y 2) k)) (fun k => x3 (ix2 0 k))
      (fun k => x1 (ix3 0 0 k)) (fun k => x2 (ix3 0 0 k))) (fun k o => x4 (ix2 k o))) (C (y 2)) (S (y 2)) (y 1) (y 3) := by
  rw [pieces]
  refine View.canon_eq_of_allAt _ y _ ?_ ?_
  · exact View.cover_of_tiled (rows 768 _ x0 x1 x2 x3 x4 x6 x7 (rows 512 _ x0 x1 x2 x3 x4 x6 x7
      (rows 256 _ x0 x1 x2 x3 x4 x6 x7 (rows 0 _ x0 x1 x2 x3 x4 x6 x7 [])))) S1x1x256x128.size (by rfl) y
  iterate 4 refine rows_allAt _ _ x0 x1 x2 x3 x4 x6 x7 C S hC hS _ y _ rfl ?_
  exact View.allAt_nil y _

/-! ## The attention's values, transposed -/

def valuesT (h : FVec Ideal S256x1024 .bf16) (w : Vec Ideal S512x1024 .bf16) : FVec Ideal S1x512x256 .bf16 := k0_pay5 h w

theorem valuesT_apply (h : FVec Ideal S256x1024 .bf16) (w : Vec Ideal S512x1024 .bf16) (f : Fin 1024 → Ideal .f32)
    (o : Fin 512) (r : Fin 256) (hf : ∀ k, h (ix2 r k) = f k) :
    valuesT h w (ix3 0 o r) = ∑ k : Fin 1024, f k * w (ix2 o k) := by
  pointwise [valuesT, k0_pay5, hf]
  exact Finset.sum_congr rfl fun k _ => mul_comm _ _

theorem values_tile (p : Nat) (hp : p + 256 ≤ 1024) (x0 : Vec Ideal S1x1024x1024 .f32) (x1 x2 : Vec Ideal S1x1x1024 .f32)
    (x3 : Vec Ideal S1x1024 .f32) (x5 : Vec Ideal S512x1024 .bf16) (y : S1x512x1024.Idx) :
    View.TileAt (Val := Elt Ideal) (e := .bf16) y ![0, 0, p] S1x512x256.size (valuesT (normed p hp x0 x1 x2 x3) x5)
      (∑ k : Fin 1024, modulated (fun k => x0 (ix3 0 (y 2) k)) (fun k => x3 (ix2 0 k)) (fun k => x1 (ix3 0 0 k))
        (fun k => x2 (ix3 0 0 k)) k * x5 (ix2 (y 1) k)) := by
  intro x hx
  have e1 : (y 1).val = 0 + (x 1).val := hx 1
  have e2 : (y 2).val = p + (x 2).val := hx 2
  have hx1 : x 1 = y 1 := Fin.ext ((Nat.zero_add _).symm.trans e1.symm)
  have hx' : x = ix3 0 (x 1) (x 2) := by
    funext b; apply Fin.ext
    match b with
    | ⟨0, _⟩ => exact Nat.lt_one_iff.mp (x 0).isLt
    | ⟨1, _⟩ => rfl
    | ⟨2, _⟩ => rfl
  rw [← hx1]
  exact (congrArg _ hx').trans (valuesT_apply _ x5 _ (x 1) (x 2) (normed_apply p hp x0 x1 x2 x3 (x 2) (y 2) e2))

theorem values_pieces (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32) :
    out0_9 x0 x1 x2 x3 x4 x5 x6 x7 = View.canon [⟨r0_104, valuesT (normed 768 (by decide) x0 x1 x2 x3) x5⟩,
      ⟨r0_74, valuesT (normed 512 (by decide) x0 x1 x2 x3) x5⟩, ⟨r0_43, valuesT (normed 256 (by decide) x0 x1 x2 x3) x5⟩,
      ⟨r0_5, valuesT (normed 0 (by decide) x0 x1 x2 x3) x5⟩] := by
  have hz5 : View.ld x5 r0_4 = x5 := View.ld_unit_zero (funext fun a => by fin_cases a <;> rfl) _ _
  unfold_out out0_9
  rw [hz5]
  rfl

theorem values_apply (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32)
    (y : S1x512x1024.Idx) :
    out0_9 x0 x1 x2 x3 x4 x5 x6 x7 y = ∑ k : Fin 1024, modulated (fun k => x0 (ix3 0 (y 2) k)) (fun k => x3 (ix2 0 k))
      (fun k => x1 (ix3 0 0 k)) (fun k => x2 (ix3 0 0 k)) k * x5 (ix2 (y 1) k) := by
  rw [values_pieces]
  refine View.canon_eq_of_allAt _ y _ (cover0_9 _ _ _ _ y) ?_
  repeat' (first | exact View.allAt_nil y _ | refine View.allAt_cons_unit _ _ _ _ _ (values_tile _ _ x0 x1 x2 x3 x5 y) ?_)

end Cert.In
end
-- ==== Proof.InValue.lean ====
/- The latent tokens' input projection: the two result arrays as functions of the arguments, and the reference at the
   same functions. -/
module

public import proofs.«01_k».proof.Defs
public import proofs.«01_k».proof.Proof.InTile
public import proofs.«01_k».proof.Proof.Gen.InReferenceIdeal.Read

@[expose] public section

noncomputable section

namespace Cert.In

open Cert.InProjIdeal Cert.InProjIdeal.Gen Cert.InProjIdeal.Value Idealize.ShloMosaic Idealize.ShloMosaic.TcCoe Idealize.SL.Sem
open Idealize.ShloMosaic.Pipeline (Dat)

theorem proj_congr {x x' n n' c c' s s' : Fin 1024 → Ideal .f32} {w w' : Fin 1024 → Fin 4096 → Ideal .f32}
    (hx : ∀ k, x k = x' k) (hn : ∀ k, n k = n' k) (hc : ∀ k, c k = c' k) (hs : ∀ k, s k = s' k)
    (hw : ∀ k o, w k o = w' k o) : proj (modulated x n c s) w = proj (modulated x' n' c' s') w' := by
  obtain rfl := funext hx
  obtain rfl := funext hn
  obtain rfl := funext hc
  obtain rfl := funext hs
  obtain rfl := (funext fun k => funext (hw k) : w = w')
  rfl

/-- One token's projection onto the 4096 columns, from the whole arrays. -/
def token (x : Vec Ideal S16x2048x1024 .f32) (sc sh : Vec Ideal S16x1x1024 .f32) (n : Vec Ideal S1x1024 .f32)
    (w : Vec Ideal S1x1024x4096 .f32) (b : Fin 16) (s : Fin 2048) : Fin 4096 → Ideal .f32 :=
  proj (modulated (fun k => x (ix3 b s k)) (fun k => n (ix2 0 k)) (fun k => sc (ix3 b 0 k)) (fun k => sh (ix3 b 0 k)))
    (fun k o => w (ix3 0 k o))

/-- The heads that the mixers read. -/
def G8 (x : Vec Ideal S16x2048x1024 .f32) (sc sh : Vec Ideal S16x1x1024 .f32) (n : Vec Ideal S1x1024 .f32)
    (w : Vec Ideal S1x1024x4096 .f32) (c s : Vec Ideal S2048x64 .f32) : Vec Ideal S16x28x2048x128 .bf16 := fun i =>
  lat (token x sc sh n w (i 0) (i 2)) (fun e => c (ix2 (i 2) e)) (fun e => s (ix2 (i 2) e)) (i 1) (i 3)

/-- The attention's values, transposed. -/
def G9 (x : Vec Ideal S16x2048x1024 .f32) (sc sh : Vec Ideal S16x1x1024 .f32) (n : Vec Ideal S1x1024 .f32)
    (w : Vec Ideal S1x1024x4096 .f32) : Vec Ideal S16x512x2048 .bf16 := fun i =>
  token x sc sh n w (i 0) (i 2) ⟨1024 + (i 1).val, by have : (i 1).val < 512 := (i 1).isLt; omega⟩

variable (m : (ℓ : Loc nD τ sig) → Buf (Elt Ideal) ℓ) (ρ : Dev nD → PrngReg)

theorem V_w (c : Dev nD) : V m c main_v1
    = (truncf .bf16 (shapeCast S1024x4096 (m ((c : Thread nD τ).loc main_arg4)) shapeCasts_S1x1024x4096_S1024x4096) bitsLt_bf16_f32 : FVec Ideal S1024x4096 .bf16) := by
  unfold_abbrev_sides
  after_results
  rfl

theorem V_wt (c : Dev nD) : V m c main_v5
    = (truncf .bf16 (transpose S512x1024 [1, 0] (extractStridedSlice S1024x512 ![0, 1024] (shapeCast S1024x4096 (m ((c : Thread nD τ).loc main_arg4)) shapeCasts_S1x1024x4096_S1024x4096) slices_S1024x4096_S1024x512_0_1024) transposes_S1024x512_S512x1024_1_0) bitsLt_bf16_f32 : FVec Ideal S512x1024 .bf16) := by
  unfold_abbrev_sides
  after_results
  rfl

theorem V_cos (c : Dev nD) : V m c main_v6
    = (concatenate S2048x128 1 [⟨S2048x64, m ((c : Thread nD τ).loc main_arg5)⟩, ⟨S2048x64, m ((c : Thread nD τ).loc main_arg5)⟩] concatenates_S2048x64_S2048x64_S2048x128_d1 : FVec Ideal S2048x128 .f32) := by
  unfold_abbrev_sides
  after_results

theorem V_sin (c : Dev nD) : V m c main_v8
    = (concatenate S2048x128 1 [⟨S2048x64, (Host.negf (m ((c : Thread nD τ).loc main_arg6) : FVec Ideal S2048x64 .f32) : FVec Ideal S2048x64 .f32)⟩, ⟨S2048x64, m ((c : Thread nD τ).loc main_arg6)⟩] concatenates_S2048x64_S2048x64_S2048x128_d1 : FVec Ideal S2048x128 .f32) := by
  unfold_abbrev_sides
  after_results

theorem V_n (c : Dev nD) : V m c main_v10
    = shapeCast S1x1024 (shapeCast S1024 (m ((c : Thread nD τ).loc main_arg3)) shapeCasts_S1x1024_S1024) shapeCasts_S1024_S1x1024 := by
  unfold_abbrev_sides
  after_results
  rfl

theorem w_apply (w : Vec Ideal S1x1024x4096 .f32) (k : Fin 1024) (o : Fin 4096) :
    (truncf .bf16 (shapeCast S1024x4096 w shapeCasts_S1x1024x4096_S1024x4096) bitsLt_bf16_f32 : FVec Ideal S1024x4096 .bf16)
      (ix2 k o) = w (ix3 0 k o) := by
  pointwise

theorem wt_apply (w : Vec Ideal S1x1024x4096 .f32) (o : Fin 512) (k : Fin 1024) :
    (truncf .bf16 (transpose S512x1024 [1, 0] (extractStridedSlice S1024x512 ![0, 1024] (shapeCast S1024x4096 w shapeCasts_S1x1024x4096_S1024x4096) slices_S1024x4096_S1024x512_0_1024) transposes_S1024x512_S512x1024_1_0) bitsLt_bf16_f32 : FVec Ideal S512x1024 .bf16)
      (ix2 o k) = w (ix3 0 k ⟨1024 + o.val, by omega⟩) := by
  pointwise

theorem cos_apply (t : Vec Ideal S2048x64 .f32) (r : Fin 2048) (e : Fin 128) :
    (concatenate S2048x128 1 [⟨S2048x64, t⟩, ⟨S2048x64, t⟩] concatenates_S2048x64_S2048x64_S2048x128_d1 : FVec Ideal S2048x128 .f32)
      (ix2 r e) = t (ix2 r ⟨e.val % 64, by omega⟩) := by
  pointwise
  repeat' split
  all_goals first
    | omega
    | (congr 2; apply Fin.ext; simp only; omega)

theorem sin_apply (t : Vec Ideal S2048x64 .f32) (r : Fin 2048) (e : Fin 128) :
    (concatenate S2048x128 1 [⟨S2048x64, (Host.negf t : FVec Ideal S2048x64 .f32)⟩, ⟨S2048x64, t⟩] concatenates_S2048x64_S2048x64_S2048x128_d1 : FVec Ideal S2048x128 .f32)
      (ix2 r e) = if e.val < 64 then -t (ix2 r ⟨e.val % 64, by omega⟩) else t (ix2 r ⟨e.val % 64, by omega⟩) := by
  pointwise
  repeat' split
  all_goals first
    | omega
    | (congr 2; apply Fin.ext; simp only; omega)
    | (congr 3; apply Fin.ext; simp only; omega)

theorem n_apply (n : Vec Ideal S1x1024 .f32) (k : Fin 1024) :
    (shapeCast S1x1024 (shapeCast S1024 n shapeCasts_S1x1024_S1024) shapeCasts_S1024_S1x1024 : FVec Ideal S1x1024 .f32) (ix2 0 k)
      = n (ix2 0 k) := by
  pointwise

theorem at0 : ∀ t : Fin cfg0.N, win0_0.index t 0 = t.val / 2 ∧ win0_0.index t 1 = t.val % 2 ∧ win0_0.index t 2 = 0 :=
  (by decide +kernel : ∀ t : Fin grid0.N, _)
theorem at1 : ∀ t : Fin cfg0.N, win0_1.index t 0 = t.val / 2 ∧ win0_1.index t 1 = 0 ∧ win0_1.index t 2 = 0 :=
  (by decide +kernel : ∀ t : Fin grid0.N, _)
theorem at2 : ∀ t : Fin cfg0.N, win0_2.index t 0 = t.val / 2 ∧ win0_2.index t 1 = 0 ∧ win0_2.index t 2 = 0 :=
  (by decide +kernel : ∀ t : Fin grid0.N, _)
theorem at3 : ∀ t : Fin cfg0.N, win0_3.index t 0 = 0 ∧ win0_3.index t 1 = 0 :=
  (by decide +kernel : ∀ t : Fin grid0.N, _)
theorem at4 : ∀ t : Fin cfg0.N, win0_4.index t 0 = 0 ∧ win0_4.index t 1 = 0 :=
  (by decide +kernel : ∀ t : Fin grid0.N, _)
theorem at5 : ∀ t : Fin cfg0.N, win0_5.index t 0 = 0 ∧ win0_5.index t 1 = 0 :=
  (by decide +kernel : ∀ t : Fin grid0.N, _)
theorem at6 : ∀ t : Fin cfg0.N, win0_6.index t 0 = t.val % 2 ∧ win0_6.index t 1 = 0 :=
  (by decide +kernel : ∀ t : Fin grid0.N, _)
theorem at7 : ∀ t : Fin cfg0.N, win0_7.index t 0 = t.val % 2 ∧ win0_7.index t 1 = 0 :=
  (by decide +kernel : ∀ t : Fin grid0.N, _)
theorem at8 : ∀ t : Fin cfg0.N, win0_8.index t 0 = t.val / 2 ∧ win0_8.index t 1 = 0 ∧ win0_8.index t 2 = t.val % 2 ∧ win0_8.index t 3 = 0 :=
  (by decide +kernel : ∀ t : Fin grid0.N, _)
theorem at9 : ∀ t : Fin cfg0.N, win0_9.index t 0 = t.val / 2 ∧ win0_9.index t 1 = 0 ∧ win0_9.index t 2 = t.val % 2 :=
  (by decide +kernel : ∀ t : Fin grid0.N, _)

theorem lt32 (t : Fin cfg0.N) : t.val < 32 := t.isLt

/-- The batch element and the position that a block's row stands for. -/
def batch (t : Fin cfg0.N) : Fin 16 := ⟨t.val / 2, by have := lt32 t; omega⟩
def pos (t : Fin cfg0.N) (r : Fin 1024) : Fin 2048 := ⟨1024 * (t.val % 2) + r.val, by omega⟩

theorem emb0 (t : Fin cfg0.N) (j : S1x1024x1024.Idx) : ((cfg0.win 0).blk t).view.emb j = (ix3 (batch t) (pos t (j 1)) (j 2) : S16x2048x1024.Idx) := by
  obtain ⟨a0, a1, a2⟩ := at0 t
  funext a; apply Fin.ext
  match a with
  | ⟨0, _⟩ => show win0_0.index t 0 * 1 + 1 * (j 0).val = t.val / 2; have : (j 0).val < 1 := (j 0).isLt; omega
  | ⟨1, _⟩ => show win0_0.index t 1 * 1024 + 1 * (j 1).val = 1024 * (t.val % 2) + (j 1).val; omega
  | ⟨2, _⟩ => show win0_0.index t 2 * 1024 + 1 * (j 2).val = (j 2).val; omega

theorem emb1 (t : Fin cfg0.N) (j : S1x1x1024.Idx) : ((cfg0.win 1).blk t).view.emb j = (ix3 (batch t) 0 (j 2) : S16x1x1024.Idx) := by
  obtain ⟨a0, a1, a2⟩ := at1 t
  funext a; apply Fin.ext
  match a with
  | ⟨0, _⟩ => show win0_1.index t 0 * 1 + 1 * (j 0).val = t.val / 2; have : (j 0).val < 1 := (j 0).isLt; omega
  | ⟨1, _⟩ => show win0_1.index t 1 * 1 + 1 * (j 1).val = 0; have : (j 1).val < 1 := (j 1).isLt; omega
  | ⟨2, _⟩ => show win0_1.index t 2 * 1024 + 1 * (j 2).val = (j 2).val; omega

theorem emb2 (t : Fin cfg0.N) (j : S1x1x1024.Idx) : ((cfg0.win 2).blk t).view.emb j = (ix3 (batch t) 0 (j 2) : S16x1x1024.Idx) := by
  obtain ⟨a0, a1, a2⟩ := at2 t
  funext a; apply Fin.ext
  match a with
  | ⟨0, _⟩ => show win0_2.index t 0 * 1 + 1 * (j 0).val = t.val / 2; have : (j 0).val < 1 := (j 0).isLt; omega
  | ⟨1, _⟩ => show win0_2.index t 1 * 1 + 1 * (j 1).val = 0; have : (j 1).val < 1 := (j 1).isLt; omega
  | ⟨2, _⟩ => show win0_2.index t 2 * 1024 + 1 * (j 2).val = (j 2).val; omega

theorem emb3 (t : Fin cfg0.N) (j : S1x1024.Idx) : ((cfg0.win 3).blk t).view.emb j = j := by
  obtain ⟨a0, a1⟩ := at3 t
  funext a; apply Fin.ext
  match a with
  | ⟨0, _⟩ => show win0_3.index t 0 * 1 + 1 * (j 0).val = (j 0).val; omega
  | ⟨1, _⟩ => show win0_3.index t 1 * 1024 + 1 * (j 1).val = (j 1).val; omega

theorem emb4 (t : Fin cfg0.N) (j : S1024x4096.Idx) : ((cfg0.win 4).blk t).view.emb j = j := by
  obtain ⟨a0, a1⟩ := at4 t
  funext a; apply Fin.ext
  match a with
  | ⟨0, _⟩ => show win0_4.index t 0 * 1024 + 1 * (j 0).val = (j 0).val; omega
  | ⟨1, _⟩ => show win0_4.index t 1 * 4096 + 1 * (j 1).val = (j 1).val; omega

theorem emb5 (t : Fin cfg0.N) (j : S512x1024.Idx) : ((cfg0.win 5).blk t).view.emb j = j := by
  obtain ⟨a0, a1⟩ := at5 t
  funext a; apply Fin.ext
  match a with
  | ⟨0, _⟩ => show win0_5.index t 0 * 512 + 1 * (j 0).val = (j 0).val; omega
  | ⟨1, _⟩ => show win0_5.index t 1 * 1024 + 1 * (j 1).val = (j 1).val; omega

theorem emb6 (t : Fin cfg0.N) (j : S1024x128.Idx) : ((cfg0.win 6).blk t).view.emb j = (ix2 (pos t (j 0)) (j 1) : S2048x128.Idx) := by
  obtain ⟨a0, a1⟩ := at6 t
  funext a; apply Fin.ext
  match a with
  | ⟨0, _⟩ => show win0_6.index t 0 * 1024 + 1 * (j 0).val = 1024 * (t.val % 2) + (j 0).val; omega
  | ⟨1, _⟩ => show win0_6.index t 1 * 128 + 1 * (j 1).val = (j 1).val; omega

theorem emb7 (t : Fin cfg0.N) (j : S1024x128.Idx) : ((cfg0.win 7).blk t).view.emb j = (ix2 (pos t (j 0)) (j 1) : S2048x128.Idx) := by
  obtain ⟨a0, a1⟩ := at7 t
  funext a; apply Fin.ext
  match a with
  | ⟨0, _⟩ => show win0_7.index t 0 * 1024 + 1 * (j 0).val = 1024 * (t.val % 2) + (j 0).val; omega
  | ⟨1, _⟩ => show win0_7.index t 1 * 128 + 1 * (j 1).val = (j 1).val; omega

theorem emb8 (t : Fin cfg0.N) (j : S1x28x1024x128.Idx) : ((cfg0.win 8).blk t).view.emb j = (ix4 (batch t) (j 1) (pos t (j 2)) (j 3) : S16x28x2048x128.Idx) := by
  obtain ⟨a0, a1, a2, a3⟩ := at8 t
  funext a; apply Fin.ext
  match a with
  | ⟨0, _⟩ => show win0_8.index t 0 * 1 + 1 * (j 0).val = t.val / 2; have : (j 0).val < 1 := (j 0).isLt; omega
  | ⟨1, _⟩ => show win0_8.index t 1 * 28 + 1 * (j 1).val = (j 1).val; omega
  | ⟨2, _⟩ => show win0_8.index t 2 * 1024 + 1 * (j 2).val = 1024 * (t.val % 2) + (j 2).val; omega
  | ⟨3, _⟩ => show win0_8.index t 3 * 128 + 1 * (j 3).val = (j 3).val; omega

theorem emb9 (t : Fin cfg0.N) (j : S1x512x1024.Idx) : ((cfg0.win 9).blk t).view.emb j = (ix3 (batch t) (j 1) (pos t (j 2)) : S16x512x2048.Idx) := by
  obtain ⟨a0, a1, a2⟩ := at9 t
  funext a; apply Fin.ext
  match a with
  | ⟨0, _⟩ => show win0_9.index t 0 * 1 + 1 * (j 0).val = t.val / 2; have : (j 0).val < 1 := (j 0).isLt; omega
  | ⟨1, _⟩ => show win0_9.index t 1 * 512 + 1 * (j 1).val = (j 1).val; omega
  | ⟨2, _⟩ => show win0_9.index t 2 * 1024 + 1 * (j 2).val = 1024 * (t.val % 2) + (j 2).val; omega

theorem i0 (c : Dev nD) (t : Fin cfg0.N) (s k : Fin 1024) :
    iblk m c 0 t (ix3 0 s k : S1x1024x1024.Idx) = m ((c : Thread nD τ).loc main_arg0) (ix3 (batch t) (pos t s) k) :=
  (congrArg (V m c main_arg0) (emb0 t (ix3 0 s k))).trans (congrFun (V_main_arg0 m c) _)
theorem i1 (c : Dev nD) (t : Fin cfg0.N) (k : Fin 1024) :
    iblk m c 1 t (ix3 0 0 k : S1x1x1024.Idx) = m ((c : Thread nD τ).loc main_arg1) (ix3 (batch t) 0 k) :=
  (congrArg (V m c main_arg1) (emb1 t (ix3 0 0 k))).trans (congrFun (V_main_arg1 m c) _)
theorem i2 (c : Dev nD) (t : Fin cfg0.N) (k : Fin 1024) :
    iblk m c 2 t (ix3 0 0 k : S1x1x1024.Idx) = m ((c : Thread nD τ).loc main_arg2) (ix3 (batch t) 0 k) :=
  (congrArg (V m c main_arg2) (emb2 t (ix3 0 0 k))).trans (congrFun (V_main_arg2 m c) _)
theorem i3 (c : Dev nD) (t : Fin cfg0.N) (k : Fin 1024) :
    iblk m c 3 t (ix2 0 k : S1x1024.Idx) = m ((c : Thread nD τ).loc main_arg3) (ix2 0 k) := by
  refine (congrArg (V m c main_v10) (emb3 t (ix2 0 k))).trans ((congrFun (V_n m c) _).trans ?_)
  exact n_apply _ k
theorem i4 (c : Dev nD) (t : Fin cfg0.N) (k : Fin 1024) (o : Fin 4096) :
    iblk m c 4 t (ix2 k o : S1024x4096.Idx) = m ((c : Thread nD τ).loc main_arg4) (ix3 0 k o) := by
  refine (congrArg (V m c main_v1) (emb4 t (ix2 k o))).trans ((congrFun (V_w m c) _).trans ?_)
  exact w_apply _ k o
theorem i5 (c : Dev nD) (t : Fin cfg0.N) (o : Fin 512) (k : Fin 1024) :
    iblk m c 5 t (ix2 o k : S512x1024.Idx) = m ((c : Thread nD τ).loc main_arg4) (ix3 0 k ⟨1024 + o.val, by omega⟩) := by
  refine (congrArg (V m c main_v5) (emb5 t (ix2 o k))).trans ((congrFun (V_wt m c) _).trans ?_)
  exact wt_apply _ o k
theorem i6 (c : Dev nD) (t : Fin cfg0.N) (s : Fin 1024) (e : Fin 128) :
    iblk m c 6 t (ix2 s e : S1024x128.Idx) = m ((c : Thread nD τ).loc main_arg5) (ix2 (pos t s) ⟨e.val % 64, by omega⟩) := by
  refine (congrArg (V m c main_v6) (emb6 t (ix2 s e))).trans ((congrFun (V_cos m c) _).trans ?_)
  exact cos_apply _ _ e
theorem i7 (c : Dev nD) (t : Fin cfg0.N) (s : Fin 1024) (e : Fin 128) :
    iblk m c 7 t (ix2 s e : S1024x128.Idx) = (fun v : Vec Ideal S2048x64 .f32 =>
      if e.val < 64 then -v (ix2 (pos t s) ⟨e.val % 64, by omega⟩) else v (ix2 (pos t s) ⟨e.val % 64, by omega⟩))
      (m ((c : Thread nD τ).loc main_arg6)) := by
  refine (congrArg (V m c main_v8) (emb7 t (ix2 s e))).trans ((congrFun (V_sin m c) _).trans ?_)
  exact sin_apply _ _ e

/-- The two result arrays' contents named by the argument arrays as launched. -/
abbrev Gm8 (c : Dev nD) : Vec Ideal S16x28x2048x128 .bf16 :=
  G8 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
abbrev Gm9 (c : Dev nD) : Vec Ideal S16x512x2048 .bf16 :=
  G9 (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq8 (c : Dev nD) (t : Fin cfg0.N) :
    (dats m 0 c).flushed 8 t = ((cfg0.win 8).blk t).view.read (Elt Ideal) (Gm8 m c) := by
  rw [flushed8]
  funext j
  show out0_8 _ _ _ _ _ _ _ _ j = Gm8 m c (((cfg0.win 8).blk t).view.emb j)
  rw [emb8]
  refine (block_apply _ _ _ _ _ _ _ _
    (fun s e => (m ((c : Thread nD τ).loc main_arg5) : Vec Ideal S2048x64 .f32) (ix2 (pos t s) e))
    (fun s e => (m ((c : Thread nD τ).loc main_arg6) : Vec Ideal S2048x64 .f32) (ix2 (pos t s) e))
    (i6 m c t) (i7 m c t) j).trans ?_
  exact congrArg (fun P => lat P _ _ (j 1) (j 3)) (proj_congr (fun k => i0 m c t (j 2) k) (fun k => i3 m c t k)
    (fun k => i1 m c t k) (fun k => i2 m c t k) (fun k o => i4 m c t k o))

theorem flushed_eq9 (c : Dev nD) (t : Fin cfg0.N) :
    (dats m 0 c).flushed 9 t = ((cfg0.win 9).blk t).view.read (Elt Ideal) (Gm9 m c) := by
  rw [flushed9]
  funext j
  show out0_9 _ _ _ _ _ _ _ _ j = Gm9 m c (((cfg0.win 9).blk t).view.emb j)
  rw [emb9]
  refine (values_apply _ _ _ _ _ _ _ _ j).trans ?_
  refine Eq.trans (Finset.sum_congr rfl fun k _ => congrArg (_ * ·) ((i5 m c t (j 1) k).trans
    (i4 m c t k ⟨1024 + (j 1).val, by have : (j 1).val < 512 := (j 1).isLt; omega⟩).symm)) ?_
  exact congrFun (proj_congr (fun k => i0 m c t (j 2) k) (fun k => i3 m c t k)
    (fun k => i1 m c t k) (fun k => i2 m c t k) (fun k o => i4 m c t k o)) ⟨1024 + (j 1).val, by have : (j 1).val < 512 := (j 1).isLt; omega⟩

/-- The step whose block holds batch element `b` and position `s`. -/
def step (b : Fin 16) (s : Fin 2048) : Fin cfg0.N := ⟨2 * b.val + s.val / 1024, by show _ < 32; omega⟩

theorem batch_step (b : Fin 16) (s : Fin 2048) : batch (step b s) = b := by
  apply Fin.ext; show (2 * b.val + s.val / 1024) / 2 = b.val; omega
theorem pos_step (b : Fin 16) (s : Fin 2048) : pos (step b s) ⟨s.val % 1024, Nat.mod_lt _ (by decide)⟩ = s := by
  apply Fin.ext; show 1024 * ((2 * b.val + s.val / 1024) % 2) + s.val % 1024 = s.val; omega

theorem covered8 (i : S16x28x2048x128.Idx) :
    ∃ t : Fin cfg0.N, (cfg0.win 8).flush t = true ∧ i ∈ ((cfg0.win 8).blk t).view.set := by
  obtain ⟨b, g, s, d, rfl⟩ : ∃ (b : Fin 16) (g : Fin 28) (s : Fin 2048) (d : Fin 128), i = ix4 b g s d :=
    ⟨i 0, i 1, i 2, i 3, funext fun a => match a with | ⟨0, _⟩ => rfl | ⟨1, _⟩ => rfl | ⟨2, _⟩ => rfl | ⟨3, _⟩ => rfl⟩
  refine ⟨step b s, flush0_8 _, ?_⟩
  have h := ((cfg0.win 8).blk (step b s)).view.emb_mem_set
    (ix4 0 g ⟨s.val % 1024, Nat.mod_lt _ (by decide)⟩ d : S1x28x1024x128.Idx)
  have hi : ((cfg0.win 8).blk (step b s)).view.emb (ix4 0 g ⟨s.val % 1024, Nat.mod_lt _ (by decide)⟩ d : S1x28x1024x128.Idx)
      = (ix4 b g s d : S16x28x2048x128.Idx) := by
    refine (emb8 _ _).trans ?_
    show ix4 (batch (step b s)) g (pos (step b s) ⟨s.val % 1024, Nat.mod_lt _ (by decide)⟩) d = _
    rw [batch_step, pos_step]
  rw [hi] at h
  exact h

theorem covered9 (i : S16x512x2048.Idx) :
    ∃ t : Fin cfg0.N, (cfg0.win 9).flush t = true ∧ i ∈ ((cfg0.win 9).blk t).view.set := by
  obtain ⟨b, o, s, rfl⟩ : ∃ (b : Fin 16) (o : Fin 512) (s : Fin 2048), i = ix3 b o s :=
    ⟨i 0, i 1, i 2, funext fun a => match a with | ⟨0, _⟩ => rfl | ⟨1, _⟩ => rfl | ⟨2, _⟩ => rfl⟩
  refine ⟨step b s, flush0_9 _, ?_⟩
  have h := ((cfg0.win 9).blk (step b s)).view.emb_mem_set
    (ix3 0 o ⟨s.val % 1024, Nat.mod_lt _ (by decide)⟩ : S1x512x1024.Idx)
  have hi : ((cfg0.win 9).blk (step b s)).view.emb (ix3 0 o ⟨s.val % 1024, Nat.mod_lt _ (by decide)⟩ : S1x512x1024.Idx)
      = (ix3 b o s : S16x512x2048.Idx) := by
    refine (emb9 _ _).trans ?_
    show ix3 (batch (step b s)) o (pos (step b s) ⟨s.val % 1024, Nat.mod_lt _ (by decide)⟩) = _
    rw [batch_step, pos_step]
  rw [hi] at h
  exact h

theorem final8 (c : Dev nD) : (dats m 0 c).arrAt 8 cfg0.N = Gm8 m c :=
  (dats m 0 c).arrAt_eq_of_cover 8 (Gm8 m c) (fun t _ => flushed_eq8 m c t) covered8
theorem final9 (c : Dev nD) : (dats m 0 c).arrAt 9 cfg0.N = Gm9 m c :=
  (dats m 0 c).arrAt_eq_of_cover 9 (Gm9 m c) (fun t _ => flushed_eq9 m c t) covered9

end Cert.In

namespace Cert.In.Ref

open Cert.InReferenceIdeal Cert.InReferenceIdeal.Gen Cert.InReferenceIdeal.Read Idealize.ShloMosaic Idealize.ShloMosaic.TcCoe Idealize.SL.Sem

variable (x : Vec Ideal S16x2048x1024 .f32) (sc sh : Vec Ideal S16x1x1024 .f32) (n : Vec Ideal S1x1024 .f32) (w : Vec Ideal S1x1024x4096 .f32)
  (c s : Vec Ideal S2048x64 .f32)

theorem normed_apply (b : Fin 16) (t : Fin 2048) (k : Fin 1024) : val_main_v19 (F := Ideal) x sc sh n (ix3 b t k)
    = modulated (fun k => x (ix3 b t k)) (fun k => n (ix2 0 k)) (fun k => sc (ix3 b 0 k)) (fun k => sh (ix3 b 0 k)) k := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, modulated, inv]

theorem token_apply (b : Fin 16) (t : Fin 2048) (o : Fin 4096) : val_main_v21 (F := Ideal) x sc sh n w (ix3 b t o) = token x sc sh n w b t o := by
  unfold val_main_v21
  have h := normed_apply x sc sh n b t
  generalize val_main_v19 (F := Ideal) x sc sh n = y at h
  pointwise [h, val_main_v20, token, proj]

theorem g0 (b : Fin 16) (q : Fin 4) (t : Fin 2048) (d : Fin 128) :
    val_main_v33 (F := Ideal) x sc sh n w (ix4 b q t d) = lanes (token x sc sh n w b t) 0 (by decide) q d * Ideal.ofBits .f32 0x3E38AA3B#32 := by
  have h := token_apply x sc sh n w b t
  pointwise [val_main_v33, val_main_v32, val_main_cst_3, val_main_v31, val_main_v30, val_main_v22, h, lanes]
  simp only [Nat.mul_comm (q : Nat) 128]

theorem g1 (b : Fin 16) (q : Fin 4) (t : Fin 2048) (d : Fin 128) :
    val_main_v36 (F := Ideal) x sc sh n w (ix4 b q t d) = silu (lanes (token x sc sh n w b t) 1536 (by decide) q d) := by
  have h := token_apply x sc sh n w b t
  pointwise [val_main_v36, val_main_call0_v5, val_main_call0_v4, val_main_call0_cst_0, val_main_call0_v3, val_main_call0_v2, val_main_call0_cst, val_main_call0_v1, val_main_call0_v0, val_main_v35, val_main_v34, val_main_v25, h, lanes, silu]
  simp only [Nat.mul_comm (q : Nat) 128]

theorem g2 (b : Fin 16) (q : Fin 4) (t : Fin 2048) (d : Fin 128) :
    val_main_v55 (F := Ideal) x sc sh n w c s (ix4 b q t d) = rotary (lanes (token x sc sh n w b t) 2048 (by decide) q) (fun e => c (ix2 t e)) (fun e => s (ix2 t e)) d := by
  have h := token_apply x sc sh n w b t
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v26, h, lanes, rotary]
  repeat' split
  all_goals first
    | omega
    | rfl
    | (congr 3 <;> apply Fin.ext <;> simp only <;> omega)

theorem g3r (b : Fin 16) (q : Fin 4) (t : Fin 2048) (d : Fin 128) :
    val_main_v74 (F := Ideal) x sc sh n w c s (ix4 b q t d) = rotary (lanes (token x sc sh n w b t) 2560 (by decide) q) (fun e => c (ix2 t e)) (fun e => s (ix2 t e)) d := by
  have h := token_apply x sc sh n w b t
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v27, h, lanes, rotary]
  repeat' split
  all_goals first
    | omega
    | rfl
    | (congr 3 <;> apply Fin.ext <;> simp only <;> omega)

theorem g3 (b : Fin 16) (q : Fin 4) (t : Fin 2048) (d : Fin 128) : val_main_v76 (F := Ideal) x sc sh n w c s (ix4 b q t d)
    = rotary (lanes (token x sc sh n w b t) 2560 (by decide) q) (fun e => c (ix2 t e)) (fun e => s (ix2 t e)) d * Ideal.ofBits .f32 0x3DB504F3#32 := by
  have h := g3r x sc sh n w c s b q t d
  pointwise [val_main_v76, val_main_v75, val_main_cst_4, h]

theorem g4 (b : Fin 16) (q : Fin 4) (t : Fin 2048) (d : Fin 128) :
    val_main_v79 (F := Ideal) x sc sh n w (ix4 b q t d) = silu (lanes (token x sc sh n w b t) 3584 (by decide) q d) := by
  have h := token_apply x sc sh n w b t
  pointwise [val_main_v79, val_main_call1_v5, val_main_call1_v4, val_main_call1_cst_0, val_main_call1_v3, val_main_call1_v2, val_main_call1_cst, val_main_call1_v1, val_main_call1_v0, val_main_v78, val_main_v77, val_main_v29, h, lanes, silu]
  simp only [Nat.mul_comm (q : Nat) 128]

theorem g5 (b : Fin 16) (q : Fin 4) (t : Fin 2048) (d : Fin 128) :
    val_main_v81 (F := Ideal) x sc sh n w (ix4 b q t d) = lanes (token x sc sh n w b t) 512 (by decide) q d := by
  have h := token_apply x sc sh n w b t
  pointwise [val_main_v81, val_main_v80, val_main_v23, h, lanes]
  simp only [Nat.mul_comm (q : Nat) 128]

theorem g6 (b : Fin 16) (q : Fin 4) (t : Fin 2048) (d : Fin 128) :
    val_main_v83 (F := Ideal) x sc sh n w (ix4 b q t d) = lanes (token x sc sh n w b t) 3072 (by decide) q d := by
  have h := token_apply x sc sh n w b t
  pointwise [val_main_v83, val_main_v82, val_main_v28, h, lanes]
  simp only [Nat.mul_comm (q : Nat) 128]

/-- Seven groups of four heads joined: the value at a head is its group's. -/
theorem joined (a0 a1 a2 a3 a4 a5 a6 : Vec Ideal S16x4x2048x128 .f32) (b : Fin 16) (g : Fin 28) (t : Fin 2048) (d : Fin 128)
    (v : Ideal .f32) (h0 : ∀ q : Fin 4, g.val = 4 * 0 + q.val → a0 (ix4 b q t d) = v)
    (h1 : ∀ q : Fin 4, g.val = 4 * 1 + q.val → a1 (ix4 b q t d) = v) (h2 : ∀ q : Fin 4, g.val = 4 * 2 + q.val → a2 (ix4 b q t d) = v)
    (h3 : ∀ q : Fin 4, g.val = 4 * 3 + q.val → a3 (ix4 b q t d) = v) (h4 : ∀ q : Fin 4, g.val = 4 * 4 + q.val → a4 (ix4 b q t d) = v)
    (h5 : ∀ q : Fin 4, g.val = 4 * 5 + q.val → a5 (ix4 b q t d) = v) (h6 : ∀ q : Fin 4, g.val = 4 * 6 + q.val → a6 (ix4 b q t d) = v) :
    (concatenate S16x28x2048x128 1 [⟨S16x4x2048x128, a0⟩, ⟨S16x4x2048x128, a1⟩, ⟨S16x4x2048x128, a2⟩, ⟨S16x4x2048x128, a3⟩,
      ⟨S16x4x2048x128, a4⟩, ⟨S16x4x2048x128, a5⟩, ⟨S16x4x2048x128, a6⟩] concatenates_S16x4x2048x128_S16x4x2048x128_S16x4x2048x128_S16x4x2048x128_S16x4x2048x128_S16x4x2048x128_S16x4x2048x128_S16x28x2048x128_d1 : FVec Ideal S16x28x2048x128 .f32) (ix4 b g t d) = v := by
  pointwise
  repeat' split
  all_goals first
    | exact h0 _ (by simp only; omega)
    | exact h1 _ (by simp only; omega)
    | exact h2 _ (by simp only; omega)
    | exact h3 _ (by simp only; omega)
    | exact h4 _ (by simp only; omega)
    | exact h5 _ (by simp only; omega)
    | exact h6 _ (by simp only; omega)
    | omega

theorem eq_G8 : val_main_v85 (F := Ideal) x sc sh n w c s = G8 x sc sh n w c s := by
  funext i
  obtain ⟨b, g, t, d, rfl⟩ : ∃ (b : Fin 16) (g : Fin 28) (t : Fin 2048) (d : Fin 128), i = ix4 b g t d :=
    ⟨i 0, i 1, i 2, i 3, funext fun a => match a with | ⟨0, _⟩ => rfl | ⟨1, _⟩ => rfl | ⟨2, _⟩ => rfl | ⟨3, _⟩ => rfl⟩
  have hl := fun (j : Nat) (q : Fin 4) (h : g.val = 4 * j + q.val) =>
    (lat_eq (token x sc sh n w b t) (fun e => c (ix2 t e)) (fun e => s (ix2 t e)) j q g d d h rfl).symm
  exact joined _ _ _ _ _ _ _ b g t d _ (fun q h => (g0 x sc sh n w b q t d).trans (hl 0 q h))
    (fun q h => (g1 x sc sh n w b q t d).trans (hl 1 q h)) (fun q h => (g2 x sc sh n w c s b q t d).trans (hl 2 q h))
    (fun q h => (g3 x sc sh n w c s b q t d).trans (hl 3 q h)) (fun q h => (g4 x sc sh n w b q t d).trans (hl 4 q h))
    (fun q h => (g5 x sc sh n w b q t d).trans (hl 5 q h)) (fun q h => (g6 x sc sh n w b q t d).trans (hl 6 q h))

theorem eq_G9 : val_main_v87 (F := Ideal) x sc sh n w = G9 x sc sh n w := by
  funext i
  obtain ⟨b, o, t, rfl⟩ : ∃ (b : Fin 16) (o : Fin 512) (t : Fin 2048), i = ix3 b o t :=
    ⟨i 0, i 1, i 2, funext fun a => match a with | ⟨0, _⟩ => rfl | ⟨1, _⟩ => rfl | ⟨2, _⟩ => rfl⟩
  have h := token_apply x sc sh n w b t
  pointwise [val_main_v87, val_main_v86, val_main_v24, h, G9]

end Cert.In.Ref

namespace Cert.In

theorem equation : Cert.algebraic_InProjIdeal_InReferenceIdeal (hInProjIdeal := Cert.InProjIdeal.Gen.facts)
    (hInReferenceIdeal := Cert.InReferenceIdeal.Gen.facts) := by
  intro m g m' g' _ hm
  refine ⟨fun c => Gm8 m c, fun c => Gm9 m c, ?_, ?_⟩
  · exact (Idealize.ShloMosaic.θ_run _ _ _).mono (fun r h c => ⟨(h c).1.trans (final8 m c), (h c).2.1.trans (final9 m c), (h c).2.2⟩)
      (Cert.InProjIdeal.Value.run_blocks m g)
  · refine (Idealize.ShloMosaic.θ_run _ _ _).mono (fun r h c => ⟨(h c).1.trans ?_, (h c).2.1.trans ?_, (h c).2.2⟩)
      (Cert.InReferenceIdeal.Value.run m' g')
    · obtain ⟨h0, h1, h2, h3, h4, h5, h6⟩ := hm c
      rw [Cert.InReferenceIdeal.Read.val_main_v85_eq, h0, h1, h2, h3, h4, h5, h6]
      exact Ref.eq_G8 _ _ _ _ _ _ _
    · obtain ⟨h0, h1, h2, h3, h4, h5, h6⟩ := hm c
      rw [Cert.InReferenceIdeal.Read.val_main_v87_eq, h0, h1, h2, h3, h4]
      exact Ref.eq_G9 _ _ _ _ _

end Cert.In

end
-- ==== Proof.CtxTile.lean ====
/- The context's input projection: what its body leaves in a block, from the lemmas about the latent tokens' body. -/
module

public import proofs.«01_k».proof.Proof.InTile
public import proofs.«01_k».proof.Proof.Gen.CtxProjIdeal.Value

@[expose] public section

noncomputable section

namespace Cert.Ctx

open Cert.CtxProjIdeal Cert.CtxProjIdeal.Gen Idealize.ShloMosaic
open Cert.In (modulated proj lanes acc scaled normed cols group group_allAt column scaled_apply valuesT values_tile SH)

/-- The heads of one context position: the attention's keys, the retention's scaled keys, the retention's values. -/
def part (P : Fin 4096 → Ideal .f32) (j : Nat) (q : Fin 4) (d : Fin 128) : Ideal .bf16 :=
  match j with
  | 0 => lanes P 512 (by decide) q d
  | 1 => lanes P 2560 (by decide) q d * Ideal.ofBits .f32 0x3DB504F3#32
  | _ => lanes P 3072 (by decide) q d

def lat (P : Fin 4096 → Ideal .f32) (g : Fin 12) (d : Fin 128) : Ideal .bf16 :=
  part P (g.val / 4) ⟨g.val % 4, Nat.mod_lt _ (by decide)⟩ d

theorem lat_eq (P : Fin 4096 → Ideal .f32) (j : Nat) (q : Fin 4) (g : Fin 12) (d d' : Fin 128)
    (hg : g.val = 4 * j + q.val) (hd : d.val = d'.val) : lat P g d = part P j q d' := by
  have e1 : g.val / 4 = j := by omega
  have e2 : (⟨g.val % 4, Nat.mod_lt _ (by decide)⟩ : Fin 4) = q := Fin.ext (by simp only; omega)
  unfold lat
  rw [e1, e2, Fin.ext hd]

/-- What the body stores of the rows from `p`, before the pieces `L`. -/
def rows (p : Nat) (hp : p + 256 ≤ 1024) (x0 : Vec Ideal S1x1024x1024 .f32) (x1 x2 : Vec Ideal S1x1x1024 .f32)
    (x3 : Vec Ideal S1x1024 .f32) (x4 : Vec Ideal S1024x4096 .bf16)
    (L : List (View.Piece (Elt Ideal) (SH 12) .bf16)) : List (View.Piece (Elt Ideal) (SH 12) .bf16) :=
  group 12 8 p (by decide) hp (acc (normed p hp x0 x1 x2 x3) (cols 3072 (by decide) x4)) <|
  group 12 4 p (by decide) hp (scaled 0x3DB504F3#32 (acc (normed p hp x0 x1 x2 x3) (cols 2560 (by decide) x4))) <|
  group 12 0 p (by decide) hp (acc (normed p hp x0 x1 x2 x3) (cols 512 (by decide) x4)) L

theorem pieces (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32) :
    out0_8 x0 x1 x2 x3 x4 x5 x6 x7 = View.canon (rows 768 (by decide) x0 x1 x2 x3 x4
      (rows 512 (by decide) x0 x1 x2 x3 x4 (rows 256 (by decide) x0 x1 x2 x3 x4
      (rows 0 (by decide) x0 x1 x2 x3 x4 [])))) := by
  rfl

theorem rows_allAt (p : Nat) (hp : p + 256 ≤ 1024) (x0 : Vec Ideal S1x1024x1024 .f32) (x1 x2 : Vec Ideal S1x1x1024 .f32)
    (x3 : Vec Ideal S1x1024 .f32) (x4 : Vec Ideal S1024x4096 .bf16)
    (L : List (View.Piece (Elt Ideal) (SH 12) .bf16)) (y : (SH 12).Idx) (v : Ideal .bf16)
    (hv : lat (proj (modulated (fun k => x0 (ix3 0 (y 2) k)) (fun k => x3 (ix2 0 k)) (fun k => x1 (ix3 0 0 k))
        (fun k => x2 (ix3 0 0 k))) (fun k o => x4 (ix2 k o))) (y 1) (y 3) = v)
    (hL : View.AllAt (Val := Elt Ideal) L y v) :
    View.AllAt (Val := Elt Ideal) (rows p hp x0 x1 x2 x3 x4 L) y v := by
  have hcol := fun (o : Nat) (ho : o ≤ 3584) (r : Fin 256) (h2 : (y 2).val = p + r.val) (q : Fin 4) (d : Fin 128) =>
    column p hp x0 x1 x2 x3 x4 o ho r (y 2) h2 q d
  have hlat := fun (j : Nat) (q : Fin 4) (d : Fin 128) (h1 : (y 1).val = 4 * j + q.val) (h3 : (y 3).val = d.val) =>
    (lat_eq _ j q (y 1) (y 3) d h1 h3).symm.trans hv
  unfold rows
  refine group_allAt 12 8 p _ hp _ _ y v (fun q r d h1 h2 h3 => ?_) ?_
  · exact (hcol 3072 _ r h2 q d).trans (hlat 2 q d h1 h3)
  refine group_allAt 12 4 p _ hp _ _ y v (fun q r d h1 h2 h3 => ?_) ?_
  · exact (scaled_apply _ _ _).trans ((congrArg (· * _) (hcol 2560 _ r h2 q d)).trans (hlat 1 q d h1 h3))
  refine group_allAt 12 0 p _ hp _ _ y v (fun q r d h1 h2 h3 => ?_) hL
  exact (hcol 512 _ r h2 q d).trans (hlat 0 q d (by omega) h3)

/-- What the body leaves in the heads' block, at an index. -/
theorem block_apply (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32)
    (y : S1x12x1024x128.Idx) :
    out0_8 x0 x1 x2 x3 x4 x5 x6 x7 y = lat (proj (modulated (fun k => x0 (ix3 0 (y 2) k)) (fun k => x3 (ix2 0 k))
      (fun k => x1 (ix3 0 0 k)) (fun k => x2 (ix3 0 0 k))) (fun k o => x4 (ix2 k o))) (y 1) (y 3) := by
  rw [pieces]
  refine View.canon_eq_of_allAt _ y _ ?_ ?_
  · exact View.cover_of_tiled (rows 768 _ x0 x1 x2 x3 x4 (rows 512 _ x0 x1 x2 x3 x4
      (rows 256 _ x0 x1 x2 x3 x4 (rows 0 _ x0 x1 x2 x3 x4 [])))) S1x1x256x128.size (by rfl) y
  iterate 4 refine rows_allAt _ _ x0 x1 x2 x3 x4 _ y _ rfl ?_
  exact View.allAt_nil y _

theorem values_pieces (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32) :
    out0_9 x0 x1 x2 x3 x4 x5 x6 x7 = View.canon [⟨r0_49, valuesT (normed 768 (by decide) x0 x1 x2 x3) x5⟩,
      ⟨r0_36, valuesT (normed 512 (by decide) x0 x1 x2 x3) x5⟩, ⟨r0_22, valuesT (normed 256 (by decide) x0 x1 x2 x3) x5⟩,
      ⟨r0_5, valuesT (normed 0 (by decide) x0 x1 x2 x3) x5⟩] := by
  have hz5 : View.ld x5 r0_4 = x5 := View.ld_unit_zero (funext fun a => by fin_cases a <;> rfl) _ _
  unfold_out out0_9
  rw [hz5]
  rfl

theorem values_apply (x0 : Vec Ideal S1x1024x1024 .f32) (x1 x2 : Vec Ideal S1x1x1024 .f32) (x3 : Vec Ideal S1x1024 .f32)
    (x4 : Vec Ideal S1024x4096 .bf16) (x5 : Vec Ideal S512x1024 .bf16) (x6 x7 : Vec Ideal S1024x128 .f32)
    (y : S1x512x1024.Idx) :
    out0_9 x0 x1 x2 x3 x4 x5 x6 x7 y = ∑ k : Fin 1024, modulated (fun k => x0 (ix3 0 (y 2) k)) (fun k => x3 (ix2 0 k))
      (fun k => x1 (ix3 0 0 k)) (fun k => x2 (ix3 0 0 k)) k * x5 (ix2 (y 1) k) := by
  rw [values_pieces]
  refine View.canon_eq_of_allAt _ y _ (cover0_9 _ _ _ _ y) ?_
  repeat' (first | exact View.allAt_nil y _ | refine View.allAt_cons_unit _ _ _ _ _ (values_tile _ _ x0 x1 x2 x3 x5 y) ?_)

end Cert.Ctx

end
-- ==== Proof.CtxValue.lean ====
/- The context's input projection: the two result arrays as functions of the arguments, and the reference at the same
   functions. -/
module

public import proofs.«01_k».proof.Defs
public import proofs.«01_k».proof.Proof.CtxTile
public import proofs.«01_k».proof.Proof.InValue
public import proofs.«01_k».proof.Proof.Gen.CtxReferenceIdeal.Read

@[expose] public section

noncomputable section

namespace Cert.Ctx

open Cert.CtxProjIdeal Cert.CtxProjIdeal.Gen Cert.CtxProjIdeal.Value Idealize.ShloMosaic Idealize.ShloMosaic.TcCoe Idealize.SL.Sem
open Idealize.ShloMosaic.Pipeline (Dat)
open Cert.In (modulated proj lanes proj_congr w_apply wt_apply n_apply)

/-- The batch element and the place in it of a position of the joined contexts. -/
def elem (p : Fin 4096) : Fin 16 := ⟨p.val / 256, by omega⟩
def place (p : Fin 4096) : Fin 256 := ⟨p.val % 256, Nat.mod_lt _ (by decide)⟩

/-- One context token's projection onto the 4096 columns, from the whole arrays. -/
def token (x : Vec Ideal S16x256x1024 .f32) (sc sh : Vec Ideal S1x1x1024 .f32) (n : Vec Ideal S1x1024 .f32)
    (w : Vec Ideal S1x1024x4096 .f32) (p : Fin 4096) : Fin 4096 → Ideal .f32 :=
  proj (modulated (fun k => x (ix3 (elem p) (place p) k)) (fun k => n (ix2 0 k)) (fun k => sc (ix3 0 0 k))
    (fun k => sh (ix3 0 0 k))) (fun k o => w (ix3 0 k o))

/-- The heads that the mixers read. -/
def G8 (x : Vec Ideal S16x256x1024 .f32) (sc sh : Vec Ideal S1x1x1024 .f32) (n : Vec Ideal S1x1024 .f32)
    (w : Vec Ideal S1x1024x4096 .f32) : Vec Ideal S1x12x4096x128 .bf16 := fun i =>
  lat (token x sc sh n w (i 2)) (i 1) (i 3)

/-- The attention's values, transposed. -/
def G9 (x : Vec Ideal S16x256x1024 .f32) (sc sh : Vec Ideal S1x1x1024 .f32) (n : Vec Ideal S1x1024 .f32)
    (w : Vec Ideal S1x1024x4096 .f32) : Vec Ideal S1x512x4096 .bf16 := fun i =>
  token x sc sh n w (i 2) ⟨1024 + (i 1).val, by have : (i 1).val < 512 := (i 1).isLt; omega⟩

variable (m : (ℓ : Loc nD τ sig) → Buf (Elt Ideal) ℓ) (ρ : Dev nD → PrngReg)

theorem V_x (c : Dev nD) : V m c main_v9
    = shapeCast S1x4096x1024 (m ((c : Thread nD τ).loc main_arg0)) shapeCasts_S16x256x1024_S1x4096x1024 := by
  unfold_abbrev_sides
  after_results
  rfl

theorem V_w (c : Dev nD) : V m c main_v1
    = (truncf .bf16 (shapeCast S1024x4096 (m ((c : Thread nD τ).loc main_arg4)) shapeCasts_S1x1024x4096_S1024x4096) bitsLt_bf16_f32 : FVec Ideal S1024x4096 .bf16) := by
  unfold_abbrev_sides
  after_results
  rfl

theorem V_wt (c : Dev nD) : V m c main_v5
    = (truncf .bf16 (transpose S512x1024 [1, 0] (extractStridedSlice S1024x512 ![0, 1024] (shapeCast S1024x4096 (m ((c : Thread nD τ).loc main_arg4)) shapeCasts_S1x1024x4096_S1024x4096) slices_S1024x4096_S1024x512_0_1024) transposes_S1024x512_S512x1024_1_0) bitsLt_bf16_f32 : FVec Ideal S512x1024 .bf16) := by
  unfold_abbrev_sides
  after_results
  rfl

theorem V_n (c : Dev nD) : V m c main_v11
    = shapeCast S1x1024 (shapeCast S1024 (m ((c : Thread nD τ).loc main_arg3)) shapeCasts_S1x1024_S1024) shapeCasts_S1024_S1x1024 := by
  unfold_abbrev_sides
  after_results
  rfl

theorem x_apply (x : Vec Ideal S16x256x1024 .f32) (p : Fin 4096) (k : Fin 1024) :
    (shapeCast S1x4096x1024 x shapeCasts_S16x256x1024_S1x4096x1024 : FVec Ideal S1x4096x1024 .f32) (ix3 0 p k)
      = x (ix3 (elem p) (place p) k) := by
  pointwise [elem, place]

theorem at0 : ∀ t : Fin cfg0.N, win0_0.index t 0 = 0 ∧ win0_0.index t 1 = t.val ∧ win0_0.index t 2 = 0 :=
  (by decide +kernel : ∀ t : Fin grid0.N, _)
theorem at1 : ∀ t : Fin cfg0.N, win0_1.index t 0 = 0 ∧ win0_1.index t 1 = 0 ∧ win0_1.index t 2 = 0 :=
  (by decide +kernel : ∀ t : Fin grid0.N, _)
theorem at2 : ∀ t : Fin cfg0.N, win0_2.index t 0 = 0 ∧ win0_2.index t 1 = 0 ∧ win0_2.index t 2 = 0 :=
  (by decide +kernel : ∀ t : Fin grid0.N, _)
theorem at3 : ∀ t : Fin cfg0.N, win0_3.index t 0 = 0 ∧ win0_3.index t 1 = 0 :=
  (by decide +kernel : ∀ t : Fin grid0.N, _)
theorem at4 : ∀ t : Fin cfg0.N, win0_4.index t 0 = 0 ∧ win0_4.index t 1 = 0 :=
  (by decide +kernel : ∀ t : Fin grid0.N, _)
theorem at5 : ∀ t : Fin cfg0.N, win0_5.index t 0 = 0 ∧ win0_5.index t 1 = 0 :=
  (by decide +kernel : ∀ t : Fin grid0.N, _)
theorem at8 : ∀ t : Fin cfg0.N, win0_8.index t 0 = 0 ∧ win0_8.index t 1 = 0 ∧ win0_8.index t 2 = t.val ∧ win0_8.index t 3 = 0 :=
  (by decide +kernel : ∀ t : Fin grid0.N, _)
theorem at9 : ∀ t : Fin cfg0.N, win0_9.index t 0 = 0 ∧ win0_9.index t 1 = 0 ∧ win0_9.index t 2 = t.val :=
  (by decide +kernel : ∀ t : Fin grid0.N, _)

theorem lt4 (t : Fin cfg0.N) : t.val < 4 := t.isLt

/-- The position that a block's row stands for. -/
def pos (t : Fin cfg0.N) (r : Fin 1024) : Fin 4096 := ⟨1024 * t.val + r.val, by have := lt4 t; omega⟩

theorem emb0 (t : Fin cfg0.N) (j : S1x1024x1024.Idx) : ((cfg0.win 0).blk t).view.emb j = (ix3 0 (pos t (j 1)) (j 2) : S1x4096x1024.Idx) := by
  obtain ⟨a0, a1, a2⟩ := at0 t
  funext a; apply Fin.ext
  match a with
  | ⟨0, _⟩ => show win0_0.index t 0 * 1 + 1 * (j 0).val = 0; have : (j 0).val < 1 := (j 0).isLt; omega
  | ⟨1, _⟩ => show win0_0.index t 1 * 1024 + 1 * (j 1).val = 1024 * t.val + (j 1).val; omega
  | ⟨2, _⟩ => show win0_0.index t 2 * 1024 + 1 * (j 2).val = (j 2).val; omega

theorem emb1 (t : Fin cfg0.N) (j : S1x1x1024.Idx) : ((cfg0.win 1).blk t).view.emb j = j := by
  obtain ⟨a0, a1, a2⟩ := at1 t
  funext a; apply Fin.ext
  match a with
  | ⟨0, _⟩ => show win0_1.index t 0 * 1 + 1 * (j 0).val = (j 0).val; omega
  | ⟨1, _⟩ => show win0_1.index t 1 * 1 + 1 * (j 1).val = (j 1).val; omega
  | ⟨2, _⟩ => show win0_1.index t 2 * 1024 + 1 * (j 2).val = (j 2).val; omega

theorem emb2 (t : Fin cfg0.N) (j : S1x1x1024.Idx) : ((cfg0.win 2).blk t).view.emb j = j := by
  obtain ⟨a0, a1, a2⟩ := at2 t
  funext a; apply Fin.ext
  match a with
  | ⟨0, _⟩ => show win0_2.index t 0 * 1 + 1 * (j 0).val = (j 0).val; omega
  | ⟨1, _⟩ => show win0_2.index t 1 * 1 + 1 * (j 1).val = (j 1).val; omega
  | ⟨2, _⟩ => show win0_2.index t 2 * 1024 + 1 * (j 2).val = (j 2).val; omega

theorem emb3 (t : Fin cfg0.N) (j : S1x1024.Idx) : ((cfg0.win 3).blk t).view.emb j = j := by
  obtain ⟨a0, a1⟩ := at3 t
  funext a; apply Fin.ext
  match a with
  | ⟨0, _⟩ => show win0_3.index t 0 * 1 + 1 * (j 0).val = (j 0).val; omega
  | ⟨1, _⟩ => show win0_3.index t 1 * 1024 + 1 * (j 1).val = (j 1).val; omega

theorem emb4 (t : Fin cfg0.N) (j : S1024x4096.Idx) : ((cfg0.win 4).blk t).view.emb j = j := by
  obtain ⟨a0, a1⟩ := at4 t
  funext a; apply Fin.ext
  match a with
  | ⟨0, _⟩ => show win0_4.index t 0 * 1024 + 1 * (j 0).val = (j 0).val; omega
  | ⟨1, _⟩ => show win0_4.index t 1 * 4096 + 1 * (j 1).val = (j 1).val; omega

theorem emb5 (t : Fin cfg0.N) (j : S512x1024.Idx) : ((cfg0.win 5).blk t).view.emb j = j := by
  obtain ⟨a0, a1⟩ := at5 t
  funext a; apply Fin.ext
  match a with
  | ⟨0, _⟩ => show win0_5.index t 0 * 512 + 1 * (j 0).val = (j 0).val; omega
  | ⟨1, _⟩ => show win0_5.index t 1 * 1024 + 1 * (j 1).val = (j 1).val; omega

theorem emb8 (t : Fin cfg0.N) (j : S1x12x1024x128.Idx) : ((cfg0.win 8).blk t).view.emb j = (ix4 0 (j 1) (pos t (j 2)) (j 3) : S1x12x4096x128.Idx) := by
  obtain ⟨a0, a1, a2, a3⟩ := at8 t
  funext a; apply Fin.ext
  match a with
  | ⟨0, _⟩ => show win0_8.index t 0 * 1 + 1 * (j 0).val = 0; have : (j 0).val < 1 := (j 0).isLt; omega
  | ⟨1, _⟩ => show win0_8.index t 1 * 12 + 1 * (j 1).val = (j 1).val; omega
  | ⟨2, _⟩ => show win0_8.index t 2 * 1024 + 1 * (j 2).val = 1024 * t.val + (j 2).val; omega
  | ⟨3, _⟩ => show win0_8.index t 3 * 128 + 1 * (j 3).val = (j 3).val; omega

theorem emb9 (t : Fin cfg0.N) (j : S1x512x1024.Idx) : ((cfg0.win 9).blk t).view.emb j = (ix3 0 (j 1) (pos t (j 2)) : S1x512x4096.Idx) := by
  obtain ⟨a0, a1, a2⟩ := at9 t
  funext a; apply Fin.ext
  match a with
  | ⟨0, _⟩ => show win0_9.index t 0 * 1 + 1 * (j 0).val = 0; have : (j 0).val < 1 := (j 0).isLt; omega
  | ⟨1, _⟩ => show win0_9.index t 1 * 512 + 1 * (j 1).val = (j 1).val; omega
  | ⟨2, _⟩ => show win0_9.index t 2 * 1024 + 1 * (j 2).val = 1024 * t.val + (j 2).val; omega

theorem i0 (c : Dev nD) (t : Fin cfg0.N) (s k : Fin 1024) :
    iblk m c 0 t (ix3 0 s k : S1x1024x1024.Idx)
      = m ((c : Thread nD τ).loc main_arg0) (ix3 (elem (pos t s)) (place (pos t s)) k) := by
  refine (congrArg (V m c main_v9) (emb0 t (ix3 0 s k))).trans ((congrFun (V_x m c) _).trans ?_)
  exact x_apply _ (pos t s) k
theorem i1 (c : Dev nD) (t : Fin cfg0.N) (k : Fin 1024) :
    iblk m c 1 t (ix3 0 0 k : S1x1x1024.Idx) = m ((c : Thread nD τ).loc main_arg1) (ix3 0 0 k) :=
  (congrArg (V m c main_arg1) (emb1 t (ix3 0 0 k))).trans (congrFun (V_main_arg1 m c) _)
theorem i2 (c : Dev nD) (t : Fin cfg0.N) (k : Fin 1024) :
    iblk m c 2 t (ix3 0 0 k : S1x1x1024.Idx) = m ((c : Thread nD τ).loc main_arg2) (ix3 0 0 k) :=
  (congrArg (V m c main_arg2) (emb2 t (ix3 0 0 k))).trans (congrFun (V_main_arg2 m c) _)
theorem i3 (c : Dev nD) (t : Fin cfg0.N) (k : Fin 1024) :
    iblk m c 3 t (ix2 0 k : S1x1024.Idx) = m ((c : Thread nD τ).loc main_arg3) (ix2 0 k) := by
  refine (congrArg (V m c main_v11) (emb3 t (ix2 0 k))).trans ((congrFun (V_n m c) _).trans ?_)
  exact n_apply _ k
theorem i4 (c : Dev nD) (t : Fin cfg0.N) (k : Fin 1024) (o : Fin 4096) :
    iblk m c 4 t (ix2 k o : S1024x4096.Idx) = m ((c : Thread nD τ).loc main_arg4) (ix3 0 k o) := by
  refine (congrArg (V m c main_v1) (emb4 t (ix2 k o))).trans ((congrFun (V_w m c) _).trans ?_)
  exact w_apply _ k o
theorem i5 (c : Dev nD) (t : Fin cfg0.N) (o : Fin 512) (k : Fin 1024) :
    iblk m c 5 t (ix2 o k : S512x1024.Idx) = m ((c : Thread nD τ).loc main_arg4) (ix3 0 k ⟨1024 + o.val, by omega⟩) := by
  refine (congrArg (V m c main_v5) (emb5 t (ix2 o k))).trans ((congrFun (V_wt m c) _).trans ?_)
  exact wt_apply _ o k

/-- The two result arrays' contents named by the argument arrays as launched. -/
abbrev Gm8 (c : Dev nD) : Vec Ideal S1x12x4096x128 .bf16 :=
  G8 (m ((c : Thread nD τ).loc main_arg0)) (m ((c : Thread nD τ).loc main_arg1)) (m ((c : Thread nD τ).loc main_arg2))
    (m ((c : Thread nD τ).loc main_arg3)) (m ((c : Thread nD τ).loc main_arg4))
abbrev Gm9 (c : Dev nD) : Vec Ideal S1x512x4096 .bf16 :=
  G9 (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq8 (c : Dev nD) (t : Fin cfg0.N) :
    (dats m 0 c).flushed 8 t = ((cfg0.win 8).blk t).view.read (Elt Ideal) (Gm8 m c) := by
  rw [flushed8]
  funext j
  show out0_8 _ _ _ _ _ _ _ _ j = Gm8 m c (((cfg0.win 8).blk t).view.emb j)
  rw [emb8]
  refine (block_apply _ _ _ _ _ _ _ _ j).trans ?_
  exact congrArg (fun P => lat P (j 1) (j 3)) (proj_congr (fun k => i0 m c t (j 2) k) (fun k => i3 m c t k)
    (fun k => i1 m c t k) (fun k => i2 m c t k) (fun k o => i4 m c t k o))

theorem flushed_eq9 (c : Dev nD) (t : Fin cfg0.N) :
    (dats m 0 c).flushed 9 t = ((cfg0.win 9).blk t).view.read (Elt Ideal) (Gm9 m c) := by
  rw [flushed9]
  funext j
  show out0_9 _ _ _ _ _ _ _ _ j = Gm9 m c (((cfg0.win 9).blk t).view.emb j)
  rw [emb9]
  refine (values_apply _ _ _ _ _ _ _ _ j).trans ?_
  refine Eq.trans (Finset.sum_congr rfl fun k _ => congrArg (_ * ·) ((i5 m c t (j 1) k).trans
    (i4 m c t k ⟨1024 + (j 1).val, by have : (j 1).val < 512 := (j 1).isLt; omega⟩).symm)) ?_
  exact congrFun (proj_congr (fun k => i0 m c t (j 2) k) (fun k => i3 m c t k)
    (fun k => i1 m c t k) (fun k => i2 m c t k) (fun k o => i4 m c t k o)) ⟨1024 + (j 1).val, by have : (j 1).val < 512 := (j 1).isLt; omega⟩

/-- The step whose block holds position `p`. -/
def step (p : Fin 4096) : Fin cfg0.N := ⟨p.val / 1024, by show _ < 4; omega⟩

theorem pos_step (p : Fin 4096) : pos (step p) ⟨p.val % 1024, Nat.mod_lt _ (by decide)⟩ = p := by
  apply Fin.ext; show 1024 * (p.val / 1024) + p.val % 1024 = p.val; omega

theorem covered8 (i : S1x12x4096x128.Idx) :
    ∃ t : Fin cfg0.N, (cfg0.win 8).flush t = true ∧ i ∈ ((cfg0.win 8).blk t).view.set := by
  obtain ⟨b, g, s, d, rfl⟩ : ∃ (b : Fin 1) (g : Fin 12) (s : Fin 4096) (d : Fin 128), i = ix4 b g s d :=
    ⟨i 0, i 1, i 2, i 3, funext fun a => match a with | ⟨0, _⟩ => rfl | ⟨1, _⟩ => rfl | ⟨2, _⟩ => rfl | ⟨3, _⟩ => rfl⟩
  refine ⟨step s, flush0_8 _, ?_⟩
  have h := ((cfg0.win 8).blk (step s)).view.emb_mem_set
    (ix4 0 g ⟨s.val % 1024, Nat.mod_lt _ (by decide)⟩ d : S1x12x1024x128.Idx)
  have hi : ((cfg0.win 8).blk (step s)).view.emb (ix4 0 g ⟨s.val % 1024, Nat.mod_lt _ (by decide)⟩ d : S1x12x1024x128.Idx)
      = (ix4 b g s d : S1x12x4096x128.Idx) := by
    refine (emb8 _ _).trans ?_
    show ix4 0 g (pos (step s) ⟨s.val % 1024, Nat.mod_lt _ (by decide)⟩) d = _
    rw [pos_step, Subsingleton.elim b 0]
  rw [hi] at h
  exact h

theorem covered9 (i : S1x512x4096.Idx) :
    ∃ t : Fin cfg0.N, (cfg0.win 9).flush t = true ∧ i ∈ ((cfg0.win 9).blk t).view.set := by
  obtain ⟨b, o, s, rfl⟩ : ∃ (b : Fin 1) (o : Fin 512) (s : Fin 4096), i = ix3 b o s :=
    ⟨i 0, i 1, i 2, funext fun a => match a with | ⟨0, _⟩ => rfl | ⟨1, _⟩ => rfl | ⟨2, _⟩ => rfl⟩
  refine ⟨step s, flush0_9 _, ?_⟩
  have h := ((cfg0.win 9).blk (step s)).view.emb_mem_set
    (ix3 0 o ⟨s.val % 1024, Nat.mod_lt _ (by decide)⟩ : S1x512x1024.Idx)
  have hi : ((cfg0.win 9).blk (step s)).view.emb (ix3 0 o ⟨s.val % 1024, Nat.mod_lt _ (by decide)⟩ : S1x512x1024.Idx)
      = (ix3 b o s : S1x512x4096.Idx) := by
    refine (emb9 _ _).trans ?_
    show ix3 0 o (pos (step s) ⟨s.val % 1024, Nat.mod_lt _ (by decide)⟩) = _
    rw [pos_step, Subsingleton.elim b 0]
  rw [hi] at h
  exact h

theorem final8 (c : Dev nD) : (dats m 0 c).arrAt 8 cfg0.N = Gm8 m c :=
  (dats m 0 c).arrAt_eq_of_cover 8 (Gm8 m c) (fun t _ => flushed_eq8 m c t) covered8
theorem final9 (c : Dev nD) : (dats m 0 c).arrAt 9 cfg0.N = Gm9 m c :=
  (dats m 0 c).arrAt_eq_of_cover 9 (Gm9 m c) (fun t _ => flushed_eq9 m c t) covered9

end Cert.Ctx

namespace Cert.Ctx.Ref

open Cert.CtxReferenceIdeal Cert.CtxReferenceIdeal.Gen Cert.CtxReferenceIdeal.Read Idealize.ShloMosaic Idealize.ShloMosaic.TcCoe Idealize.SL.Sem
open Cert.In (modulated proj lanes)

variable (x : Vec Ideal S16x256x1024 .f32) (sc sh : Vec Ideal S1x1x1024 .f32) (n : Vec Ideal S1x1024 .f32) (w : Vec Ideal S1x1024x4096 .f32)

theorem normed_apply (b : Fin 16) (t : Fin 256) (k : Fin 1024) : val_main_v19 (F := Ideal) x sc sh n (ix3 b t k)
    = modulated (fun k => x (ix3 b t k)) (fun k => n (ix2 0 k)) (fun k => sc (ix3 0 0 k)) (fun k => sh (ix3 0 0 k)) k := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, modulated, Cert.In.inv]

theorem flat_apply (p : Fin 4096) (k : Fin 1024) : val_main_v20 (F := Ideal) x sc sh n (ix3 0 p k)
    = modulated (fun k => x (ix3 (elem p) (place p) k)) (fun k => n (ix2 0 k)) (fun k => sc (ix3 0 0 k)) (fun k => sh (ix3 0 0 k)) k := by
  unfold val_main_v20
  have h := normed_apply x sc sh n (elem p) (place p) k
  generalize val_main_v19 (F := Ideal) x sc sh n = y at h
  rw [← h]
  pointwise [elem, place]

theorem token_apply (p : Fin 4096) (o : Fin 4096) : val_main_v22 (F := Ideal) x sc sh n w (ix3 0 p o) = token x sc sh n w p o := by
  unfold val_main_v22
  have h := flat_apply x sc sh n p
  generalize val_main_v20 (F := Ideal) x sc sh n = y at h
  pointwise [h, val_main_v21, token, proj]

theorem g0 (q : Fin 4) (t : Fin 4096) (d : Fin 128) :
    val_main_v32 (F := Ideal) x sc sh n w (ix4 0 q t d) = lanes (token x sc sh n w t) 512 (by decide) q d := by
  have h := token_apply x sc sh n w t
  pointwise [val_main_v32, val_main_v31, val_main_v24, h, lanes]
  simp only [Nat.mul_comm (q : Nat) 128]

theorem g1 (q : Fin 4) (t : Fin 4096) (d : Fin 128) :
    val_main_v36 (F := Ideal) x sc sh n w (ix4 0 q t d) = lanes (token x sc sh n w t) 2560 (by decide) q d * Ideal.ofBits .f32 0x3DB504F3#32 := by
  have h := token_apply x sc sh n w t
  pointwise [val_main_v36, val_main_v35, val_main_cst_3, val_main_v34, val_main_v33, val_main_v28, h, lanes]
  simp only [Nat.mul_comm (q : Nat) 128]

theorem g2 (q : Fin 4) (t : Fin 4096) (d : Fin 128) :
    val_main_v38 (F := Ideal) x sc sh n w (ix4 0 q t d) = lanes (token x sc sh n w t) 3072 (by decide) q d := by
  have h := token_apply x sc sh n w t
  pointwise [val_main_v38, val_main_v37, val_main_v29, h, lanes]
  simp only [Nat.mul_comm (q : Nat) 128]

/-- Three groups of four heads joined: the value at a head is its group's. -/
theorem joined (a0 a1 a2 : Vec Ideal S1x4x4096x128 .f32) (g : Fin 12) (t : Fin 4096) (d : Fin 128)
    (v : Ideal .f32) (h0 : ∀ q : Fin 4, g.val = 4 * 0 + q.val → a0 (ix4 0 q t d) = v)
    (h1 : ∀ q : Fin 4, g.val = 4 * 1 + q.val → a1 (ix4 0 q t d) = v) (h2 : ∀ q : Fin 4, g.val = 4 * 2 + q.val → a2 (ix4 0 q t d) = v) :
    (concatenate S1x12x4096x128 1 [⟨S1x4x4096x128, a0⟩, ⟨S1x4x4096x128, a1⟩, ⟨S1x4x4096x128, a2⟩]
      concatenates_S1x4x4096x128_S1x4x4096x128_S1x4x4096x128_S1x12x4096x128_d1 : FVec Ideal S1x12x4096x128 .f32) (ix4 0 g t d) = v := by
  pointwise
  repeat' split
  all_goals first
    | exact h0 _ (by simp only; omega)
    | exact h1 _ (by simp only; omega)
    | exact h2 _ (by simp only; omega)
    | omega

theorem eq_G8 : val_main_v40 (F := Ideal) x sc sh n w = G8 x sc sh n w := by
  funext i
  obtain ⟨b, g, t, d, rfl⟩ : ∃ (b : Fin 1) (g : Fin 12) (t : Fin 4096) (d : Fin 128), i = ix4 b g t d :=
    ⟨i 0, i 1, i 2, i 3, funext fun a => match a with | ⟨0, _⟩ => rfl | ⟨1, _⟩ => rfl | ⟨2, _⟩ => rfl | ⟨3, _⟩ => rfl⟩
  obtain rfl : b = 0 := Subsingleton.elim b 0
  have hl := fun (j : Nat) (q : Fin 4) (h : g.val = 4 * j + q.val) => (lat_eq (token x sc sh n w t) j q g d d h rfl).symm
  exact joined _ _ _ g t d _ (fun q h => (g0 x sc sh n w q t d).trans (hl 0 q h))
    (fun q h => (g1 x sc sh n w q t d).trans (hl 1 q h)) (fun q h => (g2 x sc sh n w q t d).trans (hl 2 q h))

theorem eq_G9 : val_main_v42 (F := Ideal) x sc sh n w = G9 x sc sh n w := by
  funext i
  obtain ⟨b, o, t, rfl⟩ : ∃ (b : Fin 1) (o : Fin 512) (t : Fin 4096), i = ix3 b o t :=
    ⟨i 0, i 1, i 2, funext fun a => match a with | ⟨0, _⟩ => rfl | ⟨1, _⟩ => rfl | ⟨2, _⟩ => rfl⟩
  obtain rfl : b = 0 := Subsingleton.elim b 0
  have h := token_apply x sc sh n w t
  pointwise [val_main_v42, val_main_v41, val_main_v25, h, G9]

end Cert.Ctx.Ref

namespace Cert.Ctx

theorem equation : Cert.algebraic_CtxProjIdeal_CtxReferenceIdeal (hCtxProjIdeal := Cert.CtxProjIdeal.Gen.facts)
    (hCtxReferenceIdeal := Cert.CtxReferenceIdeal.Gen.facts) := by
  intro m g m' g' _ hm
  refine ⟨fun c => Gm8 m c, fun c => Gm9 m c, ?_, ?_⟩
  · exact (Idealize.ShloMosaic.θ_run _ _ _).mono (fun r h c => ⟨(h c).1.trans (final8 m c), (h c).2.1.trans (final9 m c), (h c).2.2⟩)
      (Cert.CtxProjIdeal.Value.run_blocks m g)
  · refine (Idealize.ShloMosaic.θ_run _ _ _).mono (fun r h c => ⟨(h c).1.trans ?_, (h c).2.1.trans ?_, (h c).2.2⟩)
      (Cert.CtxReferenceIdeal.Value.run m' g')
    · obtain ⟨h0, h1, h2, h3, h4, h5, h6⟩ := hm c
      rw [Cert.CtxReferenceIdeal.Read.val_main_v40_eq, h0, h1, h2, h3, h4]
      exact Ref.eq_G8 _ _ _ _ _
    · obtain ⟨h0, h1, h2, h3, h4, h5, h6⟩ := hm c
      rw [Cert.CtxReferenceIdeal.Read.val_main_v42_eq, h0, h1, h2, h3, h4]
      exact Ref.eq_G9 _ _ _ _ _

end Cert.Ctx

end
-- ==== Proof.OutTile.lean ====
/- The output projection, one block of 256 rows: what the kernel computes of them, at an index. -/
module

public import proofs.«01_k».proof.Proof.Gen.OutProjIdeal.Value
public import Idealize.ShloMosaic.Lib.Pointwise
public import Idealize.ShloMosaic.Lib.Pipeline.ValueKit.Tiles

@[expose] public section

noncomputable section

namespace Cert.Out

open Cert.OutProjIdeal Cert.OutProjIdeal.Gen Idealize.ShloMosaic Idealize.ShloMosaic.TcCoe Idealize.SL.Sem

/-- The residual stream's row times a scale: from the row `u` its mean square's reciprocal root. -/
def inv (u : Fin 1024 → Ideal .f32) : Ideal .f32 :=
  Ideal.rsqrt (Ideal.div (∑ k : Fin 1024, u k * u k) (Ideal.ofBits .f32 0x44800000#32) + Ideal.ofBits .f32 0x358637BD#32)

/-- The eight head blocks of 256 rows side by side, times the weight matrix. -/
def lin (a0 a1 a2 a3 b0 b1 b2 b3 : Vec Ideal S1x1x256x128 .bf16) (w : Vec Ideal S1024x1024 .bf16) :
    FVec Ideal S256x1024 .f32 := k0_pay2 a0 a1 a2 a3 b0 b1 b2 b3 w

/-- The rows of the result: residual plus gate times product, normalised. -/
def norm (y : FVec Ideal S256x1024 .f32) (x : Vec Ideal S1x256x1024 .f32) (g : Vec Ideal S1x1x1024 .f32)
    (n : Vec Ideal S1x1024 .f32) : FVec Ideal S1x256x1024 .f32 := k0_pay5 y (k0_pay4 x) g n

theorem norm_apply (y : FVec Ideal S256x1024 .f32) (x : Vec Ideal S1x256x1024 .f32) (g : Vec Ideal S1x1x1024 .f32)
    (n : Vec Ideal S1x1024 .f32) (i : S1x256x1024.Idx) :
    norm y x g n i = (x i + g (ix3 0 0 (i 2)) * y (ix2 (i 1) (i 2)))
      * inv (fun k => x (ix3 0 (i 1) k) + g (ix3 0 0 k) * y (ix2 (i 1) k)) * n (ix2 0 (i 2)) := by
  pointwise [norm, k0_pay5, k0_pay4, inv]

/-- The eight blocks of one head each, side by side along the lanes. -/
def cat (a0 a1 a2 a3 b0 b1 b2 b3 : Vec Ideal S1x1x256x128 .bf16) : FVec Ideal S256x1024 .bf16 :=
  concatenate S256x1024 1 [⟨S256x128, shapeCast S256x128 a0 shapeCasts_S1x1x256x128_S256x128⟩,
    ⟨S256x128, shapeCast S256x128 a1 shapeCasts_S1x1x256x128_S256x128⟩,
    ⟨S256x128, shapeCast S256x128 a2 shapeCasts_S1x1x256x128_S256x128⟩,
    ⟨S256x128, shapeCast S256x128 a3 shapeCasts_S1x1x256x128_S256x128⟩,
    ⟨S256x128, shapeCast S256x128 b0 shapeCasts_S1x1x256x128_S256x128⟩,
    ⟨S256x128, shapeCast S256x128 b1 shapeCasts_S1x1x256x128_S256x128⟩,
    ⟨S256x128, shapeCast S256x128 b2 shapeCasts_S1x1x256x128_S256x128⟩,
    ⟨S256x128, shapeCast S256x128 b3 shapeCasts_S1x1x256x128_S256x128⟩]
    concatenates_S256x128_S256x128_S256x128_S256x128_S256x128_S256x128_S256x128_S256x128_S256x1024_d1

theorem lin_eq (a0 a1 a2 a3 b0 b1 b2 b3 : Vec Ideal S1x1x256x128 .bf16) (w : Vec Ideal S1024x1024 .bf16) :
    lin a0 a1 a2 a3 b0 b1 b2 b3 w = matmul (φ₂ := .bf16) dot_S256x1024_S1024x1024_S256x1024_1_0_0_1_n_n none (cat a0 a1 a2 a3 b0 b1 b2 b3)
      (shapeCast S1024x1024 w shapeCasts_S1024x1024_S1024x1024) (constant S256x1024 .f32 0x00000000#32) := rfl

theorem cat_apply (a0 a1 a2 a3 b0 b1 b2 b3 : Vec Ideal S1x1x256x128 .bf16) (f : Fin 1024 → Ideal .bf16) (r : Fin 256)
    (h0 : ∀ k : Fin 128, a0 (ix4 0 0 r k) = f ⟨k.val, by omega⟩)
    (h1 : ∀ k : Fin 128, a1 (ix4 0 0 r k) = f ⟨128 + k.val, by omega⟩)
    (h2 : ∀ k : Fin 128, a2 (ix4 0 0 r k) = f ⟨256 + k.val, by omega⟩)
    (h3 : ∀ k : Fin 128, a3 (ix4 0 0 r k) = f ⟨384 + k.val, by omega⟩)
    (h4 : ∀ k : Fin 128, b0 (ix4 0 0 r k) = f ⟨512 + k.val, by omega⟩)
    (h5 : ∀ k : Fin 128, b1 (ix4 0 0 r k) = f ⟨640 + k.val, by omega⟩)
    (h6 : ∀ k : Fin 128, b2 (ix4 0 0 r k) = f ⟨768 + k.val, by omega⟩)
    (h7 : ∀ k : Fin 128, b3 (ix4 0 0 r k) = f ⟨896 + k.val, by omega⟩) (k : Fin 1024) :
    cat a0 a1 a2 a3 b0 b1 b2 b3 (ix2 r k) = f k := by
  pointwise [cat, h0, h1, h2, h3, h4, h5, h6, h7]
  repeat' split
  all_goals first | rfl | (refine congrArg f (Fin.ext ?_); simp only; omega)

theorem lin_apply (a0 a1 a2 a3 b0 b1 b2 b3 : Vec Ideal S1x1x256x128 .bf16) (w : Vec Ideal S1024x1024 .bf16)
    (f : Fin 1024 → Ideal .bf16) (r : Fin 256) (o : Fin 1024)
    (h : ∀ k, cat a0 a1 a2 a3 b0 b1 b2 b3 (ix2 r k) = f k) :
    lin a0 a1 a2 a3 b0 b1 b2 b3 w (ix2 r o) = ∑ k : Fin 1024, f k * w (ix2 k o) := by
  rw [lin_eq]
  generalize cat a0 a1 a2 a3 b0 b1 b2 b3 = v at h
  pointwise [h]

/-- The two mixers' heads at one position, read along the lanes: four heads of the first, four of the second. -/
def heads (u v : Fin 4 → Fin 128 → Ideal .bf16) (k : Fin 1024) : Ideal .bf16 :=
  if h : k.val < 512 then u ⟨k.val / 128, by omega⟩ ⟨k.val % 128, by omega⟩
  else v ⟨(k.val - 512) / 128, by omega⟩ ⟨(k.val - 512) % 128, by omega⟩

/-- One position of the result: from the residual's row `x`, the gate's row `g`, the mixers' heads `f`, the weight
    matrix and the last norm's scale. -/
def row (x g : Fin 1024 → Ideal .f32) (f : Fin 1024 → Ideal .bf16) (w : Fin 1024 → Fin 1024 → Ideal .f32)
    (n : Fin 1024 → Ideal .f32) (o : Fin 1024) : Ideal .f32 :=
  (x o + g o * ∑ k : Fin 1024, f k * w k o) * inv (fun j => x j + g j * ∑ k : Fin 1024, f k * w k j) * n o

theorem norm_row (L : FVec Ideal S256x1024 .f32) (xs : Vec Ideal S1x256x1024 .f32) (x1 : Vec Ideal S1x1x1024 .f32)
    (x5 : Vec Ideal S1x1024 .f32) (r : Fin 1024 → Ideal .f32) (f : Fin 1024 → Ideal .bf16)
    (w : Fin 1024 → Fin 1024 → Ideal .f32) (x : S1x256x1024.Idx)
    (hl : ∀ o, L (ix2 (x 1) o) = ∑ k : Fin 1024, f k * w k o) (hx : ∀ o, xs (ix3 0 (x 1) o) = r o) :
    norm L xs x1 x5 x = row r (fun k => x1 (ix3 0 0 k)) f w (fun k => x5 (ix2 0 k)) (x 2) := by
  have hx' : x = ix3 0 (x 1) (x 2) := by
    funext a; apply Fin.ext
    match a with
    | ⟨0, _⟩ => exact Nat.lt_one_iff.mp (x 0).isLt
    | ⟨1, _⟩ => rfl
    | ⟨2, _⟩ => rfl
  have h0 : xs x = r (x 2) := (congrArg xs hx').trans (hx (x 2))
  rw [norm_apply, h0]
  have h1 := hl (x 2)
  simp only [row, hl, hx]
  rw [h1]

theorem row_congr {x x' g g' n n' : Fin 1024 → Ideal .f32} {u u' v v' : Fin 4 → Fin 128 → Ideal .bf16}
    {w w' : Fin 1024 → Fin 1024 → Ideal .f32} (hx : ∀ k, x k = x' k) (hg : ∀ k, g k = g' k) (hu : ∀ h d, u h d = u' h d)
    (hv : ∀ h d, v h d = v' h d) (hw : ∀ k o, w k o = w' k o) (hn : ∀ k, n k = n' k) (o : Fin 1024) :
    row x g (heads u v) w n o = row x' g' (heads u' v') w' n' o := by
  obtain rfl := funext hx
  obtain rfl := funext hg
  obtain rfl := funext hn
  obtain rfl : u = u' := funext fun h => funext (hu h)
  obtain rfl : v = v' := funext fun h => funext (hv h)
  obtain rfl : w = w' := funext fun k => funext (hw k)
  rfl

/-- The block of 256 rows beginning at row `p`: at an index, the position's `row`. -/
theorem tile (x0 : Vec Ideal S1x2048x1024 .f32) (x1 : Vec Ideal S1x1x1024 .f32) (x2 x3 : Vec Ideal S1x4x2048x128 .bf16)
    (x4 : Vec Ideal S1024x1024 .bf16) (x5 : Vec Ideal S1x1024 .f32) (p : Nat)
    (i0 : ∀ a, ![0, 0, p, 0] a + S1x1x256x128.size a ≤ S1x4x2048x128.size a)
    (i1 : ∀ a, ![0, 1, p, 0] a + S1x1x256x128.size a ≤ S1x4x2048x128.size a)
    (i2 : ∀ a, ![0, 2, p, 0] a + S1x1x256x128.size a ≤ S1x4x2048x128.size a)
    (i3 : ∀ a, ![0, 3, p, 0] a + S1x1x256x128.size a ≤ S1x4x2048x128.size a)
    (ix : ∀ a, ![0, p, 0] a + S1x256x1024.size a ≤ S1x2048x1024.size a) (y : S1x2048x1024.Idx) :
    View.TileAt (Val := Elt Ideal) (e := .f32) y ![0, p, 0] S1x256x1024.size
      (norm (lin (View.ld x2 (Rect.unit (s := S1x4x2048x128) ![0, 0, p, 0] S1x1x256x128.size i0))
        (View.ld x2 (Rect.unit (s := S1x4x2048x128) ![0, 1, p, 0] S1x1x256x128.size i1))
        (View.ld x2 (Rect.unit (s := S1x4x2048x128) ![0, 2, p, 0] S1x1x256x128.size i2))
        (View.ld x2 (Rect.unit (s := S1x4x2048x128) ![0, 3, p, 0] S1x1x256x128.size i3))
        (View.ld x3 (Rect.unit (s := S1x4x2048x128) ![0, 0, p, 0] S1x1x256x128.size i0))
        (View.ld x3 (Rect.unit (s := S1x4x2048x128) ![0, 1, p, 0] S1x1x256x128.size i1))
        (View.ld x3 (Rect.unit (s := S1x4x2048x128) ![0, 2, p, 0] S1x1x256x128.size i2))
        (View.ld x3 (Rect.unit (s := S1x4x2048x128) ![0, 3, p, 0] S1x1x256x128.size i3)) x4)
        (View.ld x0 (Rect.unit (s := S1x2048x1024) ![0, p, 0] S1x256x1024.size ix)) x1 x5)
      (row (fun k => x0 (ix3 0 (y 1) k)) (fun k => x1 (ix3 0 0 k))
        (heads (fun h d => x2 (ix4 0 h (y 1) d)) (fun h d => x3 (ix4 0 h (y 1) d)))
        (fun k o => x4 (ix2 k o)) (fun k => x5 (ix2 0 k)) (y 2)) := by
  intro x hx
  have e1 : (y 1).val = p + (x 1).val := hx 1
  have e2 : (y 2).val = 0 + (x 2).val := hx 2
  have hx2 : x 2 = y 2 := Fin.ext ((Nat.zero_add _).symm.trans e2.symm)
  have hl : ∀ o : Fin 1024, lin (View.ld x2 (Rect.unit (s := S1x4x2048x128) ![0, 0, p, 0] S1x1x256x128.size i0))
        (View.ld x2 (Rect.unit (s := S1x4x2048x128) ![0, 1, p, 0] S1x1x256x128.size i1))
        (View.ld x2 (Rect.unit (s := S1x4x2048x128) ![0, 2, p, 0] S1x1x256x128.size i2))
        (View.ld x2 (Rect.unit (s := S1x4x2048x128) ![0, 3, p, 0] S1x1x256x128.size i3))
        (View.ld x3 (Rect.unit (s := S1x4x2048x128) ![0, 0, p, 0] S1x1x256x128.size i0))
        (View.ld x3 (Rect.unit (s := S1x4x2048x128) ![0, 1, p, 0] S1x1x256x128.size i1))
        (View.ld x3 (Rect.unit (s := S1x4x2048x128) ![0, 2, p, 0] S1x1x256x128.size i2))
        (View.ld x3 (Rect.unit (s := S1x4x2048x128) ![0, 3, p, 0] S1x1x256x128.size i3)) x4 (ix2 (x 1) o)
      = ∑ k : Fin 1024, heads (fun h d => x2 (ix4 0 h (y 1) d)) (fun h d => x3 (ix4 0 h (y 1) d)) k * x4 (ix2 k o) := by
    intro o
    have hh : ∀ (u : Vec Ideal S1x4x2048x128 .bf16) (q : Nat) (hq : q < 4) (iq) (k : Fin 128),
        View.ld u (Rect.unit (s := S1x4x2048x128) ![0, q, p, 0] S1x1x256x128.size iq) (ix4 0 0 (x 1) k)
          = u (ix4 0 ⟨q, hq⟩ (y 1) k) := by
      intro u q hq iq k
      refine View.ld_unit_apply_of u _ _ _ _ _ fun a => ?_
      match a with
      | ⟨0, _⟩ => rfl
      | ⟨1, _⟩ => rfl
      | ⟨2, _⟩ => exact e1
      | ⟨3, _⟩ => exact (Nat.zero_add _).symm
    refine lin_apply _ _ _ _ _ _ _ _ x4 _ (x 1) o (cat_apply _ _ _ _ _ _ _ _ _ (x 1) ?_ ?_ ?_ ?_ ?_ ?_ ?_ ?_) <;>
    · intro k
      have hk := k.isLt
      rw [hh _ _ (by omega)]
      unfold heads
      first
        | rw [dif_pos (by simp only; omega)]
        | rw [dif_neg (by simp only; omega)]
      congr 2 <;> apply Fin.ext <;> simp only <;> omega
  have hx0 : ∀ o : Fin 1024, View.ld x0 (Rect.unit (s := S1x2048x1024) ![0, p, 0] S1x256x1024.size ix) (ix3 0 (x 1) o)
      = x0 (ix3 0 (y 1) o) := fun o => View.ld_unit_apply_of x0 _ _ _ _ _ fun a => match a with
    | ⟨0, _⟩ => rfl
    | ⟨1, _⟩ => e1
    | ⟨2, _⟩ => (Nat.zero_add _).symm
  rw [← hx2]
  exact norm_row _ _ x1 x5 _ _ _ x hl hx0

/-- The pieces the block's body leaves, each the same function of its own 256 rows. -/
theorem pieces (x0 : Vec Ideal S1x2048x1024 .f32) (x1 : Vec Ideal S1x1x1024 .f32) (x2 : Vec Ideal S1x4x2048x128 .bf16) (x3 : Vec Ideal S1x4x2048x128 .bf16) (x4 : Vec Ideal S1024x1024 .bf16) (x5 : Vec Ideal S1x1024 .f32) :
  out0_6 x0 x1 x2 x3 x4 x5 = View.canon [
    ⟨r0_42, norm (lin (View.ld x2 r0_37) (View.ld x2 r0_38) (View.ld x2 r0_39) (View.ld x2 r0_40) (View.ld x3 r0_37) (View.ld x3 r0_38) (View.ld x3 r0_39) (View.ld x3 r0_40) x4) (View.ld x0 r0_42) x1 x5⟩,
    ⟨r0_41, norm (lin (View.ld x2 r0_32) (View.ld x2 r0_33) (View.ld x2 r0_34) (View.ld x2 r0_35) (View.ld x3 r0_32) (View.ld x3 r0_33) (View.ld x3 r0_34) (View.ld x3 r0_35) x4) (View.ld x0 r0_41) x1 x5⟩,
    ⟨r0_36, norm (lin (View.ld x2 r0_27) (View.ld x2 r0_28) (View.ld x2 r0_29) (View.ld x2 r0_30) (View.ld x3 r0_27) (View.ld x3 r0_28) (View.ld x3 r0_29) (View.ld x3 r0_30) x4) (View.ld x0 r0_36) x1 x5⟩,
    ⟨r0_31, norm (lin (View.ld x2 r0_22) (View.ld x2 r0_23) (View.ld x2 r0_24) (View.ld x2 r0_25) (View.ld x3 r0_22) (View.ld x3 r0_23) (View.ld x3 r0_24) (View.ld x3 r0_25) x4) (View.ld x0 r0_31) x1 x5⟩,
    ⟨r0_26, norm (lin (View.ld x2 r0_17) (View.ld x2 r0_18) (View.ld x2 r0_19) (View.ld x2 r0_20) (View.ld x3 r0_17) (View.ld x3 r0_18) (View.ld x3 r0_19) (View.ld x3 r0_20) x4) (View.ld x0 r0_26) x1 x5⟩,
    ⟨r0_21, norm (lin (View.ld x2 r0_12) (View.ld x2 r0_13) (View.ld x2 r0_14) (View.ld x2 r0_15) (View.ld x3 r0_12) (View.ld x3 r0_13) (View.ld x3 r0_14) (View.ld x3 r0_15) x4) (View.ld x0 r0_21) x1 x5⟩,
    ⟨r0_16, norm (lin (View.ld x2 r0_5) (View.ld x2 r0_6) (View.ld x2 r0_7) (View.ld x2 r0_8) (View.ld x3 r0_5) (View.ld x3 r0_6) (View.ld x3 r0_7) (View.ld x3 r0_8) x4) (View.ld x0 r0_16) x1 x5⟩,
    ⟨r0_9, norm (lin (View.ld x2 r0_0) (View.ld x2 r0_1) (View.ld x2 r0_2) (View.ld x2 r0_3) (View.ld x3 r0_0) (View.ld x3 r0_1) (View.ld x3 r0_2) (View.ld x3 r0_3) x4) (View.ld x0 r0_9) x1 x5⟩] := by
  have hz4 : View.ld x4 r0_4 = x4 := View.ld_unit_zero (funext fun a => by fin_cases a <;> rfl) _ _
  have hz1 : View.ld x1 r0_10 = x1 := View.ld_unit_zero (funext fun a => by fin_cases a <;> rfl) _ _
  have hz5 : View.ld x5 r0_11 = x5 := View.ld_unit_zero (funext fun a => by fin_cases a <;> rfl) _ _
  unfold_out out0_6
  rw [hz4, hz1, hz5]
  rfl

/-- What the body leaves in the result's block, at an index. -/
theorem block_apply (x0 : Vec Ideal S1x2048x1024 .f32) (x1 : Vec Ideal S1x1x1024 .f32) (x2 x3 : Vec Ideal S1x4x2048x128 .bf16)
    (x4 : Vec Ideal S1024x1024 .bf16) (x5 : Vec Ideal S1x1024 .f32) (y : S1x2048x1024.Idx) :
    out0_6 x0 x1 x2 x3 x4 x5 y = row (fun k => x0 (ix3 0 (y 1) k)) (fun k => x1 (ix3 0 0 k))
        (heads (fun h d => x2 (ix4 0 h (y 1) d)) (fun h d => x3 (ix4 0 h (y 1) d)))
        (fun k o => x4 (ix2 k o)) (fun k => x5 (ix2 0 k)) (y 2) := by
  rw [pieces]
  refine View.canon_eq_of_allAt _ y _ (cover0_6 _ _ _ _ _ _ _ _ y) ?_
  repeat' (first | exact View.allAt_nil y _ | refine View.allAt_cons_unit _ _ _ _ _ (tile x0 x1 x2 x3 x4 x5 _ _ _ _ _ _ y) ?_)

end Cert.Out

end
-- ==== Proof.OutValue.lean ====
/- The output projection: the result array as one function of the arguments, and the reference at the same function. -/
module

public import proofs.«01_k».proof.Defs
public import proofs.«01_k».proof.Proof.OutTile
public import proofs.«01_k».proof.Proof.Gen.OutReferenceIdeal.Read

@[expose] public section

noncomputable section

namespace Cert.Out

open Cert.OutProjIdeal Cert.OutProjIdeal.Gen Cert.OutProjIdeal.Value Idealize.ShloMosaic Idealize.ShloMosaic.TcCoe Idealize.SL.Sem
open Idealize.ShloMosaic.Pipeline (Dat)

/-- The layer's last step at an index, from the whole arrays: the mixers' heads side by side, times the weights, gated,
    added to the residual stream, and normalised. -/
def G (x : Vec Ideal S16x2048x1024 .f32) (g : Vec Ideal S16x1x1024 .f32) (u v : Vec Ideal S16x4x2048x128 .bf16)
    (w : Vec Ideal S1x1024x1024 .f32) (n : Vec Ideal S1024 .f32) : Vec Ideal S16x2048x1024 .f32 := fun i =>
  row (fun k => x (ix3 (i 0) (i 1) k)) (fun k => g (ix3 (i 0) 0 k))
    (heads (fun h d => u (ix4 (i 0) h (i 1) d)) (fun h d => v (ix4 (i 0) h (i 1) d)))
    (fun k o => w (ix3 0 k o)) (fun k => n (ix1 k)) (i 2)

variable (m : (ℓ : Loc nD τ sig) → Buf (Elt Ideal) ℓ) (ρ : Dev nD → PrngReg)

theorem V_w (c : Dev nD) : V m c main_v1
    = (truncf .bf16 (shapeCast S1024x1024 (m ((c : Thread nD τ).loc main_arg4)) shapeCasts_S1x1024x1024_S1024x1024) bitsLt_bf16_f32 : FVec Ideal S1024x1024 .bf16) := by
  unfold_abbrev_sides
  after_results
  rfl

theorem V_n (c : Dev nD) : V m c main_v2
    = shapeCast S1x1024 (m ((c : Thread nD τ).loc main_arg5)) shapeCasts_S1024_S1x1024 := by
  unfold_abbrev_sides
  after_results
  rfl

theorem ix0 : ∀ t : Fin cfg0.N, win0_0.index t 0 = t.val ∧ win0_0.index t 1 = 0 ∧ win0_0.index t 2 = 0 :=
  (by decide +kernel : ∀ t : Fin grid0.N, _)
theorem ix1' : ∀ t : Fin cfg0.N, win0_1.index t 0 = t.val ∧ win0_1.index t 1 = 0 ∧ win0_1.index t 2 = 0 :=
  (by decide +kernel : ∀ t : Fin grid0.N, _)
theorem ix2' : ∀ t : Fin cfg0.N, win0_2.index t 0 = t.val ∧ win0_2.index t 1 = 0 ∧ win0_2.index t 2 = 0 ∧ win0_2.index t 3 = 0 :=
  (by decide +kernel : ∀ t : Fin grid0.N, _)
theorem ix3' : ∀ t : Fin cfg0.N, win0_3.index t 0 = t.val ∧ win0_3.index t 1 = 0 ∧ win0_3.index t 2 = 0 ∧ win0_3.index t 3 = 0 :=
  (by decide +kernel : ∀ t : Fin grid0.N, _)
theorem ix4' : ∀ t : Fin cfg0.N, win0_4.index t 0 = 0 ∧ win0_4.index t 1 = 0 :=
  (by decide +kernel : ∀ t : Fin grid0.N, _)
theorem ix5' : ∀ t : Fin cfg0.N, win0_5.index t 0 = 0 ∧ win0_5.index t 1 = 0 :=
  (by decide +kernel : ∀ t : Fin grid0.N, _)
theorem ix6' : ∀ t : Fin cfg0.N, win0_6.index t 0 = t.val ∧ win0_6.index t 1 = 0 ∧ win0_6.index t 2 = 0 :=
  (by decide +kernel : ∀ t : Fin grid0.N, _)

theorem lt16 (t : Fin cfg0.N) : t.val < 16 := t.isLt

/-- Where a block's index lies in its array. -/
theorem emb0 (t : Fin cfg0.N) (j : S1x2048x1024.Idx) :
    ((cfg0.win 0).blk t).view.emb j = (ix3 ⟨t.val, lt16 t⟩ (j 1) (j 2) : S16x2048x1024.Idx) := by
  obtain ⟨a0, a1, a2⟩ := ix0 t
  funext a; apply Fin.ext
  match a with
  | ⟨0, _⟩ => show win0_0.index t 0 * 1 + 1 * (j 0).val = t.val; have : (j 0).val < 1 := (j 0).isLt; omega
  | ⟨1, _⟩ => show win0_0.index t 1 * 2048 + 1 * (j 1).val = (j 1).val; omega
  | ⟨2, _⟩ => show win0_0.index t 2 * 1024 + 1 * (j 2).val = (j 2).val; omega

theorem emb1 (t : Fin cfg0.N) (j : S1x1x1024.Idx) :
    ((cfg0.win 1).blk t).view.emb j = (ix3 ⟨t.val, lt16 t⟩ 0 (j 2) : S16x1x1024.Idx) := by
  obtain ⟨a0, a1, a2⟩ := ix1' t
  funext a; apply Fin.ext
  match a with
  | ⟨0, _⟩ => show win0_1.index t 0 * 1 + 1 * (j 0).val = t.val; have : (j 0).val < 1 := (j 0).isLt; omega
  | ⟨1, _⟩ => show win0_1.index t 1 * 1 + 1 * (j 1).val = 0; have : (j 1).val < 1 := (j 1).isLt; omega
  | ⟨2, _⟩ => show win0_1.index t 2 * 1024 + 1 * (j 2).val = (j 2).val; omega

theorem emb2 (t : Fin cfg0.N) (j : S1x4x2048x128.Idx) :
    ((cfg0.win 2).blk t).view.emb j = (ix4 ⟨t.val, lt16 t⟩ (j 1) (j 2) (j 3) : S16x4x2048x128.Idx) := by
  obtain ⟨a0, a1, a2, a3⟩ := ix2' t
  funext a; apply Fin.ext
  match a with
  | ⟨0, _⟩ => show win0_2.index t 0 * 1 + 1 * (j 0).val = t.val; have : (j 0).val < 1 := (j 0).isLt; omega
  | ⟨1, _⟩ => show win0_2.index t 1 * 4 + 1 * (j 1).val = (j 1).val; omega
  | ⟨2, _⟩ => show win0_2.index t 2 * 2048 + 1 * (j 2).val = (j 2).val; omega
  | ⟨3, _⟩ => show win0_2.index t 3 * 128 + 1 * (j 3).val = (j 3).val; omega

theorem emb3 (t : Fin cfg0.N) (j : S1x4x2048x128.Idx) :
    ((cfg0.win 3).blk t).view.emb j = (ix4 ⟨t.val, lt16 t⟩ (j 1) (j 2) (j 3) : S16x4x2048x128.Idx) := by
  obtain ⟨a0, a1, a2, a3⟩ := ix3' t
  funext a; apply Fin.ext
  match a with
  | ⟨0, _⟩ => show win0_3.index t 0 * 1 + 1 * (j 0).val = t.val; have : (j 0).val < 1 := (j 0).isLt; omega
  | ⟨1, _⟩ => show win0_3.index t 1 * 4 + 1 * (j 1).val = (j 1).val; omega
  | ⟨2, _⟩ => show win0_3.index t 2 * 2048 + 1 * (j 2).val = (j 2).val; omega
  | ⟨3, _⟩ => show win0_3.index t 3 * 128 + 1 * (j 3).val = (j 3).val; omega

theorem emb4 (t : Fin cfg0.N) (j : S1024x1024.Idx) : ((cfg0.win 4).blk t).view.emb j = j := by
  obtain ⟨a0, a1⟩ := ix4' t
  funext a; apply Fin.ext
  match a with
  | ⟨0, _⟩ => show win0_4.index t 0 * 1024 + 1 * (j 0).val = (j 0).val; omega
  | ⟨1, _⟩ => show win0_4.index t 1 * 1024 + 1 * (j 1).val = (j 1).val; omega

theorem emb5 (t : Fin cfg0.N) (j : S1x1024.Idx) : ((cfg0.win 5).blk t).view.emb j = j := by
  obtain ⟨a0, a1⟩ := ix5' t
  funext a; apply Fin.ext
  match a with
  | ⟨0, _⟩ => show win0_5.index t 0 * 1 + 1 * (j 0).val = (j 0).val; omega
  | ⟨1, _⟩ => show win0_5.index t 1 * 1024 + 1 * (j 1).val = (j 1).val; omega

theorem emb6 (t : Fin cfg0.N) (j : S1x2048x1024.Idx) :
    ((cfg0.win 6).blk t).view.emb j = (ix3 ⟨t.val, lt16 t⟩ (j 1) (j 2) : S16x2048x1024.Idx) := by
  obtain ⟨a0, a1, a2⟩ := ix6' t
  funext a; apply Fin.ext
  match a with
  | ⟨0, _⟩ => show win0_6.index t 0 * 1 + 1 * (j 0).val = t.val; have : (j 0).val < 1 := (j 0).isLt; omega
  | ⟨1, _⟩ => show win0_6.index t 1 * 2048 + 1 * (j 1).val = (j 1).val; omega
  | ⟨2, _⟩ => show win0_6.index t 2 * 1024 + 1 * (j 2).val = (j 2).val; omega

theorem weight_apply (w : Vec Ideal S1x1024x1024 .f32) (k o : Fin 1024) :
    (truncf .bf16 (shapeCast S1024x1024 w shapeCasts_S1x1024x1024_S1024x1024) bitsLt_bf16_f32 : FVec Ideal S1024x1024 .bf16)
      (ix2 k o) = w (ix3 0 k o) := by
  pointwise

theorem scale_apply (n : Vec Ideal S1024 .f32) (k : Fin 1024) :
    (shapeCast S1x1024 n shapeCasts_S1024_S1x1024 : FVec Ideal S1x1024 .f32) (ix2 0 k) = n (ix1 k) := by
  pointwise

/-- The result array's contents named by the argument arrays as launched. -/
abbrev Gm (c : Dev nD) : Vec Ideal S16x2048x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem i0 (c : Dev nD) (t : Fin cfg0.N) (s : Fin 2048) (k : Fin 1024) :
    iblk m c 0 t (ix3 0 s k : S1x2048x1024.Idx) = m ((c : Thread nD τ).loc main_arg0) (ix3 ⟨t.val, lt16 t⟩ s k) :=
  (congrArg (V m c main_arg0) (emb0 t (ix3 0 s k))).trans (congrFun (V_main_arg0 m c) _)
theorem i1 (c : Dev nD) (t : Fin cfg0.N) (k : Fin 1024) :
    iblk m c 1 t (ix3 0 0 k : S1x1x1024.Idx) = m ((c : Thread nD τ).loc main_arg1) (ix3 ⟨t.val, lt16 t⟩ 0 k) :=
  (congrArg (V m c main_arg1) (emb1 t (ix3 0 0 k))).trans (congrFun (V_main_arg1 m c) _)
theorem i2 (c : Dev nD) (t : Fin cfg0.N) (h : Fin 4) (s : Fin 2048) (d : Fin 128) :
    iblk m c 2 t (ix4 0 h s d : S1x4x2048x128.Idx) = m ((c : Thread nD τ).loc main_arg2) (ix4 ⟨t.val, lt16 t⟩ h s d) :=
  (congrArg (V m c main_arg2) (emb2 t (ix4 0 h s d))).trans (congrFun (V_main_arg2 m c) _)
theorem i3 (c : Dev nD) (t : Fin cfg0.N) (h : Fin 4) (s : Fin 2048) (d : Fin 128) :
    iblk m c 3 t (ix4 0 h s d : S1x4x2048x128.Idx) = m ((c : Thread nD τ).loc main_arg3) (ix4 ⟨t.val, lt16 t⟩ h s d) :=
  (congrArg (V m c main_arg3) (emb3 t (ix4 0 h s d))).trans (congrFun (V_main_arg3 m c) _)
theorem i4 (c : Dev nD) (t : Fin cfg0.N) (k o : Fin 1024) :
    iblk m c 4 t (ix2 k o : S1024x1024.Idx) = m ((c : Thread nD τ).loc main_arg4) (ix3 0 k o) := by
  refine (congrArg (V m c main_v1) (emb4 t (ix2 k o))).trans ((congrFun (V_w m c) _).trans ?_)
  exact weight_apply _ k o
theorem i5 (c : Dev nD) (t : Fin cfg0.N) (k : Fin 1024) :
    iblk m c 5 t (ix2 0 k : S1x1024.Idx) = m ((c : Thread nD τ).loc main_arg5) (ix1 k) := by
  refine (congrArg (V m c main_v2) (emb5 t (ix2 0 k))).trans ((congrFun (V_n m c) _).trans ?_)
  exact scale_apply _ k

theorem flushed_eq (c : Dev nD) (t : Fin cfg0.N) :
    (dats m 0 c).flushed 6 t = ((cfg0.win 6).blk t).view.read (Elt Ideal) (Gm m c) := by
  rw [flushed6]
  funext j
  show out0_6 _ _ _ _ _ _ j = Gm m c (((cfg0.win 6).blk t).view.emb j)
  rw [emb6]
  refine (block_apply _ _ _ _ _ _ j).trans ?_
  exact row_congr (fun k => i0 m c t (j 1) k) (fun k => i1 m c t k) (fun h d => i2 m c t h (j 1) d)
    (fun h d => i3 m c t h (j 1) d) (fun k o => i4 m c t k o) (fun k => i5 m c t k) (j 2)

theorem covered (i : S16x2048x1024.Idx) :
    ∃ t : Fin cfg0.N, (cfg0.win 6).flush t = true ∧ i ∈ ((cfg0.win 6).blk t).view.set := by
  refine ⟨⟨(i 0).val, (i 0).isLt⟩, flush0_6 _, ?_⟩
  have h := ((cfg0.win 6).blk ⟨(i 0).val, (i 0).isLt⟩).view.emb_mem_set (ix3 0 (i 1) (i 2) : S1x2048x1024.Idx)
  rw [emb6] at h
  have hi : (ix3 ⟨(i 0).val, (i 0).isLt⟩ (i 1) (i 2) : S16x2048x1024.Idx) = i := by
    funext a
    match a with
    | ⟨0, _⟩ => rfl
    | ⟨1, _⟩ => rfl
    | ⟨2, _⟩ => rfl
  exact hi ▸ h

theorem final (c : Dev nD) : (dats m 0 c).arrAt 6 cfg0.N = Gm m c :=
  (dats m 0 c).arrAt_eq_of_cover 6 (Gm m c) (fun t _ => flushed_eq m c t) covered

end Cert.Out

namespace Cert.Out.Ref

open Cert.OutReferenceIdeal Cert.OutReferenceIdeal.Gen Cert.OutReferenceIdeal.Read Idealize.ShloMosaic Idealize.ShloMosaic.TcCoe Idealize.SL.Sem

theorem cat_apply (u v : Vec Ideal S16x4x2048x128 .bf16) (b : Fin 16) (s : Fin 2048) (k : Fin 1024) :
    val_main_v6 (F := Ideal) u v (ix3 b s k) = heads (fun h d => u (ix4 b h s d)) (fun h d => v (ix4 b h s d)) k := by
  pointwise [val_main_v6, val_main_v5, val_main_v4, val_main_v3, val_main_v2, val_main_v1, val_main_v0, heads]

theorem lin_apply (u v : Vec Ideal S16x4x2048x128 .bf16) (w : Vec Ideal S1x1024x1024 .f32) (b : Fin 16) (s : Fin 2048) (o : Fin 1024) :
    val_main_v8 (F := Ideal) u v w (ix3 b s o)
      = ∑ k : Fin 1024, heads (fun h d => u (ix4 b h s d)) (fun h d => v (ix4 b h s d)) k * w (ix3 0 k o) := by
  unfold val_main_v8
  have h := cat_apply u v b s
  generalize val_main_v6 (F := Ideal) u v = y at h
  pointwise [h, val_main_v7]

theorem eq_G (x : Vec Ideal S16x2048x1024 .f32) (g : Vec Ideal S16x1x1024 .f32) (u v : Vec Ideal S16x4x2048x128 .bf16)
    (w : Vec Ideal S1x1024x1024 .f32) (n : Vec Ideal S1024 .f32) :
    val_main_v24 (F := Ideal) x g u v w n = G x g u v w n := by
  funext i
  obtain ⟨b, s, o, rfl⟩ : ∃ (b : Fin 16) (s : Fin 2048) (o : Fin 1024), i = ix3 b s o :=
    ⟨i 0, i 1, i 2, funext fun a => match a with | ⟨0, _⟩ => rfl | ⟨1, _⟩ => rfl | ⟨2, _⟩ => rfl⟩
  have h := fun o => lin_apply u v w b s o
  pointwise [val_main_v24, val_main_v23, val_main_v22, val_main_v21, val_main_v20, val_main_v19, val_main_v18, val_main_v17,
    val_main_v16, val_main_v15, val_main_v14, val_main_v13, val_main_v12, val_main_v11, val_main_v10, val_main_v9,
    val_main_cst, val_main_cst_0, val_main_cst_1, G, row, inv, h]

end Cert.Out.Ref

namespace Cert.Out

theorem equation : Cert.algebraic_OutProjIdeal_OutReferenceIdeal (hOutProjIdeal := Cert.OutProjIdeal.Gen.facts)
    (hOutReferenceIdeal := Cert.OutReferenceIdeal.Gen.facts) := by
  intro m g m' g' _ hm
  refine ⟨fun c => Gm m c, ?_, ?_⟩
  · exact (Idealize.ShloMosaic.θ_run _ _ _).mono (fun r h c => ⟨(h c).1.trans (final m c), (h c).2⟩) (Cert.OutProjIdeal.Value.run_blocks m g)
  · refine (Idealize.ShloMosaic.θ_run _ _ _).mono (fun r h c => ⟨(h c).1.trans ?_, (h c).2⟩) (Cert.OutReferenceIdeal.Value.run m' g')
    obtain ⟨h0, h1, h2, h3, h4, h5⟩ := hm c
    rw [Cert.OutReferenceIdeal.Read.val_main_v24_eq, h0, h1, h2, h3, h4, h5]
    exact Ref.eq_G _ _ _ _ _ _

end Cert.Out

end
-- ==== Proof.MixList.lean ====
/- What the mixers' body leaves in the retention's block, as one list of sixteen pieces (two batch elements, eight chunks
   of 256 rows): every piece by the same few functions, from the blocks read and from the two scratch buffers. -/
module

public import proofs.«01_k».proof.Proof.MixRunA
public import proofs.«01_k».proof.Proof.MixRunB

@[expose] public section

set_option maxRecDepth 16384

noncomputable section

namespace Cert.Mix

open Cert.KernelIdeal Cert.KernelIdeal.Gen

open Idealize.ShloMosaic
open Idealize.ShloMosaic.TcCoe Idealize.ShloMosaic.Tactic
open Idealize.SL Idealize.SL.RA Idealize.SL.BI

variable {F : FTy → Type} [FloatOps F]

/-! ## The rectangles' bounds -/

theorem in_elt (j : Fin 2) : ∀ a, (![j.val, 0, 0, 0] : Fin 4 → ℕ) a + S1x1x2048x128.size a ≤ S2x1x2048x128.size a := by
  revert j; decide
theorem in_chunk (n : Fin 8) : ∀ a, (![0, 256 * n.val, 0] : Fin 3 → ℕ) a + S1x256x128.size a ≤ S1x2048x128.size a := by
  revert n; decide
theorem in_ctx (j : Fin 2) : ∀ a, (![0, 256 * j.val, 0] : Fin 3 → ℕ) a + S1x256x128.size a ≤ S1x512x128.size a := by
  revert j; decide
theorem in_scr (j : Fin 2) : ∀ a, (![j.val, 0, 0, 0] : Fin 4 → ℕ) a + S1x8x128x256.size a ≤ S2x8x128x256.size a := by
  revert j; decide
theorem in_all (n : Fin 8) : ∀ a, (![n.val, 0, 0] : Fin 3 → ℕ) a + S1x128x256.size a ≤ S8x128x256.size a := by
  revert n; decide
theorem in_half (n : Fin 8) (b : Fin 2) : ∀ a, (![n.val, 0, 128 * b.val] : Fin 3 → ℕ) a + S1x128x128.size a ≤ S8x128x256.size a := by
  revert n b; decide
theorem in_put (j : Fin 2) (n : Fin 8) (b : Fin 2) :
    ∀ a, (![j.val, n.val, 0, 128 * b.val] : Fin 4 → ℕ) a + S1x1x128x128.size a ≤ S2x8x128x256.size a := by
  revert j n b; decide
theorem in_out (j : Fin 2) (n : Fin 8) :
    ∀ a, (![j.val, 0, 256 * n.val, 0] : Fin 4 → ℕ) a + S1x1x256x128.size a ≤ S2x1x2048x128.size a := by
  revert j n; decide

theorem size_lat : ∀ i : Fin 3, (![1, 1, 2048, 128] : Fin 4 → ℕ) i.succ = S1x2048x128.size i := by decide
theorem size_scr : ∀ i : Fin 3, (![1, 8, 128, 256] : Fin 4 → ℕ) i.succ = S8x128x256.size i := by decide

/-! ## What is read -/

/-- Chunk `n` of batch element `j` of a block of queries, keys, values or gates. -/
def blk (c : Dev nD) (M : Memref sig .tc .vmem S2x1x2048x128 .bf16) (f : Bf (F := F) c M) (j : Fin 2) (n : Fin 8) : Vec F S1x256x128 .bf16 :=
  LoadRect.valAlong (lr := (Rect.unit (s := S1x2048x128) ![0, 256 * n.val, 0] S1x256x128.size (in_chunk n)).toLoadRect)
    (LoadRect.numel_consLift _ ![1, 1, 2048, 128] rfl size_lat)
    (View.readAt (Elt F) M.view ((Rect.unit (s := S2x1x2048x128) ![j.val, 0, 0, 0] S1x1x2048x128.size (in_elt j)).withinL
      (LoadRect.consLift (Rect.unit (s := S1x2048x128) ![0, 256 * n.val, 0] S1x256x128.size (in_chunk n)).toLoadRect
        ![1, 1, 2048, 128] rfl size_lat) (fun _ => rfl)) f)

/-- Batch element `j`'s context keys or values. -/
def ctxBlk (c : Dev nD) (M : Memref sig .tc .vmem S1x1x512x128 .bf16) (f : Bf (F := F) c M) (j : Fin 2) : Vec F S1x256x128 .bf16 :=
  View.readAt (Elt F) (((M.slice (Rect.unit (s := S1x1x512x128) ![0, 0, 0, 0] S1x1x512x128.size inb_S1x1x512x128_S1x1x512x128_0_0_0_0) (fun _ => rfl)).squeeze
      S1x512x128 squeezes_S1x1x512x128_S1x512x128).slice
      (Rect.unit (s := S1x512x128) ![0, 256 * j.val, 0] S1x256x128.size (in_ctx j)) (fun _ => rfl)).view
    (Rect.unit (s := S1x256x128) ![0, 0, 0] S1x256x128.size inb_S1x256x128_S1x256x128_0_0_0).toLoadRect f

/-- Half `b` (forward, backward) of what chunk `n` adds to batch element `j`'s states, read back out of the scratch. -/
def addRead (M : Memref sig .tc .vmem S2x8x128x256 .f32) (L : List (View.Piece (Elt F) S2x8x128x256 .f32)) (j : Fin 2) (n : Fin 8) (b : Fin 2) :
    Vec F S1x128x128 .f32 :=
  LoadRect.valAlong (lr := (Rect.unit (s := S8x128x256) ![n.val, 0, 128 * b.val] S1x128x128.size (in_half n b)).toLoadRect)
    (LoadRect.numel_consLift _ ![1, 8, 128, 256] rfl size_scr)
    (M.view.readCov L ((Rect.unit (s := S2x8x128x256) ![j.val, 0, 0, 0] S1x8x128x256.size (in_scr j)).withinL
      (LoadRect.consLift (Rect.unit (s := S8x128x256) ![n.val, 0, 128 * b.val] S1x128x128.size (in_half n b)).toLoadRect
        ![1, 8, 128, 256] rfl size_scr) (fun _ => rfl)))

/-- Both states chunk `n` of batch element `j` begins with, read back out of the scratch. -/
def stRead (M : Memref sig .tc .vmem S2x8x128x256 .bf16) (L : List (View.Piece (Elt F) S2x8x128x256 .bf16)) (j : Fin 2) (n : Fin 8) :
    Vec F S1x128x256 .bf16 :=
  LoadRect.valAlong (lr := (Rect.unit (s := S8x128x256) ![n.val, 0, 0] S1x128x256.size (in_all n)).toLoadRect)
    (LoadRect.numel_consLift _ ![1, 8, 128, 256] rfl size_scr)
    (M.view.readCov L ((Rect.unit (s := S2x8x128x256) ![j.val, 0, 0, 0] S1x8x128x256.size (in_scr j)).withinL
      (LoadRect.consLift (Rect.unit (s := S8x128x256) ![n.val, 0, 0] S1x128x256.size (in_all n)).toLoadRect
        ![1, 8, 128, 256] rfl size_scr) (fun _ => rfl)))

/-! ## What is computed -/

/-- What a chunk adds to both states, from its keys and values. -/
def added (lf lb : Elt F .f32) (k v : Vec F S1x256x128 .bf16) : FVec F S1x128x256 .f32 := k0_pay720 (k0_pay699 lf) (k0_pay700 lb) k v

/-- The state the context leaves, forward and -/
def ctx0 (lf : Elt F .f32) (kc vc : Vec F S1x256x128 .bf16) : FVec F S128x128 .f32 := k0_pay710 lf kc vc
/-- backward. -/
def ctx1 (lb : Elt F .f32) (kc vc : Vec F S1x256x128 .bf16) : FVec F S128x128 .f32 :=
  k0_pay712 (k0_pay709 vc) (k0_pay711 lb kc) (constant S128x128 .f32 0x00000000#32)

/-- A state one chunk on: `w` the chunk's decay, `t` what it adds. -/
def next (w : FVec F S1x1 .f32) (s : FVec F S128x128 .f32) (t : Vec F S1x128x128 .f32) : FVec F S128x128 .f32 := k0_pay727 w s t

/-- A whole chunk's decay at the log decay `l`. -/
def whole (l : Elt F .f32) : FVec F S1x1 .f32 := k0_pay705 k0_pay703 (k0_pay704 l)

/-- The state after `n` chunks from the first, each adding its `t`. -/
def states (w : FVec F S1x1 .f32) (s0 : FVec F S128x128 .f32) (t : ℕ → Vec F S1x128x128 .f32) : ℕ → FVec F S128x128 .f32
  | 0 => s0
  | n + 1 => next w (states w s0 t n) (t n)

/-- A chunk's rows of the result. -/
def result (lf lb : Elt F .f32) (g : Vec F S1x128 .f32) (q k v u : Vec F S1x256x128 .bf16) (s : Vec F S1x128x256 .bf16) : Vec F S1x1x256x128 .bf16 :=
  k0_pay1269 (k0_pay762 g) (k0_pay1243 (k0_pay1242 (k0_pay697 lf lb) q k)) (k0_pay1244 (k0_pay701 lf) (k0_pay702 lb) (k0_pay1241 q) s) v u

/-! ## The pieces written -/

/-- Chunk `n` of batch element `j` in the scratch of what the chunks add. -/
def addPiece (j : Fin 2) (n : Fin 8) (t : FVec F S1x128x256 .f32) : View.Piece (Elt F) S2x8x128x256 .f32 :=
  ⟨(Rect.unit (s := S2x8x128x256) ![j.val, 0, 0, 0] S1x8x128x256.size (in_scr j)).within
      ((Rect.unit (s := S8x128x256) ![n.val, 0, 0] S1x128x256.size (in_all n)).consLift ![1, 8, 128, 256] rfl size_scr) (fun _ => rfl),
    Rect.payAlong (r := Rect.unit (s := S8x128x256) ![n.val, 0, 0] S1x128x256.size (in_all n))
      (Rect.numel_consLift _ ![1, 8, 128, 256] rfl size_scr) t⟩

/-- Half `b` of chunk `n` of batch element `j` in the scratch of the states. -/
def stPiece (j : Fin 2) (n : Fin 8) (b : Fin 2) (s : FVec F S128x128 .f32) : View.Piece (Elt F) S2x8x128x256 .bf16 :=
  ⟨Rect.unit (s := S2x8x128x256) ![j.val, n.val, 0, 128 * b.val] S1x1x128x128.size (in_put j n b), k0_pay726 s⟩

/-- Chunk `n` of batch element `j` in the result's block. -/
def outPiece (j : Fin 2) (n : Fin 8) (o : Vec F S1x1x256x128 .bf16) : View.Piece (Elt F) S2x1x2048x128 .bf16 :=
  ⟨Rect.unit (s := S2x1x2048x128) ![j.val, 0, 256 * n.val, 0] S1x1x256x128.size (in_out j n), o⟩

/-- What the chunks add, last written first: the pieces of one batch element before those of `L`. -/
def addList (j : Fin 2) (t : Fin 8 → FVec F S1x128x256 .f32) (L : List (View.Piece (Elt F) S2x8x128x256 .f32)) :
    List (View.Piece (Elt F) S2x8x128x256 .f32) :=
  addPiece j 7 (t 7) :: addPiece j 6 (t 6) :: addPiece j 5 (t 5) :: addPiece j 4 (t 4)
    :: addPiece j 3 (t 3) :: addPiece j 2 (t 2) :: addPiece j 1 (t 1) :: addPiece j 0 (t 0) :: L

/-- The states likewise: the backward half's, then the forward half's. -/
def stList (j : Fin 2) (s0 s1 : ℕ → FVec F S128x128 .f32) (L : List (View.Piece (Elt F) S2x8x128x256 .bf16)) :
    List (View.Piece (Elt F) S2x8x128x256 .bf16) :=
  stPiece j 0 1 (s1 7) :: stPiece j 1 1 (s1 6) :: stPiece j 2 1 (s1 5) :: stPiece j 3 1 (s1 4)
    :: stPiece j 4 1 (s1 3) :: stPiece j 5 1 (s1 2) :: stPiece j 6 1 (s1 1) :: stPiece j 7 1 (s1 0)
    :: stPiece j 7 0 (s0 7) :: stPiece j 6 0 (s0 6) :: stPiece j 5 0 (s0 5) :: stPiece j 4 0 (s0 4)
    :: stPiece j 3 0 (s0 3) :: stPiece j 2 0 (s0 2) :: stPiece j 1 0 (s0 1) :: stPiece j 0 0 (s0 0) :: L

/-- The result's block likewise. -/
def outList (j : Fin 2) (o : Fin 8 → Vec F S1x1x256x128 .bf16) (L : List (View.Piece (Elt F) S2x1x2048x128 .bf16)) :
    List (View.Piece (Elt F) S2x1x2048x128 .bf16) :=
  outPiece j 7 (o 7) :: outPiece j 6 (o 6) :: outPiece j 5 (o 5) :: outPiece j 4 (o 4)
    :: outPiece j 3 (o 3) :: outPiece j 2 (o 2) :: outPiece j 1 (o 1) :: outPiece j 0 (o 0) :: L

/-! ## All of it -/

section
variable (c : Dev nD) (i : grid0.Coords) (M3 : Memref sig .tc .smem S2x4 .f32)
    (M10 M11 M12 M13 : Memref sig .tc .vmem S2x1x2048x128 .bf16) (M14 M15 : Memref sig .tc .vmem S1x1x512x128 .bf16)
    (M16 : Memref sig .tc .vmem S1x128 .f32) (M23 : Memref sig .tc .vmem S2x8x128x256 .f32) (M24 : Memref sig .tc .vmem S2x8x128x256 .bf16)
    (f3 : Bf (F := F) c M3) (f10 : Bf (F := F) c M10) (f11 : Bf (F := F) c M11) (f12 : Bf (F := F) c M12) (f13 : Bf (F := F) c M13)
    (f14 : Bf (F := F) c M14) (f15 : Bf (F := F) c M15) (f16 : Bf (F := F) c M16)

/-- The head's log decay, forward and -/
def lg0 : Elt F .f32 :=
  View.readAt (Elt F) M3.view (Rect.unit (s := S2x4) (k0_off2 i) S1x1.size (k0_off2_inb i)).toLoadRect f3 (Shape.Idx.first (by exact (by decide : 0 < S1x1.numel)))
/-- backward. -/
def lg1 : Elt F .f32 :=
  View.readAt (Elt F) M3.view (Rect.unit (s := S2x4) (k0_off3 i) S1x1.size (k0_off3_inb i)).toLoadRect f3 (Shape.Idx.first (by exact (by decide : 0 < S1x1.numel)))

/-- The norm's scale. -/
def scale : Vec F S1x128 .f32 :=
  View.readAt (Elt F) M16.view (Rect.unit (s := S1x128) ![0, 0] S1x128.size inb_S1x128_S1x128_0_0).toLoadRect f16

/-- What the chunks of batch element `j` add. -/
def adds (j : Fin 2) (n : Fin 8) : FVec F S1x128x256 .f32 :=
  added (lg0 c i M3 f3) (lg1 c i M3 f3) (blk c M11 f11 j n) (blk c M12 f12 j n)

/-- The scratch of what the chunks add when batch element `j` reads it. -/
def addAll (j : Fin 2) : List (View.Piece (Elt F) S2x8x128x256 .f32) :=
  match j with
  | 0 => addList 0 (adds c i M3 M11 M12 f3 f11 f12 0) []
  | 1 => addList 1 (adds c i M3 M11 M12 f3 f11 f12 1) (addList 0 (adds c i M3 M11 M12 f3 f11 f12 0) [])

/-- The forward states of batch element `j` and -/
def st0 (j : Fin 2) : ℕ → FVec F S128x128 .f32 :=
  states (whole (lg0 c i M3 f3)) (ctx0 (lg0 c i M3 f3) (ctxBlk c M14 f14 j) (ctxBlk c M15 f15 j))
    (fun n => addRead M23 (addAll c i M3 M11 M12 f3 f11 f12 j) j (Fin.ofNat 8 n) 0)
/-- its backward states, from the last chunk. -/
def st1 (j : Fin 2) : ℕ → FVec F S128x128 .f32 :=
  states (whole (lg1 c i M3 f3)) (ctx1 (lg1 c i M3 f3) (ctxBlk c M14 f14 j) (ctxBlk c M15 f15 j))
    (fun n => addRead M23 (addAll c i M3 M11 M12 f3 f11 f12 j) j (Fin.ofNat 8 (7 - n)) 1)

/-- The scratch of the states when it is read. -/
def stAll : List (View.Piece (Elt F) S2x8x128x256 .bf16) :=
  stList 1 (st0 c i M3 M11 M12 M14 M15 M23 f3 f11 f12 f14 f15 1) (st1 c i M3 M11 M12 M14 M15 M23 f3 f11 f12 f14 f15 1)
    (stList 0 (st0 c i M3 M11 M12 M14 M15 M23 f3 f11 f12 f14 f15 0) (st1 c i M3 M11 M12 M14 M15 M23 f3 f11 f12 f14 f15 0) [])

/-- The result's chunks of batch element `j`. -/
def outs (j : Fin 2) (n : Fin 8) : Vec F S1x1x256x128 .bf16 :=
  result (lg0 c i M3 f3) (lg1 c i M3 f3) (scale c M16 f16) (blk c M10 f10 j n) (blk c M11 f11 j n) (blk c M12 f12 j n) (blk c M13 f13 j n)
    (stRead M24 (stAll c i M3 M11 M12 M14 M15 M23 f3 f11 f12 f14 f15) j n)

/-- The result's block: its sixteen pieces. -/
def outAll : List (View.Piece (Elt F) S2x1x2048x128 .bf16) :=
  outList 1 (outs c i M3 M10 M11 M12 M13 M14 M15 M16 M23 M24 f3 f10 f11 f12 f13 f14 f15 f16 1)
    (outList 0 (outs c i M3 M10 M11 M12 M13 M14 M15 M16 M23 M24 f3 f10 f11 f12 f13 f14 f15 f16 0) [])

end

/-- At a point that does not build the bias tables, and -/
theorem run_B (c : Dev nD) (i : grid0.Coords)
    (M2 : Memref sig .tc .smem S3720 .f32) (h2 : M2.IsWhole) (M3 : Memref sig .tc .smem S2x4 .f32) (h3 : M3.IsWhole)
    (M4 : Memref sig .tc .vmem S2x1x2048x128 .bf16) (h4 : M4.IsWhole) (M5 : Memref sig .tc .vmem S2x1x2048x128 .bf16) (h5 : M5.IsWhole)
    (M6 : Memref sig .tc .vmem S2x128x2048 .bf16) (h6 : M6.IsWhole) (M7 : Memref sig .tc .vmem S2x1x2048x128 .bf16) (h7 : M7.IsWhole)
    (M8 : Memref sig .tc .vmem S1x1x512x128 .bf16) (h8 : M8.IsWhole) (M9 : Memref sig .tc .vmem S1x128x512 .bf16) (h9 : M9.IsWhole)
    (M10 : Memref sig .tc .vmem S2x1x2048x128 .bf16) (h10 : M10.IsWhole) (M11 : Memref sig .tc .vmem S2x1x2048x128 .bf16) (h11 : M11.IsWhole)
    (M12 : Memref sig .tc .vmem S2x1x2048x128 .bf16) (h12 : M12.IsWhole) (M13 : Memref sig .tc .vmem S2x1x2048x128 .bf16) (h13 : M13.IsWhole)
    (M14 : Memref sig .tc .vmem S1x1x512x128 .bf16) (h14 : M14.IsWhole) (M15 : Memref sig .tc .vmem S1x1x512x128 .bf16) (h15 : M15.IsWhole)
    (M16 : Memref sig .tc .vmem S1x128 .f32) (h16 : M16.IsWhole) (M17 : Memref sig .tc .vmem S2x1x2048x128 .bf16) (h17 : M17.IsWhole)
    (M18 : Memref sig .tc .vmem S2x1x2048x128 .bf16) (h18 : M18.IsWhole) (M19 : Memref sig .tc .vmem S3x2x768x256 .f32) (h19 : M19.IsWhole)
    (M20 : Memref sig .tc .vmem S15x64x128 .f32) (h20 : M20.IsWhole) (M21 : Memref sig .tc .vmem S2x2x80x2048 .bf16) (h21 : M21.IsWhole)
    (M22 : Memref sig .tc .vmem S2x2x80x256 .bf16) (h22 : M22.IsWhole) (M23 : Memref sig .tc .vmem S2x8x128x256 .f32) (h23 : M23.IsWhole)
    (M24 : Memref sig .tc .vmem S2x8x128x256 .bf16) (h24 : M24.IsWhole)
    (hc : ¬ k0_cond1 i = 1#1)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    (kernelRunB c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 hc f2 f3 f4 f5 f6 f7 f8 f9 f10 f11 f12 f13 f14 f15 f16).1
     = M18.view.writes (Elt F) (View.junk M18.view) (outAll c i M3 M10 M11 M12 M13 M14 M15 M16 M23 M24 f3 f10 f11 f12 f13 f14 f15 f16) := by
  sl_kernel_rfl
/-- at one that builds them. -/
theorem run_A (c : Dev nD) (i : grid0.Coords)
    (M2 : Memref sig .tc .smem S3720 .f32) (h2 : M2.IsWhole) (M3 : Memref sig .tc .smem S2x4 .f32) (h3 : M3.IsWhole)
    (M4 : Memref sig .tc .vmem S2x1x2048x128 .bf16) (h4 : M4.IsWhole) (M5 : Memref sig .tc .vmem S2x1x2048x128 .bf16) (h5 : M5.IsWhole)
    (M6 : Memref sig .tc .vmem S2x128x2048 .bf16) (h6 : M6.IsWhole) (M7 : Memref sig .tc .vmem S2x1x2048x128 .bf16) (h7 : M7.IsWhole)
    (M8 : Memref sig .tc .vmem S1x1x512x128 .bf16) (h8 : M8.IsWhole) (M9 : Memref sig .tc .vmem S1x128x512 .bf16) (h9 : M9.IsWhole)
    (M10 : Memref sig .tc .vmem S2x1x2048x128 .bf16) (h10 : M10.IsWhole) (M11 : Memref sig .tc .vmem S2x1x2048x128 .bf16) (h11 : M11.IsWhole)
    (M12 : Memref sig .tc .vmem S2x1x2048x128 .bf16) (h12 : M12.IsWhole) (M13 : Memref sig .tc .vmem S2x1x2048x128 .bf16) (h13 : M13.IsWhole)
    (M14 : Memref sig .tc .vmem S1x1x512x128 .bf16) (h14 : M14.IsWhole) (M15 : Memref sig .tc .vmem S1x1x512x128 .bf16) (h15 : M15.IsWhole)
    (M16 : Memref sig .tc .vmem S1x128 .f32) (h16 : M16.IsWhole) (M17 : Memref sig .tc .vmem S2x1x2048x128 .bf16) (h17 : M17.IsWhole)
    (M18 : Memref sig .tc .vmem S2x1x2048x128 .bf16) (h18 : M18.IsWhole) (M19 : Memref sig .tc .vmem S3x2x768x256 .f32) (h19 : M19.IsWhole)
    (M20 : Memref sig .tc .vmem S15x64x128 .f32) (h20 : M20.IsWhole) (M21 : Memref sig .tc .vmem S2x2x80x2048 .bf16) (h21 : M21.IsWhole)
    (M22 : Memref sig .tc .vmem S2x2x80x256 .bf16) (h22 : M22.IsWhole) (M23 : Memref sig .tc .vmem S2x8x128x256 .f32) (h23 : M23.IsWhole)
    (M24 : Memref sig .tc .vmem S2x8x128x256 .bf16) (h24 : M24.IsWhole)
    (hc : k0_cond1 i = 1#1)
    (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) :
    (kernelRunA c i M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 hc f2 f3 f4 f5 f6 f7 f8 f9 f10 f11 f12 f13 f14 f15 f16).1
     = M18.view.writes (Elt F) (View.junk M18.view) (outAll c i M3 M10 M11 M12 M13 M14 M15 M16 M23 M24 f3 f10 f11 f12 f13 f14 f15 f16) := by
  sl_kernel_rfl

end Cert.Mix

end
-- ==== Proof.MixMath.lean ====
/- The retention's arithmetic: what the chunked recurrence adds up is what the plain sum over all positions adds up,
   where the queries, keys and values are finite. -/
module

public import Idealize.ShloMosaic.Lib.Pointwise

@[expose] public section

noncomputable section

namespace Cert.Mix

open Idealize.ShloMosaic

/-- The weight of distance `n` at the log decay `l`. -/
def pw (l : EReal) (n : ℕ) : EReal := Ideal.exp (l * ((n : ℝ) : EReal))

/-- The weights of a log decay that is not positive are the powers of one real number. -/
theorem pw_pow {l : EReal} (hl : l ≤ 0) : ∃ g : ℝ, ∀ n : ℕ, pw l n = ((g ^ n : ℝ) : EReal) := by
  induction l with
  | bot =>
    refine ⟨0, fun n => ?_⟩
    rcases Nat.eq_zero_or_pos n with rfl | hn
    · have h : (⊥ : EReal) * (((0 : ℕ) : ℝ) : EReal) = ((0 : ℝ) : EReal) := by simp
      rw [pw, h]
      show ((Real.exp 0 : ℝ) : EReal) = _
      simp
    · have h : (0 : ℝ) < (n : ℝ) := by exact_mod_cast hn
      rw [pw, EReal.bot_mul_coe_of_pos h, zero_pow (by omega)]
      rfl
  | coe r =>
    refine ⟨Real.exp r, fun n => ?_⟩
    rw [pw, ← EReal.coe_mul, ← Real.exp_nat_mul, mul_comm (n : ℝ)]
    rfl
  | top => exact absurd hl (by simp)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section
variable (lf lb : EReal) (q k v : ℕ → Fin 128 → EReal) (kc vc : Fin 256 → Fin 128 → EReal)

/-- Inside a chunk: the weight both directions give the key at row `s` for the query at row `r`. -/
def decay (r s : ℕ) : EReal := (if s ≤ r then pw lf (r - s) else 0) + (if r ≤ s then pw lb (s - r) else 0)

/-- What chunk `c` adds to the forward state and -/
def addF (c : ℕ) (d e : Fin 128) : EReal := ∑ i : Fin 256, k (256 * c + i) d * (v (256 * c + i) e * pw lf (255 - i))
/-- to the backward state. -/
def addB (c : ℕ) (d e : Fin 128) : EReal := ∑ i : Fin 256, k (256 * c + i) d * (v (256 * c + i) e * pw lb i)

/-- The state the context leaves, forward and -/
def ctxF (d e : Fin 128) : EReal := ∑ j : Fin 256, kc j d * pw lf (255 - j) * vc j e
/-- backward. -/
def ctxB (d e : Fin 128) : EReal := ∑ j : Fin 256, kc j d * pw lb j * vc j e

/-- The forward state chunk `c` begins with. -/
def stF : ℕ → Fin 128 → Fin 128 → EReal
  | 0 => ctxF lf kc vc
  | c + 1 => fun d e => pw lf 256 * stF c d e + addF lf k v c d e

/-- The backward state that the `n`-th chunk from the end begins with. -/
def stB : ℕ → Fin 128 → Fin 128 → EReal
  | 0 => ctxB lb kc vc
  | n + 1 => fun d e => pw lb 256 * stB n d e + addB lb k v (7 - n) d e

/-- The chunked output at row `r` of chunk `c`, before the norm. -/
def chunked (c r : ℕ) (e : Fin 128) : EReal :=
  (∑ s : Fin 256, (∑ d : Fin 128, q (256 * c + r) d * k (256 * c + s) d) * decay lf lb r s * v (256 * c + s) e)
    + ((∑ d : Fin 128, q (256 * c + r) d * stF lf k v kc vc c d e) * pw lf (r + 1)
      + (∑ d : Fin 128, q (256 * c + r) d * stB lb k v kc vc (7 - c) d e) * pw lb (256 - r))

/-- The forward direction's output at position `t`: over all positions up to `t`, and the context's state. -/
def dirF (t : ℕ) (e : Fin 128) : EReal :=
  (∑ s : Fin 2048, (∑ d : Fin 128, q t d * k s d) * (if s.val ≤ t then pw lf (t - s) else 0) * v s e)
    + ∑ d : Fin 128, q t d * pw lf (t + 1) * ctxF lf kc vc d e

/-- The backward direction's: over all positions from `t` on. -/
def dirB (t : ℕ) (e : Fin 128) : EReal :=
  (∑ s : Fin 2048, (∑ d : Fin 128, q t d * k s d) * (if t ≤ s.val then pw lb (s - t) else 0) * v s e)
    + ∑ d : Fin 128, q t d * pw lb (2048 - t) * ctxB lb kc vc d e

end

/-- A recurrence in steps of 256, solved. -/
theorem recur (g s0 : ℝ) (a : ℕ → ℝ) (S : ℕ → ℝ) (h0 : S 0 = s0)
    (hS : ∀ n, S (n + 1) = g ^ 256 * S n + ∑ i ∈ Finset.range 256, a (256 * n + i) * g ^ (255 - i)) (n : ℕ) :
    S n = g ^ (256 * n) * s0 + ∑ s ∈ Finset.range (256 * n), a s * g ^ (256 * n - 1 - s) := by
  induction n with
  | zero => simp [h0]
  | succ n ih =>
    rw [hS, ih, show 256 * (n + 1) = 256 * n + 256 from rfl, Finset.sum_range_add, mul_add, Finset.mul_sum, pow_add, add_assoc]
    congr 1
    · ring
    · congr 1
      · refine Finset.sum_congr rfl fun s hs => ?_
        have hs' := Finset.mem_range.mp hs
        rw [show 256 * n + 256 - 1 - s = 256 + (256 * n - 1 - s) by omega, pow_add]
        ring
      · refine Finset.sum_congr rfl fun i hi => ?_
        rw [show 256 * n + 256 - 1 - (256 * n + i) = 255 - i by omega]

/-- The real counterpart of the state in steps of 256, after `n` steps. -/
def stR (g : ℝ) (s0 : ℝ) (a : ℕ → ℝ) : ℕ → ℝ
  | 0 => s0
  | n + 1 => g ^ 256 * stR g s0 a n + ∑ i ∈ Finset.range 256, a (256 * n + i) * g ^ (255 - i)

/-- One direction: the state after `c` chunks, at row `r` of the next, together with the rows of that chunk up to `r`,
    is the sum over all positions up to it. -/
theorem forward (g s0 : ℝ) (a : ℕ → ℝ) (c r : ℕ) (hc : c < 8) (hr : r < 256) :
    (∑ s ∈ Finset.range 256, a (256 * c + s) * (if s ≤ r then g ^ (r - s) else 0)) + stR g s0 a c * g ^ (r + 1)
      = (∑ s ∈ Finset.range 2048, a s * (if s ≤ 256 * c + r then g ^ (256 * c + r - s) else 0)) + g ^ (256 * c + r + 1) * s0 := by
  rw [recur g s0 a (stR g s0 a) rfl (fun n => rfl) c,
    show 2048 = 256 * c + (256 + (2048 - 256 * c - 256)) by omega, Finset.sum_range_add, Finset.sum_range_add]
  have h3 : ∑ x ∈ Finset.range (2048 - 256 * c - 256), a (256 * c + (256 + x))
      * (if 256 * c + (256 + x) ≤ 256 * c + r then g ^ (256 * c + r - (256 * c + (256 + x))) else 0) = 0 :=
    Finset.sum_eq_zero fun x _ => by rw [if_neg (by omega), mul_zero]
  have h1 : ∑ x ∈ Finset.range (256 * c), a x * (if x ≤ 256 * c + r then g ^ (256 * c + r - x) else 0)
      = (∑ s ∈ Finset.range (256 * c), a s * g ^ (256 * c - 1 - s)) * g ^ (r + 1) := by
    rw [Finset.sum_mul]
    refine Finset.sum_congr rfl fun s hs => ?_
    have hs' := Finset.mem_range.mp hs
    rw [if_pos (by omega), show 256 * c + r - s = (256 * c - 1 - s) + (r + 1) by omega, pow_add, mul_assoc]
  have h2 : ∑ x ∈ Finset.range 256, a (256 * c + x) * (if 256 * c + x ≤ 256 * c + r then g ^ (256 * c + r - (256 * c + x)) else 0)
      = ∑ s ∈ Finset.range 256, a (256 * c + s) * (if s ≤ r then g ^ (r - s) else 0) :=
    Finset.sum_congr rfl fun s _ => by
      rw [show 256 * c + r - (256 * c + s) = r - s by omega]
      congr 1
      exact if_congr (by omega) rfl rfl
  rw [h1, h2, h3, show 256 * c + r + 1 = 256 * c + (r + 1) by omega, pow_add]
  ring

/-- The other direction: the same, read from the end. -/
theorem backward (g s0 : ℝ) (a : ℕ → ℝ) (c r : ℕ) (hc : c < 8) (hr : r < 256) :
    (∑ s ∈ Finset.range 256, a (256 * c + s) * (if r ≤ s then g ^ (s - r) else 0))
        + stR g s0 (fun s => a (2047 - s)) (7 - c) * g ^ (256 - r)
      = (∑ s ∈ Finset.range 2048, a s * (if 256 * c + r ≤ s then g ^ (s - (256 * c + r)) else 0)) + g ^ (2048 - (256 * c + r)) * s0 := by
  have h := forward g s0 (fun s => a (2047 - s)) (7 - c) (255 - r) (by omega) (by omega)
  rw [show 255 - r + 1 = 256 - r by omega, show 256 * (7 - c) + (255 - r) + 1 = 2048 - (256 * c + r) by omega] at h
  rw [← Finset.sum_range_reflect (fun s => a (256 * c + s) * (if r ≤ s then g ^ (s - r) else 0)),
    ← Finset.sum_range_reflect (fun s => a s * (if 256 * c + r ≤ s then g ^ (s - (256 * c + r)) else 0))]
  refine Eq.trans ?_ (h.trans ?_)
  · congr 1
    refine Finset.sum_congr rfl fun s hs => ?_
    have hs' := Finset.mem_range.mp hs
    rw [show 2047 - (256 * (7 - c) + s) = 256 * c + (256 - 1 - s) by omega, show 256 - 1 - s - r = 255 - r - s by omega]
    congr 1
    exact if_congr (by omega) rfl rfl
  · congr 1
    refine Finset.sum_congr rfl fun s hs => ?_
    have hs' := Finset.mem_range.mp hs
    show a (2047 - s) * _ = a (2048 - 1 - s) * _
    rw [show 2048 - 1 - s = 2047 - s by omega, show 2047 - s - (256 * c + r) = 256 * (7 - c) + (255 - r) - s by omega]
    congr 1
    exact if_congr (by omega) rfl rfl

/-- The chunked output is the plain one. -/
theorem chunked_eq {lf lb : EReal} (hf : lf ≤ 0) (hb : lb ≤ 0) (q k v : ℕ → Fin 128 → EReal) (kc vc : Fin 256 → Fin 128 → EReal)
    (Q K V : ℕ → Fin 128 → ℝ) (KC VC : Fin 256 → Fin 128 → ℝ) (hq : ∀ n d, q n d = (Q n d : EReal))
    (hk : ∀ n d, k n d = (K n d : EReal)) (hv : ∀ n d, v n d = (V n d : EReal)) (hkc : ∀ n d, kc n d = (KC n d : EReal))
    (hvc : ∀ n d, vc n d = (VC n d : EReal)) (c r : ℕ) (hc : c < 8) (hr : r < 256) (e : Fin 128) :
    chunked lf lb q k v kc vc c r e = dirF lf q k v kc vc (256 * c + r) e + dirB lb q k v kc vc (256 * c + r) e := by
  obtain ⟨gf, hgf⟩ := pw_pow hf
  obtain ⟨gb, hgb⟩ := pw_pow hb
  have hcF : ∀ d, ctxF lf kc vc d e = ((∑ j : Fin 256, KC j d * gf ^ (255 - j.val) * VC j e : ℝ) : EReal) := fun d => by
    simp only [ctxF, hkc, hvc, hgf, coe_sum, EReal.coe_mul]
  have hcB : ∀ d, ctxB lb kc vc d e = ((∑ j : Fin 256, KC j d * gb ^ j.val * VC j e : ℝ) : EReal) := fun d => by
    simp only [ctxB, hkc, hvc, hgb, coe_sum, EReal.coe_mul]
  have hsF : ∀ d n, stF lf k v kc vc n d e = ((stR gf (∑ j : Fin 256, KC j d * gf ^ (255 - j.val) * VC j e) (fun s => K s d * V s e) n : ℝ) : EReal) := by
    intro d n
    induction n with
    | zero => exact hcF d
    | succ n ih =>
      show pw lf 256 * stF lf k v kc vc n d e + addF lf k v n d e = _
      rw [ih, stR, addF, ← Fin.sum_univ_eq_sum_range (fun i => K (256 * n + i) d * V (256 * n + i) e * gf ^ (255 - i))]
      simp only [hk, hv, hgf, coe_sum, EReal.coe_mul, EReal.coe_add, mul_assoc]
  have hsB : ∀ d n, n < 8 → stB lb k v kc vc n d e = ((stR gb (∑ j : Fin 256, KC j d * gb ^ j.val * VC j e) (fun s => K (2047 - s) d * V (2047 - s) e) n : ℝ) : EReal) := by
    intro d n
    induction n with
    | zero => exact fun _ => hcB d
    | succ n ih =>
      intro hn
      have e1 : ∑ i ∈ Finset.range 256, K (2047 - (256 * n + i)) d * V (2047 - (256 * n + i)) e * gb ^ (255 - i)
          = ∑ i ∈ Finset.range 256, K (256 * (7 - n) + i) d * V (256 * (7 - n) + i) e * gb ^ i := by
        rw [← Finset.sum_range_reflect (fun i => K (256 * (7 - n) + i) d * V (256 * (7 - n) + i) e * gb ^ i)]
        refine Finset.sum_congr rfl fun i hi => ?_
        have hi' := Finset.mem_range.mp hi
        rw [show 2047 - (256 * n + i) = 256 * (7 - n) + (256 - 1 - i) by omega, show 256 - 1 - i = 255 - i by omega]
      show pw lb 256 * stB lb k v kc vc n d e + addB lb k v (7 - n) d e = _
      rw [ih (by omega), stR, addB, e1, ← Fin.sum_univ_eq_sum_range (fun i => K (256 * (7 - n) + i) d * V (256 * (7 - n) + i) e * gb ^ i)]
      simp only [hk, hv, hgb, coe_sum, EReal.coe_mul, EReal.coe_add, mul_assoc]
  set t := 256 * c + r with ht
  have hite : ∀ (p : Prop) [Decidable p] (x : ℝ), (if p then (x : EReal) else 0) = ((if p then x else 0 : ℝ) : EReal) := by
    intro p _ x; split <;> simp
  -- both sides as real numbers
  have hL : chunked lf lb q k v kc vc c r e = (((∑ s : Fin 256, (∑ d : Fin 128, Q t d * K (256 * c + s) d)
        * ((if s.val ≤ r then gf ^ (r - s.val) else 0) + (if r ≤ s.val then gb ^ (s.val - r) else 0)) * V (256 * c + s) e)
      + ((∑ d : Fin 128, Q t d * stR gf (∑ j : Fin 256, KC j d * gf ^ (255 - j.val) * VC j e) (fun s => K s d * V s e) c) * gf ^ (r + 1)
        + (∑ d : Fin 128, Q t d * stR gb (∑ j : Fin 256, KC j d * gb ^ j.val * VC j e) (fun s => K (2047 - s) d * V (2047 - s) e) (7 - c)) * gb ^ (256 - r)) : ℝ) : EReal) := by
    have hB := fun d => hsB d (7 - c) (by omega)
    simp only [chunked, decay, ← ht, hq, hk, hv, hsF, hB, hgf, hgb, hite, coe_sum, EReal.coe_mul, EReal.coe_add]
  have hR : dirF lf q k v kc vc t e + dirB lb q k v kc vc t e = ((((∑ s : Fin 2048, (∑ d : Fin 128, Q t d * K s d) * (if s.val ≤ t then gf ^ (t - s.val) else 0) * V s e)
        + ∑ d : Fin 128, Q t d * gf ^ (t + 1) * (∑ j : Fin 256, KC j d * gf ^ (255 - j.val) * VC j e))
      + ((∑ s : Fin 2048, (∑ d : Fin 128, Q t d * K s d) * (if t ≤ s.val then gb ^ (s.val - t) else 0) * V s e)
        + ∑ d : Fin 128, Q t d * gb ^ (2048 - t) * (∑ j : Fin 256, KC j d * gb ^ j.val * VC j e)) : ℝ) : EReal) := by
    simp only [dirF, dirB, hq, hk, hv, hcF, hcB, hgf, hgb, hite, coe_sum, EReal.coe_mul, EReal.coe_add]
  rw [hL, hR]
  congr 1
  -- per lane of the query, the two directions
  have hF := fun d : Fin 128 => congrArg (Q t d * ·) (forward gf (∑ j : Fin 256, KC j d * gf ^ (255 - j.val) * VC j e) (fun s => K s d * V s e) c r hc hr)
  have hB := fun d : Fin 128 => congrArg (Q t d * ·) (backward gb (∑ j : Fin 256, KC j d * gb ^ j.val * VC j e) (fun s => K s d * V s e) c r hc hr)
  have hsumF := Finset.sum_congr (rfl : (Finset.univ : Finset (Fin 128)) = _) (fun d _ => hF d)
  have hsumB := Finset.sum_congr (rfl : (Finset.univ : Finset (Fin 128)) = _) (fun d _ => hB d)
  simp only [← ht, mul_add, Finset.sum_add_distrib] at hsumF hsumB
  have sw : ∀ (n : ℕ) (f : ℕ → ℕ) (w : ℕ → ℝ), (∑ s : Fin n, (∑ d : Fin 128, Q t d * K (f s) d) * w s * V (f s) e)
      = ∑ d : Fin 128, Q t d * ∑ s ∈ Finset.range n, K (f s) d * V (f s) e * w s := by
    intro n f w
    simp only [← Fin.sum_univ_eq_sum_range, Finset.sum_mul, Finset.mul_sum]
    rw [Finset.sum_comm]
    exact Finset.sum_congr rfl fun d _ => Finset.sum_congr rfl fun s _ => by ring
  have c1 := sw 256 (fun s => 256 * c + s) (fun s => if s ≤ r then gf ^ (r - s) else 0)
  have c2 := sw 256 (fun s => 256 * c + s) (fun s => if r ≤ s then gb ^ (s - r) else 0)
  have c3 := sw 2048 (fun s => s) (fun s => if s ≤ t then gf ^ (t - s) else 0)
  have c4 := sw 2048 (fun s => s) (fun s => if t ≤ s then gb ^ (s - t) else 0)
  simp only [mul_add, add_mul, Finset.sum_add_distrib, Finset.sum_mul, mul_assoc] at c1 c2 c3 c4 hsumF hsumB ⊢
  linarith

end Cert.Mix

end
-- ==== Proof.MixCell.lean ====
/- The retention's arithmetic, at an index: the few functions the body's pieces are made of. -/
module

public import proofs.«01_k».proof.Proof.MixList
public import proofs.«01_k».proof.Proof.MixMath
public import Idealize.ShloMosaic.Lib.Pointwise

@[expose] public section

noncomputable section

namespace Cert.Mix

open Cert.KernelIdeal Cert.KernelIdeal.Gen Idealize.ShloMosaic Idealize.ShloMosaic.TcCoe Idealize.SL.Sem

/-! ## Numbers -/

/-- An index below 2^31, as a 32-bit integer read as a number. -/
theorem num (n : ℕ) (h : n < 2 ^ 31) : (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem bits_255 : Ideal.ofBits .f32 0x437F0000#32 = (((255 : ℕ) : ℝ) : EReal) := by
  simp [Ideal.ofBits, Ideal.ieee]
  rw [← EReal.coe_mul]
  norm_num

theorem bits_256 : Ideal.ofBits .f32 0x43800000#32 = (((256 : ℕ) : ℝ) : EReal) := by
  simp [Ideal.ofBits, Ideal.ieee]
  rw [← EReal.coe_mul]
  norm_num

/-- A difference of two numbers, the second at most the first. -/
theorem num_sub (a b : ℕ) (h : b ≤ a) : ((a : ℝ) : EReal) - ((b : ℝ) : EReal) = (((a - b : ℕ) : ℝ) : EReal) := by
  rw [← EReal.coe_sub, Nat.cast_sub h]

theorem num_add_one (a : ℕ) : ((a : ℝ) : EReal) + 1 = (((a + 1 : ℕ) : ℝ) : EReal) := by
  rw [Nat.cast_add, Nat.cast_one, EReal.coe_add, EReal.coe_one]

/-- The weight of a later row, and of an earlier one. -/
theorem decay_eq (lf lb : EReal) (r s : ℕ) :
    ((if 0 ≤ ((r : ℝ) : EReal) - ((s : ℝ) : EReal) then Ideal.exp (lf * max (((r : ℝ) : EReal) - ((s : ℝ) : EReal)) 0) else 0) +
      if ((r : ℝ) : EReal) - ((s : ℝ) : EReal) ≤ 0 then Ideal.exp (lb * max (0 - (((r : ℝ) : EReal) - ((s : ℝ) : EReal))) 0) else 0)
      = decay lf lb r s := by
  unfold decay
  congr 1
  · by_cases h : s ≤ r
    · rw [num_sub r s h, if_pos h, if_pos (EReal.coe_nonneg.mpr (Nat.cast_nonneg _)), max_eq_left (EReal.coe_nonneg.mpr (Nat.cast_nonneg _))]
      rfl
    · rw [if_neg h, if_neg]
      rw [← EReal.coe_sub, EReal.coe_nonneg, sub_nonneg, Nat.cast_le]
      exact h
  · by_cases h : r ≤ s
    · have e : (0 : EReal) - (((r : ℝ) : EReal) - ((s : ℝ) : EReal)) = (((s - r : ℕ) : ℝ) : EReal) := by
        rw [← EReal.coe_sub, ← EReal.coe_zero, ← EReal.coe_sub, Nat.cast_sub h, zero_sub, neg_sub]
      have e' : ((r : ℝ) : EReal) - ((s : ℝ) : EReal) ≤ 0 := by
        rw [← EReal.coe_sub, ← EReal.coe_zero, EReal.coe_le_coe_iff, sub_nonpos, Nat.cast_le]
        exact h
      rw [e, if_pos h, if_pos e', max_eq_left (EReal.coe_nonneg.mpr (Nat.cast_nonneg _))]
      rfl
    · rw [if_neg h, if_neg]
      rw [← EReal.coe_sub, ← EReal.coe_zero, EReal.coe_le_coe_iff, sub_nonpos, Nat.cast_le]
      exact h

theorem weight_255 (l : EReal) (r : Fin 256) :
    Ideal.exp (l * (Ideal.ofBits .f32 0x437F0000#32 - FloatOps.sitofp .f32 (BitVec.ofNat 32 r.val) : Ideal .f32)) = pw l (255 - r.val) := by
  rw [bits_255, num r.val (by omega)]
  show Ideal.exp (l * ((((255 : ℕ) : ℝ) : EReal) - ((r.val : ℝ) : EReal))) = _
  rw [num_sub 255 r.val (by omega)]
  rfl

theorem weight_256 (l : EReal) (r : Fin 256) :
    Ideal.exp (l * (Ideal.ofBits .f32 0x43800000#32 - FloatOps.sitofp .f32 (BitVec.ofNat 32 r.val) : Ideal .f32)) = pw l (256 - r.val) := by
  rw [bits_256, num r.val (by omega)]
  show Ideal.exp (l * ((((256 : ℕ) : ℝ) : EReal) - ((r.val : ℝ) : EReal))) = _
  rw [num_sub 256 r.val (by omega)]
  rfl

theorem weight_at (l : EReal) (r : Fin 256) : Ideal.exp (l * (FloatOps.sitofp .f32 (BitVec.ofNat 32 r.val) : Ideal .f32)) = pw l r.val := by
  rw [num r.val (by omega)]
  rfl

theorem weight_next (l : EReal) (r : Fin 256) :
    Ideal.exp (l * ((FloatOps.sitofp .f32 (BitVec.ofNat 32 r.val) : Ideal .f32) + 1)) = pw l (r.val + 1) := by
  rw [num r.val (by omega)]
  show Ideal.exp (l * (((r.val : ℝ) : EReal) + 1)) = _
  rw [num_add_one]
  rfl

/-! ## The functions -/

theorem added_fwd (lf lb : Ideal .f32) (k v : Vec Ideal S1x256x128 .bf16) (d e : Fin 128) :
    added lf lb k v (ix3 0 d ⟨e.val, by omega⟩) = ∑ i : Fin 256, k (ix3 0 i d) * (v (ix3 0 i e) * pw lf (255 - i.val)) := by
  simp only [← weight_255]
  pointwise [added, k0_pay720, k0_pay699, k0_pay700, k0_pay698]

theorem added_bwd (lf lb : Ideal .f32) (k v : Vec Ideal S1x256x128 .bf16) (d e : Fin 128) :
    added lf lb k v (ix3 0 d ⟨128 + e.val, by omega⟩) = ∑ i : Fin 256, k (ix3 0 i d) * (v (ix3 0 i e) * pw lb i.val) := by
  simp only [← weight_at]
  pointwise [added, k0_pay720, k0_pay699, k0_pay700, k0_pay698]

theorem ctx0_apply (lf : Ideal .f32) (k v : Vec Ideal S1x256x128 .bf16) (d e : Fin 128) :
    ctx0 lf k v (ix2 d e) = ∑ j : Fin 256, k (ix3 0 j d) * pw lf (255 - j.val) * v (ix3 0 j e) := by
  simp only [← weight_255]
  pointwise [ctx0, k0_pay710, k0_pay707, k0_pay708, k0_pay709]

theorem ctx1_apply (lb : Ideal .f32) (k v : Vec Ideal S1x256x128 .bf16) (d e : Fin 128) :
    ctx1 lb k v (ix2 d e) = ∑ j : Fin 256, k (ix3 0 j d) * pw lb j.val * v (ix3 0 j e) := by
  simp only [← weight_at]
  pointwise [ctx1, k0_pay712, k0_pay711, k0_pay707, k0_pay708, k0_pay709]

theorem next_apply (w : FVec Ideal S1x1 .f32) (s : FVec Ideal S128x128 .f32) (t : Vec Ideal S1x128x128 .f32) (d e : Fin 128) :
    next w s t (ix2 d e) = w (ix2 0 0) * s (ix2 d e) + t (ix3 0 d e) := by
  pointwise [next, k0_pay727]

theorem whole_apply (l : Ideal .f32) : whole (F := Ideal) l (ix2 0 0) = pw l 256 := by
  have h : whole (F := Ideal) l (ix2 0 0) = Ideal.exp (1 * (l * Ideal.ofBits .f32 0x43800000#32)) := by
    pointwise [whole, k0_pay705, k0_pay703, k0_pay704]
  rw [h, one_mul, bits_256]
  rfl

theorem put_apply (s : FVec Ideal S128x128 .f32) (d e : Fin 128) : k0_pay726 s (ix4 0 0 d e) = s (ix2 d e) := by
  pointwise [k0_pay726]

theorem scores_apply (lf lb : Ideal .f32) (q k : Vec Ideal S1x256x128 .bf16) (r s : Fin 256) :
    k0_pay1243 (k0_pay1242 (k0_pay697 lf lb) q k) (ix2 r s)
      = (∑ d : Fin 128, q (ix3 0 r d) * k (ix3 0 s d)) * decay lf lb r.val s.val := by
  rw [← decay_eq, ← num r.val (by omega), ← num s.val (by omega)]
  pointwise [k0_pay1243, k0_pay1242, k0_pay697, k0_pay1241]

theorem cross_apply (lf lb : Ideal .f32) (q : Vec Ideal S1x256x128 .bf16) (s : Vec Ideal S1x128x256 .bf16) (r : Fin 256) (e : Fin 128) :
    k0_pay1244 (k0_pay701 lf) (k0_pay702 lb) (k0_pay1241 q) s (ix2 r e)
      = (∑ d : Fin 128, q (ix3 0 r d) * s (ix3 0 d ⟨e.val, by omega⟩)) * pw lf (r.val + 1)
        + (∑ d : Fin 128, q (ix3 0 r d) * s (ix3 0 d ⟨128 + e.val, by omega⟩)) * pw lb (256 - r.val) := by
  rw [← weight_next, ← weight_256]
  pointwise [k0_pay1244, k0_pay701, k0_pay702, k0_pay1241, k0_pay698]

/-- A row normed, scaled and gated. -/
def normed (y g u : Fin 128 → EReal) (e : Fin 128) : EReal :=
  y e * Ideal.rsqrt (Ideal.div (∑ x : Fin 128, y x * y x) (Ideal.ofBits .f32 0x43000000#32) + Ideal.ofBits .f32 0x358637BD#32) * g e * u e

theorem close_apply (g : Vec Ideal S1x128 .f32) (a : FVec Ideal S256x256 .bf16) (x : FVec Ideal S256x128 .f32) (v u : Vec Ideal S1x256x128 .bf16)
    (r : Fin 256) (e : Fin 128) (y : Fin 128 → Ideal .f32)
    (hy : ∀ e : Fin 128, (∑ s : Fin 256, a (ix2 r s) * v (ix3 0 s e)) + x (ix2 r e) = y e) :
    k0_pay1269 (k0_pay762 g) a x v u (ix4 0 0 r e) = normed y (fun e => g (ix2 0 e)) (fun e => u (ix3 0 r e)) e := by
  unfold normed
  pointwise [k0_pay1269, k0_pay762, hy]

/-- One row of a chunk's result. -/
theorem result_apply (lf lb : Ideal .f32) (g : Vec Ideal S1x128 .f32) (q k v u : Vec Ideal S1x256x128 .bf16) (s : Vec Ideal S1x128x256 .bf16)
    (r : Fin 256) (e : Fin 128) :
    result (F := Ideal) lf lb g q k v u s (ix4 0 0 r e) = normed (fun e =>
      (∑ s : Fin 256, (∑ d : Fin 128, q (ix3 0 r d) * k (ix3 0 s d)) * decay lf lb r.val s.val * v (ix3 0 s e))
        + ((∑ d : Fin 128, q (ix3 0 r d) * s (ix3 0 d ⟨e.val, by omega⟩)) * pw lf (r.val + 1)
          + (∑ d : Fin 128, q (ix3 0 r d) * s (ix3 0 d ⟨128 + e.val, by omega⟩)) * pw lb (256 - r.val)))
      (fun e => g (ix2 0 e)) (fun e => u (ix3 0 r e)) e :=
  close_apply g _ _ v u r e _ fun e => congrArg₂ (· + ·)
    (Finset.sum_congr rfl fun s _ => congrArg (· * v (ix3 0 s e)) (scores_apply lf lb q k r s)) (cross_apply lf lb q s r e)

end Cert.Mix

end
-- ==== Proof.MixRead.lean ====
/- What the retention's loads read, at an index: the chunks of a block, and the two scratch buffers the body filled. -/
module

public import proofs.«01_k».proof.Proof.MixCell
public import Idealize.ShloMosaic.Lib.Pipeline.ValueKit.Tiles

@[expose] public section

noncomputable section

namespace Cert.Mix

open Cert.KernelIdeal Cert.KernelIdeal.Gen Idealize.ShloMosaic Idealize.ShloMosaic.TcCoe Idealize.SL.Sem

/-! ## Loads of the arguments -/

/-- Row `r` of chunk `n` is row `256 n + r`. -/
theorem blk_apply (c : Dev nD) (M : Memref sig .tc .vmem S2x1x2048x128 .bf16) (f : Bf (F := Ideal) c M) (j : Fin 2) (n : Fin 8) (r : Fin 256)
    (d : Fin 128) : blk c M f j n (ix3 0 r d) = M.view.read (Elt Ideal) f (ix4 j 0 ⟨256 * n.val + r.val, by omega⟩ d) := by
  unfold blk
  have hx : Shape.reshapeEquiv (LoadRect.numel_consLift (Rect.unit (s := S1x2048x128) ![0, 256 * n.val, 0] S1x256x128.size (in_chunk n)).toLoadRect
      ![1, 1, 2048, 128] rfl size_lat) (ix3 0 r d) = Fin.cons ⟨0, Nat.one_pos⟩ (ix3 0 r d) :=
    Shape.reshapeEquiv_cons_one (d := S1x256x128.size) _ _
  show M.view.read (Elt Ideal) f (LoadRect.idx _ (Shape.reshapeEquiv _ _)) = _
  refine congrArg _ (Eq.trans (congrArg _ hx) ?_)
  funext a; apply Fin.ext
  match a with
  | ⟨0, _⟩ => show j.val + 0 + 1 * 0 = j.val; omega
  | ⟨1, _⟩ => show 0 + 0 + 1 * 0 = 0; omega
  | ⟨2, _⟩ => show 0 + 256 * n.val + 1 * r.val = 256 * n.val + r.val; omega
  | ⟨3, _⟩ => show 0 + 0 + 1 * d.val = d.val; omega

theorem ctxBlk_apply (c : Dev nD) (M : Memref sig .tc .vmem S1x1x512x128 .bf16) (f : Bf (F := Ideal) c M) (j : Fin 2) (r : Fin 256)
    (d : Fin 128) : ctxBlk c M f j (ix3 0 r d) = M.view.read (Elt Ideal) f (ix4 0 0 ⟨256 * j.val + r.val, by omega⟩ d) := by
  unfold ctxBlk
  show M.view.read (Elt Ideal) f ((Rect.unit (s := S1x1x512x128) ![0, 0, 0, 0] S1x1x512x128.size
    inb_S1x1x512x128_S1x1x512x128_0_0_0_0).emb (Shape.reshapeEquiv _ ((Rect.unit (s := S1x512x128) ![0, 256 * j.val, 0] S1x256x128.size (in_ctx j)).emb
      ((Rect.unit (s := S1x256x128) ![0, 0, 0] S1x256x128.size inb_S1x256x128_S1x256x128_0_0_0).toLoadRect.idx (ix3 0 r d))))) = _
  have hz : (Rect.unit (s := S1x512x128) ![0, 256 * j.val, 0] S1x256x128.size (in_ctx j)).emb
      ((Rect.unit (s := S1x256x128) ![0, 0, 0] S1x256x128.size inb_S1x256x128_S1x256x128_0_0_0).toLoadRect.idx (ix3 0 r d))
      = (ix3 0 ⟨256 * j.val + r.val, by omega⟩ d : S1x512x128.Idx) := by
    funext a; apply Fin.ext
    match a with
    | ⟨0, _⟩ => rfl
    | ⟨1, _⟩ => show 256 * j.val + 1 * (0 + 1 * r.val) = 256 * j.val + r.val; omega
    | ⟨2, _⟩ => show 0 + 1 * (0 + 1 * d.val) = d.val; omega
  rw [hz]
  have hx : Shape.reshapeEquiv (squeezes_S1x1x512x128_S1x512x128).numel_eq (ix3 0 ⟨256 * j.val + r.val, by omega⟩ d : S1x512x128.Idx)
      = Fin.cons ⟨0, Nat.one_pos⟩ (ix3 0 ⟨256 * j.val + r.val, by omega⟩ d : S1x512x128.Idx) :=
    Shape.reshapeEquiv_cons_one (d := S1x512x128.size) _ _
  refine congrArg _ (Eq.trans (congrArg _ hx) ?_)
  funext a; apply Fin.ext
  match a with
  | ⟨0, _⟩ => rfl
  | ⟨1, _⟩ => rfl
  | ⟨2, _⟩ => show 0 + 1 * (256 * j.val + r.val) = 256 * j.val + r.val; omega
  | ⟨3, _⟩ => show 0 + 1 * d.val = d.val; omega

/-! ## Loads of the scratch buffers -/

theorem addRead_apply (M : Memref sig .tc .vmem S2x8x128x256 .f32) (L : List (View.Piece (Elt Ideal) S2x8x128x256 .f32)) (j : Fin 2) (n : Fin 8)
    (b : Fin 2) (d e : Fin 128) :
    addRead M L j n b (ix3 0 d e) = View.canon L (ix4 j n d ⟨128 * b.val + e.val, by omega⟩) := by
  unfold addRead
  have hx : Shape.reshapeEquiv (LoadRect.numel_consLift (Rect.unit (s := S8x128x256) ![n.val, 0, 128 * b.val] S1x128x128.size (in_half n b)).toLoadRect
      ![1, 8, 128, 256] rfl size_scr) (ix3 0 d e) = Fin.cons ⟨0, Nat.one_pos⟩ (ix3 0 d e) :=
    Shape.reshapeEquiv_cons_one (d := S1x128x128.size) _ _
  rw [View.readCov_eq_canon']
  show View.canon L (LoadRect.idx _ (Shape.reshapeEquiv _ _)) = _
  refine congrArg _ (Eq.trans (congrArg _ hx) ?_)
  funext a; apply Fin.ext
  match a with
  | ⟨0, _⟩ => show j.val + 0 + 1 * 0 = j.val; omega
  | ⟨1, _⟩ => show 0 + n.val + 1 * 0 = n.val; omega
  | ⟨2, _⟩ => show 0 + 0 + 1 * d.val = d.val; omega
  | ⟨3, _⟩ => show 0 + 128 * b.val + 1 * e.val = 128 * b.val + e.val; omega

theorem stRead_apply (M : Memref sig .tc .vmem S2x8x128x256 .bf16) (L : List (View.Piece (Elt Ideal) S2x8x128x256 .bf16)) (j : Fin 2) (n : Fin 8)
    (d : Fin 128) (e : Fin 256) : stRead M L j n (ix3 0 d e) = View.canon L (ix4 j n d e) := by
  unfold stRead
  have hx : Shape.reshapeEquiv (LoadRect.numel_consLift (Rect.unit (s := S8x128x256) ![n.val, 0, 0] S1x128x256.size (in_all n)).toLoadRect
      ![1, 8, 128, 256] rfl size_scr) (ix3 0 d e) = Fin.cons ⟨0, Nat.one_pos⟩ (ix3 0 d e) :=
    Shape.reshapeEquiv_cons_one (d := S1x128x256.size) _ _
  rw [View.readCov_eq_canon']
  show View.canon L (LoadRect.idx _ (Shape.reshapeEquiv _ _)) = _
  refine congrArg _ (Eq.trans (congrArg _ hx) ?_)
  funext a; apply Fin.ext
  match a with
  | ⟨0, _⟩ => show j.val + 0 + 1 * 0 = j.val; omega
  | ⟨1, _⟩ => show 0 + n.val + 1 * 0 = n.val; omega
  | ⟨2, _⟩ => show 0 + 0 + 1 * d.val = d.val; omega
  | ⟨3, _⟩ => show 0 + 0 + 1 * e.val = e.val; omega

/-! ## What the pieces hold -/

/-- The piece of one chunk, anywhere in it. -/
theorem addPiece_at (j : Fin 2) (n : Fin 8) (t : FVec Ideal S1x128x256 .f32) (y : S2x8x128x256.Idx) (v : Ideal .f32)
    (hv : y 0 = j → y 1 = n → t (ix3 0 (y 2) (y 3)) = v) :
    View.RectAt (Val := Elt Ideal) (e := .f32) y (addPiece j n t).1 (addPiece j n t).2 v := by
  intro x hx
  have h := fun a => congrArg (fun z : S2x8x128x256.Idx => (z a).val) hx
  have h0 : j.val + 0 + 1 * (x 0).val = (y 0).val := h 0
  have h1 : 0 + n.val + 1 * (x 1).val = (y 1).val := h 1
  have h2 : 0 + 0 + 1 * (x 2).val = (y 2).val := h 2
  have h3 : 0 + 0 + 1 * (x 3).val = (y 3).val := h 3
  have l0 : (x 0).val < 1 := (x 0).isLt
  have l1 : (x 1).val < 1 := (x 1).isLt
  rw [← hv (Fin.ext (by omega)) (Fin.ext (by omega))]
  refine Rect.payAlong_consLift (Rect.unit (s := S8x128x256) ![n.val, 0, 0] S1x128x256.size (in_all n)) ![1, 8, 128, 256] rfl size_scr t _ x
    (ix3 0 (y 2) (y 3)) fun a => ?_
  match a with
  | ⟨0, _⟩ => show 0 = (x 1).val; omega
  | ⟨1, _⟩ => show (y 2).val = (x 2).val; omega
  | ⟨2, _⟩ => show (y 3).val = (x 3).val; omega

theorem addPiece_mem (j : Fin 2) (n : Fin 8) (t : FVec Ideal S1x128x256 .f32) (d : Fin 128) (e : Fin 256) :
    (ix4 j n d e : S2x8x128x256.Idx) ∈ (addPiece j n t).1.set := by
  have h : (addPiece j n t).1.emb (Fin.cons ⟨0, Nat.one_pos⟩ (ix3 0 d e)) = ix4 j n d e := by
    funext a; apply Fin.ext
    match a with
    | ⟨0, _⟩ => show j.val + 0 + 1 * 0 = j.val; omega
    | ⟨1, _⟩ => show 0 + n.val + 1 * 0 = n.val; omega
    | ⟨2, _⟩ => show 0 + 0 + 1 * d.val = d.val; omega
    | ⟨3, _⟩ => show 0 + 0 + 1 * e.val = e.val; omega
  rw [← h]
  exact LoadRect.idx_mem _ _

theorem addList_at (j : Fin 2) (t : Fin 8 → FVec Ideal S1x128x256 .f32) (L : List (View.Piece (Elt Ideal) S2x8x128x256 .f32))
    (y : S2x8x128x256.Idx) (v : Ideal .f32) (hv : ∀ n : Fin 8, y 0 = j → y 1 = n → t n (ix3 0 (y 2) (y 3)) = v)
    (hL : View.AllAt (Val := Elt Ideal) L y v) : View.AllAt (Val := Elt Ideal) (addList j t L) y v := by
  unfold addList
  refine View.allAt_cons _ _ _ (addPiece_at j 7 _ y v (hv 7)) ?_
  refine View.allAt_cons _ _ _ (addPiece_at j 6 _ y v (hv 6)) ?_
  refine View.allAt_cons _ _ _ (addPiece_at j 5 _ y v (hv 5)) ?_
  refine View.allAt_cons _ _ _ (addPiece_at j 4 _ y v (hv 4)) ?_
  refine View.allAt_cons _ _ _ (addPiece_at j 3 _ y v (hv 3)) ?_
  refine View.allAt_cons _ _ _ (addPiece_at j 2 _ y v (hv 2)) ?_
  refine View.allAt_cons _ _ _ (addPiece_at j 1 _ y v (hv 1)) ?_
  exact View.allAt_cons _ _ _ (addPiece_at j 0 _ y v (hv 0)) hL

theorem addList_mem (j : Fin 2) (t : Fin 8 → FVec Ideal S1x128x256 .f32) (L : List (View.Piece (Elt Ideal) S2x8x128x256 .f32)) (n : Fin 8) :
    addPiece j n (t n) ∈ addList j t L := by
  unfold addList
  match n with
  | 0 | 1 | 2 | 3 | 4 | 5 | 6 | 7 => simp only [List.mem_cons, true_or, or_true]

/-- Half `b` of chunk `n`'s states, anywhere in it. -/
theorem stPiece_at (j : Fin 2) (n : Fin 8) (b : Fin 2) (s : FVec Ideal S128x128 .f32) (y : S2x8x128x256.Idx) (v : Ideal .bf16)
    (hv : ∀ e : Fin 128, y 0 = j → y 1 = n → (y 3).val = 128 * b.val + e.val → s (ix2 (y 2) e) = v) :
    View.RectAt (Val := Elt Ideal) (e := .bf16) y (stPiece j n b s).1 (stPiece j n b s).2 v := by
  intro x hx
  have h := fun a => congrArg (fun z : S2x8x128x256.Idx => (z a).val) hx
  have h0 : j.val + 1 * (x 0).val = (y 0).val := h 0
  have h1 : n.val + 1 * (x 1).val = (y 1).val := h 1
  have h2 : 0 + 1 * (x 2).val = (y 2).val := h 2
  have h3 : 128 * b.val + 1 * (x 3).val = (y 3).val := h 3
  have l0 : (x 0).val < 1 := (x 0).isLt
  have l1 : (x 1).val < 1 := (x 1).isLt
  rw [← hv (x 3) (Fin.ext (by omega)) (Fin.ext (by omega)) (by omega)]
  have hx' : x = ix4 0 0 (y 2) (x 3) := by
    funext a; apply Fin.ext
    match a with
    | ⟨0, _⟩ => show (x 0).val = 0; omega
    | ⟨1, _⟩ => show (x 1).val = 0; omega
    | ⟨2, _⟩ => show (x 2).val = (y 2).val; omega
    | ⟨3, _⟩ => rfl
  exact (congrArg (k0_pay726 s) hx').trans (put_apply s _ _)

theorem stPiece_mem (j : Fin 2) (n : Fin 8) (b : Fin 2) (s : FVec Ideal S128x128 .f32) (d : Fin 128) (e : Fin 256) (e' : Fin 128)
    (he : e.val = 128 * b.val + e'.val) : (ix4 j n d e : S2x8x128x256.Idx) ∈ (stPiece j n b s).1.set := by
  have h : (stPiece j n b s).1.emb (ix4 0 0 d e') = ix4 j n d e := by
    funext a; apply Fin.ext
    match a with
    | ⟨0, _⟩ => show j.val + 1 * 0 = j.val; omega
    | ⟨1, _⟩ => show n.val + 1 * 0 = n.val; omega
    | ⟨2, _⟩ => show 0 + 1 * d.val = d.val; omega
    | ⟨3, _⟩ => show 128 * b.val + 1 * e'.val = e.val; omega
  rw [← h]
  exact LoadRect.idx_mem _ _

theorem stList_at (j : Fin 2) (s0 s1 : ℕ → FVec Ideal S128x128 .f32) (L : List (View.Piece (Elt Ideal) S2x8x128x256 .bf16))
    (y : S2x8x128x256.Idx) (v : Ideal .bf16)
    (hv0 : ∀ (n : ℕ) (e : Fin 128), y 0 = j → (y 1).val = n → (y 3).val = e.val → s0 n (ix2 (y 2) e) = v)
    (hv1 : ∀ (n : ℕ) (e : Fin 128), y 0 = j → (y 1).val + n = 7 → (y 3).val = 128 + e.val → s1 n (ix2 (y 2) e) = v)
    (hL : View.AllAt (Val := Elt Ideal) L y v) : View.AllAt (Val := Elt Ideal) (stList j s0 s1 L) y v := by
  have a0 : ∀ n : Fin 8, View.RectAt (Val := Elt Ideal) (e := .bf16) y (stPiece j n 0 (s0 n.val)).1 (stPiece j n 0 (s0 n.val)).2 v := fun n =>
    stPiece_at j n 0 _ y v fun e h0 h1 h3 => hv0 n.val e h0 (congrArg Fin.val h1) (h3.trans (Nat.zero_add _))
  have a1 : ∀ (n : Fin 8) (m : ℕ), n.val + m = 7 → View.RectAt (Val := Elt Ideal) (e := .bf16) y (stPiece j n 1 (s1 m)).1 (stPiece j n 1 (s1 m)).2 v :=
    fun n m hm => stPiece_at j n 1 _ y v fun e h0 h1 h3 => hv1 m e h0 (h1 ▸ hm) h3
  unfold stList
  refine View.allAt_cons _ _ _ (a1 0 7 rfl) ?_
  refine View.allAt_cons _ _ _ (a1 1 6 rfl) ?_
  refine View.allAt_cons _ _ _ (a1 2 5 rfl) ?_
  refine View.allAt_cons _ _ _ (a1 3 4 rfl) ?_
  refine View.allAt_cons _ _ _ (a1 4 3 rfl) ?_
  refine View.allAt_cons _ _ _ (a1 5 2 rfl) ?_
  refine View.allAt_cons _ _ _ (a1 6 1 rfl) ?_
  refine View.allAt_cons _ _ _ (a1 7 0 rfl) ?_
  refine View.allAt_cons _ _ _ (a0 7) ?_
  refine View.allAt_cons _ _ _ (a0 6) ?_
  refine View.allAt_cons _ _ _ (a0 5) ?_
  refine View.allAt_cons _ _ _ (a0 4) ?_
  refine View.allAt_cons _ _ _ (a0 3) ?_
  refine View.allAt_cons _ _ _ (a0 2) ?_
  refine View.allAt_cons _ _ _ (a0 1) ?_
  exact View.allAt_cons _ _ _ (a0 0) hL

theorem stList_mem0 (j : Fin 2) (s0 s1 : ℕ → FVec Ideal S128x128 .f32) (L : List (View.Piece (Elt Ideal) S2x8x128x256 .bf16)) (n : Fin 8) :
    stPiece j n 0 (s0 n.val) ∈ stList j s0 s1 L := by
  unfold stList
  match n with
  | 0 | 1 | 2 | 3 | 4 | 5 | 6 | 7 => simp

theorem stList_mem1 (j : Fin 2) (s0 s1 : ℕ → FVec Ideal S128x128 .f32) (L : List (View.Piece (Elt Ideal) S2x8x128x256 .bf16)) (n : Fin 8) :
    stPiece j n 1 (s1 (7 - n.val)) ∈ stList j s0 s1 L := by
  unfold stList
  match n with
  | 0 | 1 | 2 | 3 | 4 | 5 | 6 | 7 => simp

/-- A chunk of the result, anywhere in it. -/
theorem outPiece_at (j : Fin 2) (n : Fin 8) (o : Vec Ideal S1x1x256x128 .bf16) (y : S2x1x2048x128.Idx) (v : Ideal .bf16)
    (hv : ∀ r : Fin 256, y 0 = j → (y 2).val = 256 * n.val + r.val → o (ix4 0 0 r (y 3)) = v) :
    View.RectAt (Val := Elt Ideal) (e := .bf16) y (outPiece j n o).1 (outPiece j n o).2 v := by
  intro x hx
  have h := fun a => congrArg (fun z : S2x1x2048x128.Idx => (z a).val) hx
  have h0 : j.val + 1 * (x 0).val = (y 0).val := h 0
  have h2 : 256 * n.val + 1 * (x 2).val = (y 2).val := h 2
  have h3 : 0 + 1 * (x 3).val = (y 3).val := h 3
  have l0 : (x 0).val < 1 := (x 0).isLt
  have l1 : (x 1).val < 1 := (x 1).isLt
  rw [← hv (x 2) (Fin.ext (by omega)) (by omega)]
  refine congrArg o (funext fun a => Fin.ext ?_)
  match a with
  | ⟨0, _⟩ => show (x 0).val = 0; omega
  | ⟨1, _⟩ => show (x 1).val = 0; omega
  | ⟨2, _⟩ => rfl
  | ⟨3, _⟩ => show (x 3).val = (y 3).val; omega

theorem outPiece_mem (j : Fin 2) (n : Fin 8) (o : Vec Ideal S1x1x256x128 .bf16) (t : Fin 2048) (r : Fin 256) (e : Fin 128)
    (ht : t.val = 256 * n.val + r.val) : (ix4 j 0 t e : S2x1x2048x128.Idx) ∈ (outPiece j n o).1.set := by
  have h : (outPiece j n o).1.emb (ix4 0 0 r e) = ix4 j 0 t e := by
    funext a; apply Fin.ext
    match a with
    | ⟨0, _⟩ => show j.val + 1 * 0 = j.val; omega
    | ⟨1, _⟩ => rfl
    | ⟨2, _⟩ => show 256 * n.val + 1 * r.val = t.val; omega
    | ⟨3, _⟩ => show 0 + 1 * e.val = e.val; omega
  rw [← h]
  exact LoadRect.idx_mem _ _

theorem outList_at (j : Fin 2) (o : Fin 8 → Vec Ideal S1x1x256x128 .bf16) (L : List (View.Piece (Elt Ideal) S2x1x2048x128 .bf16))
    (y : S2x1x2048x128.Idx) (v : Ideal .bf16)
    (hv : ∀ (n : Fin 8) (r : Fin 256), y 0 = j → (y 2).val = 256 * n.val + r.val → o n (ix4 0 0 r (y 3)) = v)
    (hL : View.AllAt (Val := Elt Ideal) L y v) : View.AllAt (Val := Elt Ideal) (outList j o L) y v := by
  unfold outList
  refine View.allAt_cons _ _ _ (outPiece_at j 7 _ y v (hv 7)) ?_
  refine View.allAt_cons _ _ _ (outPiece_at j 6 _ y v (hv 6)) ?_
  refine View.allAt_cons _ _ _ (outPiece_at j 5 _ y v (hv 5)) ?_
  refine View.allAt_cons _ _ _ (outPiece_at j 4 _ y v (hv 4)) ?_
  refine View.allAt_cons _ _ _ (outPiece_at j 3 _ y v (hv 3)) ?_
  refine View.allAt_cons _ _ _ (outPiece_at j 2 _ y v (hv 2)) ?_
  refine View.allAt_cons _ _ _ (outPiece_at j 1 _ y v (hv 1)) ?_
  exact View.allAt_cons _ _ _ (outPiece_at j 0 _ y v (hv 0)) hL

theorem outList_mem (j : Fin 2) (o : Fin 8 → Vec Ideal S1x1x256x128 .bf16) (L : List (View.Piece (Elt Ideal) S2x1x2048x128 .bf16)) (n : Fin 8) :
    outPiece j n (o n) ∈ outList j o L := by
  unfold outList
  match n with
  | 0 | 1 | 2 | 3 | 4 | 5 | 6 | 7 => simp only [List.mem_cons, true_or, or_true]

theorem outList_tail (j : Fin 2) (o : Fin 8 → Vec Ideal S1x1x256x128 .bf16) (L : List (View.Piece (Elt Ideal) S2x1x2048x128 .bf16))
    (p : View.Piece (Elt Ideal) S2x1x2048x128 .bf16) (hp : p ∈ L) : p ∈ outList j o L := by
  unfold outList
  simp only [List.mem_cons, hp, or_true]

end Cert.Mix

end
-- ==== Proof.MixBlock.lean ====
/- The retention's block at an index: the chunked recurrence over the two batch elements' rows, normed and gated. -/
module

public import proofs.«01_k».proof.Proof.MixRead

@[expose] public section

noncomputable section

namespace Cert.Mix

open Cert.KernelIdeal Cert.KernelIdeal.Gen Idealize.ShloMosaic Idealize.ShloMosaic.TcCoe Idealize.SL.Sem

/-- A batch element's rows of a block, by number. -/
def rowsOf (x : Vec Ideal S2x1x2048x128 .bf16) (j : Fin 2) (t : ℕ) (d : Fin 128) : EReal :=
  if h : t < 2048 then x (ix4 j 0 ⟨t, h⟩ d) else 0

/-- A batch element's context rows. -/
def ctxOf (x : Vec Ideal S1x1x512x128 .bf16) (j : Fin 2) (r : Fin 256) (d : Fin 128) : EReal := x (ix4 0 0 ⟨256 * j.val + r.val, by omega⟩ d)

section
variable (c : Dev nD) (i : grid0.Coords) (M3 : Memref sig .tc .smem S2x4 .f32)
    (M10 M11 M12 M13 : Memref sig .tc .vmem S2x1x2048x128 .bf16) (M14 M15 : Memref sig .tc .vmem S1x1x512x128 .bf16)
    (M16 : Memref sig .tc .vmem S1x128 .f32) (M23 : Memref sig .tc .vmem S2x8x128x256 .f32) (M24 : Memref sig .tc .vmem S2x8x128x256 .bf16)
    (f3 : Bf (F := Ideal) c M3) (f10 : Bf (F := Ideal) c M10) (f11 : Bf (F := Ideal) c M11) (f12 : Bf (F := Ideal) c M12)
    (f13 : Bf (F := Ideal) c M13) (f14 : Bf (F := Ideal) c M14) (f15 : Bf (F := Ideal) c M15) (f16 : Bf (F := Ideal) c M16)

theorem blk_rows (M : Memref sig .tc .vmem S2x1x2048x128 .bf16) (f : Bf (F := Ideal) c M) (j : Fin 2) (n : Fin 8) (r : Fin 256) (d : Fin 128) :
    blk c M f j n (ix3 0 r d) = rowsOf (M.view.read (Elt Ideal) f) j (256 * n.val + r.val) d := by
  rw [blk_apply, rowsOf, dif_pos (by omega)]

theorem ctxBlk_rows (M : Memref sig .tc .vmem S1x1x512x128 .bf16) (f : Bf (F := Ideal) c M) (j : Fin 2) (r : Fin 256) (d : Fin 128) :
    ctxBlk c M f j (ix3 0 r d) = ctxOf (M.view.read (Elt Ideal) f) j r d := ctxBlk_apply c M f j r d

/-- The scratch of what the chunks add. -/
theorem addAll_apply (j : Fin 2) (n : Fin 8) (d : Fin 128) (e : Fin 256) :
    View.canon (addAll c i M3 M11 M12 f3 f11 f12 j) (ix4 j n d e) = adds c i M3 M11 M12 f3 f11 f12 j n (ix3 0 d e) := by
  match j with
  | 0 =>
    refine View.canon_eq_of_allAt _ _ _ ⟨_, addList_mem 0 (adds c i M3 M11 M12 f3 f11 f12 0) [] n, addPiece_mem 0 n _ d e⟩ ?_
    exact addList_at 0 _ _ _ _ (fun m _ h => by rw [show n = m from h]; rfl) (View.allAt_nil _ _)
  | 1 =>
    refine View.canon_eq_of_allAt _ _ _ ⟨_, addList_mem 1 (adds c i M3 M11 M12 f3 f11 f12 1) _ n, addPiece_mem 1 n _ d e⟩ ?_
    refine addList_at 1 _ _ _ _ (fun m _ h => by rw [show n = m from h]; rfl) ?_
    exact addList_at 0 _ _ _ _ (fun m h _ => absurd (show (1 : Fin 2) = 0 from h) (by decide)) (View.allAt_nil _ _)

theorem addF_apply (j : Fin 2) (n : Fin 8) (d e : Fin 128) :
    addRead M23 (addAll c i M3 M11 M12 f3 f11 f12 j) j n 0 (ix3 0 d e)
      = addF (lg0 c i M3 f3) (rowsOf (M11.view.read (Elt Ideal) f11) j) (rowsOf (M12.view.read (Elt Ideal) f12) j) n.val d e := by
  rw [addRead_apply, addAll_apply]
  unfold adds addF
  refine Eq.trans (congrArg _ ?_) ((added_fwd _ _ _ _ d e).trans (Finset.sum_congr rfl fun r _ => ?_))
  · exact congrArg (ix3 0 d) (Fin.ext (Nat.zero_add _))
  · rw [blk_rows, blk_rows]

theorem addB_apply (j : Fin 2) (n : Fin 8) (d e : Fin 128) :
    addRead M23 (addAll c i M3 M11 M12 f3 f11 f12 j) j n 1 (ix3 0 d e)
      = addB (lg1 c i M3 f3) (rowsOf (M11.view.read (Elt Ideal) f11) j) (rowsOf (M12.view.read (Elt Ideal) f12) j) n.val d e := by
  rw [addRead_apply, addAll_apply]
  unfold adds addB
  refine Eq.trans (congrArg _ ?_) ((added_bwd _ _ _ _ d e).trans (Finset.sum_congr rfl fun r _ => ?_))
  · exact congrArg (ix3 0 d) (Fin.ext rfl)
  · rw [blk_rows, blk_rows]

/-- The forward states. -/
theorem st0_apply (j : Fin 2) (n : ℕ) (hn : n < 8) (d e : Fin 128) :
    st0 c i M3 M11 M12 M14 M15 M23 f3 f11 f12 f14 f15 j n (ix2 d e)
      = stF (lg0 c i M3 f3) (rowsOf (M11.view.read (Elt Ideal) f11) j) (rowsOf (M12.view.read (Elt Ideal) f12) j)
          (ctxOf (M14.view.read (Elt Ideal) f14) j) (ctxOf (M15.view.read (Elt Ideal) f15) j) n d e := by
  induction n generalizing d e with
  | zero =>
    refine (ctx0_apply _ _ _ d e).trans ?_
    show _ = ctxF _ _ _ d e
    unfold ctxF
    refine Finset.sum_congr rfl fun r _ => ?_
    rw [ctxBlk_rows, ctxBlk_rows]
  | succ n ih =>
    refine (next_apply _ _ _ d e).trans (congrArg₂ (· + ·) (congrArg₂ (· * ·) (whole_apply _) (ih (by omega) d e)) ?_)
    refine (addF_apply c i M3 M11 M12 M23 f3 f11 f12 j (Fin.ofNat 8 n) d e).trans ?_
    exact congrArg (fun m => addF _ _ _ m d e) (Nat.mod_eq_of_lt (by omega))

/-- The backward states. -/
theorem st1_apply (j : Fin 2) (n : ℕ) (hn : n < 8) (d e : Fin 128) :
    st1 c i M3 M11 M12 M14 M15 M23 f3 f11 f12 f14 f15 j n (ix2 d e)
      = stB (lg1 c i M3 f3) (rowsOf (M11.view.read (Elt Ideal) f11) j) (rowsOf (M12.view.read (Elt Ideal) f12) j)
          (ctxOf (M14.view.read (Elt Ideal) f14) j) (ctxOf (M15.view.read (Elt Ideal) f15) j) n d e := by
  induction n generalizing d e with
  | zero =>
    refine (ctx1_apply _ _ _ d e).trans ?_
    show _ = ctxB _ _ _ d e
    unfold ctxB
    refine Finset.sum_congr rfl fun r _ => ?_
    rw [ctxBlk_rows, ctxBlk_rows]
  | succ n ih =>
    refine (next_apply _ _ _ d e).trans (congrArg₂ (· + ·) (congrArg₂ (· * ·) (whole_apply _) (ih (by omega) d e)) ?_)
    refine (addB_apply c i M3 M11 M12 M23 f3 f11 f12 j (Fin.ofNat 8 (7 - n)) d e).trans ?_
    exact congrArg (fun m => addB _ _ _ m d e) (Nat.mod_eq_of_lt (by omega))

theorem stAll_fwd (j : Fin 2) (n : Fin 8) (d e : Fin 128) :
    View.canon (stAll c i M3 M11 M12 M14 M15 M23 f3 f11 f12 f14 f15) (ix4 j n d ⟨e.val, by omega⟩)
      = st0 c i M3 M11 M12 M14 M15 M23 f3 f11 f12 f14 f15 j n.val (ix2 d e) := by
  unfold stAll
  have hit : ∀ (J : Fin 2) (m : ℕ) (e' : Fin 128), n.val = m → e.val = e'.val →
      st0 c i M3 M11 M12 M14 M15 M23 f3 f11 f12 f14 f15 J m (ix2 d e') = st0 c i M3 M11 M12 M14 M15 M23 f3 f11 f12 f14 f15 J n.val (ix2 d e) := by
    intro J m e' h1 h2
    rw [← h1, Fin.ext h2]
  match j with
  | 0 =>
    refine View.canon_eq_of_allAt _ _ _ ⟨_, List.mem_append_right (stList 1 _ _ []) (stList_mem0 0 _ _ [] n), stPiece_mem 0 n 0 _ d _ e (Nat.zero_add _).symm⟩ ?_
    refine stList_at 1 _ _ _ _ _ (fun m e' h _ _ => absurd (show (0 : Fin 2) = 1 from h) (by decide))
      (fun m e' h _ _ => absurd (show (0 : Fin 2) = 1 from h) (by decide)) ?_
    exact stList_at 0 _ _ _ _ _ (fun m e' _ h1 h3 => hit 0 m e' h1 h3)
      (fun m e' _ _ h3 => absurd (show e.val = 128 + e'.val from h3) (by omega)) (View.allAt_nil _ _)
  | 1 =>
    refine View.canon_eq_of_allAt _ _ _ ⟨_, stList_mem0 1 _ _ _ n, stPiece_mem 1 n 0 _ d _ e (Nat.zero_add _).symm⟩ ?_
    refine stList_at 1 _ _ _ _ _ (fun m e' _ h1 h3 => hit 1 m e' h1 h3)
      (fun m e' _ _ h3 => absurd (show e.val = 128 + e'.val from h3) (by omega)) ?_
    exact stList_at 0 _ _ _ _ _ (fun m e' h _ _ => absurd (show (1 : Fin 2) = 0 from h) (by decide))
      (fun m e' h _ _ => absurd (show (1 : Fin 2) = 0 from h) (by decide)) (View.allAt_nil _ _)

theorem stAll_bwd (j : Fin 2) (n : Fin 8) (d e : Fin 128) :
    View.canon (stAll c i M3 M11 M12 M14 M15 M23 f3 f11 f12 f14 f15) (ix4 j n d ⟨128 + e.val, by omega⟩)
      = st1 c i M3 M11 M12 M14 M15 M23 f3 f11 f12 f14 f15 j (7 - n.val) (ix2 d e) := by
  unfold stAll
  have hit : ∀ (J : Fin 2) (m : ℕ) (e' : Fin 128), n.val + m = 7 → 128 + e.val = 128 + e'.val →
      st1 c i M3 M11 M12 M14 M15 M23 f3 f11 f12 f14 f15 J m (ix2 d e') = st1 c i M3 M11 M12 M14 M15 M23 f3 f11 f12 f14 f15 J (7 - n.val) (ix2 d e) := by
    intro J m e' h1 h2
    rw [show m = 7 - n.val by omega, show e' = e from Fin.ext (by omega)]
  match j with
  | 0 =>
    refine View.canon_eq_of_allAt _ _ _ ⟨_, List.mem_append_right (stList 1 _ _ []) (stList_mem1 0 _ _ [] n), stPiece_mem 0 n 1 _ d _ e rfl⟩ ?_
    refine stList_at 1 _ _ _ _ _ (fun m e' h _ _ => absurd (show (0 : Fin 2) = 1 from h) (by decide))
      (fun m e' h _ _ => absurd (show (0 : Fin 2) = 1 from h) (by decide)) ?_
    exact stList_at 0 _ _ _ _ _ (fun m e' _ _ h3 => absurd (show 128 + e.val = e'.val from h3) (by omega))
      (fun m e' _ h1 h3 => hit 0 m e' h1 h3) (View.allAt_nil _ _)
  | 1 =>
    refine View.canon_eq_of_allAt _ _ _ ⟨_, stList_mem1 1 _ _ _ n, stPiece_mem 1 n 1 _ d _ e rfl⟩ ?_
    refine stList_at 1 _ _ _ _ _ (fun m e' _ _ h3 => absurd (show 128 + e.val = e'.val from h3) (by omega))
      (fun m e' _ h1 h3 => hit 1 m e' h1 h3) ?_
    exact stList_at 0 _ _ _ _ _ (fun m e' h _ _ => absurd (show (1 : Fin 2) = 0 from h) (by decide))
      (fun m e' h _ _ => absurd (show (1 : Fin 2) = 0 from h) (by decide)) (View.allAt_nil _ _)

/-- A row of the result. -/
theorem outs_apply (j : Fin 2) (n : Fin 8) (r : Fin 256) (e : Fin 128) :
    outs c i M3 M10 M11 M12 M13 M14 M15 M16 M23 M24 f3 f10 f11 f12 f13 f14 f15 f16 j n (ix4 0 0 r e)
      = normed (chunked (lg0 c i M3 f3) (lg1 c i M3 f3) (rowsOf (M10.view.read (Elt Ideal) f10) j) (rowsOf (M11.view.read (Elt Ideal) f11) j)
          (rowsOf (M12.view.read (Elt Ideal) f12) j) (ctxOf (M14.view.read (Elt Ideal) f14) j) (ctxOf (M15.view.read (Elt Ideal) f15) j) n.val r.val)
          (fun e => scale c M16 f16 (ix2 0 e)) (rowsOf (M13.view.read (Elt Ideal) f13) j (256 * n.val + r.val)) e := by
  unfold outs
  rw [result_apply]
  refine congrFun (congr (congrArg₂ normed (funext fun e => ?_) rfl) (funext fun e => blk_rows c M13 f13 j n r e)) e
  unfold chunked
  refine congrArg₂ (· + ·) (Finset.sum_congr rfl fun s _ => ?_) (congrArg₂ (· + ·) (congrArg (· * _) (Finset.sum_congr rfl fun d _ => ?_))
    (congrArg (· * _) (Finset.sum_congr rfl fun d _ => ?_)))
  · rw [blk_rows]
    refine congrArg (fun z => z * _ * _) (Finset.sum_congr rfl fun d _ => ?_)
    rw [blk_rows, blk_rows]
  · rw [blk_rows, stRead_apply, stAll_fwd, st0_apply _ _ _ _ _ _ _ _ _ _ _ _ _ _ _ n.isLt]
  · rw [blk_rows, stRead_apply, stAll_bwd, st1_apply _ _ _ _ _ _ _ _ _ _ _ _ _ _ _ (by omega)]

/-- The block is its pieces' rows. -/
theorem outAll_outs (j : Fin 2) (t : Fin 2048) (e : Fin 128) (n : Fin 8) (r : Fin 256) (ht : t.val = 256 * n.val + r.val) :
    View.canon (outAll c i M3 M10 M11 M12 M13 M14 M15 M16 M23 M24 f3 f10 f11 f12 f13 f14 f15 f16) (ix4 j 0 t e)
      = outs c i M3 M10 M11 M12 M13 M14 M15 M16 M23 M24 f3 f10 f11 f12 f13 f14 f15 f16 j n (ix4 0 0 r e) := by
  unfold outAll
  generalize outs c i M3 M10 M11 M12 M13 M14 M15 M16 M23 M24 f3 f10 f11 f12 f13 f14 f15 f16 = o
  have hit : ∀ (J : Fin 2) (n' : Fin 8) (r' : Fin 256), t.val = 256 * n'.val + r'.val → o J n' (ix4 0 0 r' e) = o J n (ix4 0 0 r e) := by
    intro J n' r' h
    rw [show n' = n from Fin.ext (by omega), show r' = r from Fin.ext (by omega)]
  match j with
  | 0 =>
    refine View.canon_eq_of_allAt _ _ _ ⟨_, outList_tail 1 _ _ _ (outList_mem 0 _ [] n), outPiece_mem 0 n _ t r e ht⟩ ?_
    refine outList_at 1 _ _ _ _ (fun n r h _ => absurd (show (0 : Fin 2) = 1 from h) (by decide)) ?_
    exact outList_at 0 _ _ _ _ (fun n r _ h => hit 0 n r h) (View.allAt_nil _ _)
  | 1 =>
    refine View.canon_eq_of_allAt _ _ _ ⟨_, outList_mem 1 _ _ n, outPiece_mem 1 n _ t r e ht⟩ ?_
    refine outList_at 1 _ _ _ _ (fun n r _ h => hit 1 n r h) ?_
    exact outList_at 0 _ _ _ _ (fun n r h _ => absurd (show (1 : Fin 2) = 0 from h) (by decide)) (View.allAt_nil _ _)

/-- The block. -/
theorem outAll_apply (j : Fin 2) (n : Fin 8) (r : Fin 256) (t : Fin 2048) (ht : t.val = 256 * n.val + r.val) (e : Fin 128) :
    View.canon (outAll c i M3 M10 M11 M12 M13 M14 M15 M16 M23 M24 f3 f10 f11 f12 f13 f14 f15 f16) (ix4 j 0 t e)
      = normed (chunked (lg0 c i M3 f3) (lg1 c i M3 f3) (rowsOf (M10.view.read (Elt Ideal) f10) j) (rowsOf (M11.view.read (Elt Ideal) f11) j)
          (rowsOf (M12.view.read (Elt Ideal) f12) j) (ctxOf (M14.view.read (Elt Ideal) f14) j) (ctxOf (M15.view.read (Elt Ideal) f15) j)
          n.val r.val)
          (fun e => scale c M16 f16 (ix2 0 e)) (rowsOf (M13.view.read (Elt Ideal) f13) j (256 * n.val + r.val)) e :=
  (outAll_outs c i M3 M10 M11 M12 M13 M14 M15 M16 M23 M24 f3 f10 f11 f12 f13 f14 f15 f16 j t e n r ht).trans
    (outs_apply c i M3 M10 M11 M12 M13 M14 M15 M16 M23 M24 f3 f10 f11 f12 f13 f14 f15 f16 j n r e)

end

end Cert.Mix

end
-- ==== Proof.MixTile.lean ====
/- A point's block of the retention, from the blocks of the arrays. -/
module

public import proofs.«01_k».proof.Proof.MixLaunch
public import proofs.«01_k».proof.Proof.MixBlock

@[expose] public section

set_option maxRecDepth 16384

noncomputable section

namespace Cert.Mix

open Cert.KernelIdeal Cert.KernelIdeal.Gen Idealize.ShloMosaic Idealize.ShloMosaic.TcCoe Idealize.SL.Sem

section
variable {F : FTy → Type} [FloatOps F] (m : (ℓ : Loc nD τ sig) → Buf (Elt F) ℓ)

/-- The block's pieces at point `t`. -/
def pieces (c : Dev nD) (t : Fin cfg0.N) : List (View.Piece (Elt F) S2x1x2048x128 .bf16) :=
  outAll c (grid0.coords t) (ms3 t) (ms10 t) (ms11 t) (ms12 t) (ms13 t) (ms14 t) (ms15 t) (ms16 t) sc23 sc24
    ((hs3 t).unread (iblk m c 1 t)) ((hs10 t).unread (iblk m c 8 t)) ((hs11 t).unread (iblk m c 9 t)) ((hs12 t).unread (iblk m c 10 t))
    ((hs13 t).unread (iblk m c 11 t)) ((hs14 t).unread (iblk m c 12 t)) ((hs15 t).unread (iblk m c 13 t)) ((hs16 t).unread (iblk m c 14 t))

theorem runAt_eq (c : Dev nD) (t : Fin cfg0.N) :
    (runAt m c t).1 = (ms18 t).view.writes (Elt F) (View.junk (ms18 t).view) (pieces m c t) := by
  unfold runAt
  split
  · rw [run_A]; rfl
  · rw [run_B]; rfl

theorem tile_eq (c : Dev nD) (t : Fin cfg0.N) : tile m c t = View.canon (pieces m c t) := by
  unfold tile
  rw [runAt_eq]
  exact View.read_writes_junk_eq_canon _ _

end

section
variable (m : (ℓ : Loc nD τ sig) → Buf (Elt Ideal) ℓ)

theorem scale_apply' (c : Dev nD) (M : Memref sig .tc .vmem S1x128 .f32) (f : Bf (F := Ideal) c M) (e : Fin 128) :
    scale c M f (ix2 0 e) = M.view.read (Elt Ideal) f (ix2 0 e) := by
  unfold scale
  show M.view.read (Elt Ideal) f (LoadRect.idx _ _) = _
  refine congrArg _ ?_
  funext a; apply Fin.ext
  match a with
  | ⟨0, _⟩ => rfl
  | ⟨1, _⟩ => show 0 + 1 * e.val = e.val; omega

/-- The log decays the point reads. -/
theorem lg0_apply (c : Dev nD) (i : grid0.Coords) (M : Memref sig .tc .smem S2x4 .f32) (f : Bf (F := Ideal) c M) (h : Fin 4)
    (hi : k0_off2 i = ![0, h.val]) : lg0 c i M f = M.view.read (Elt Ideal) f (ix2 0 h) := by
  unfold lg0
  show M.view.read (Elt Ideal) f (LoadRect.idx _ _) = _
  refine congrArg _ ?_
  funext a; apply Fin.ext
  match a with
  | ⟨0, _⟩ => show k0_off2 i 0 + 1 * 0 = 0; rw [hi]; rfl
  | ⟨1, _⟩ => show k0_off2 i 1 + 1 * 0 = h.val; rw [hi]; rfl

theorem lg1_apply (c : Dev nD) (i : grid0.Coords) (M : Memref sig .tc .smem S2x4 .f32) (f : Bf (F := Ideal) c M) (h : Fin 4)
    (hi : k0_off3 i = ![1, h.val]) : lg1 c i M f = M.view.read (Elt Ideal) f (ix2 1 h) := by
  unfold lg1
  show M.view.read (Elt Ideal) f (LoadRect.idx _ _) = _
  refine congrArg _ ?_
  funext a; apply Fin.ext
  match a with
  | ⟨0, _⟩ => show k0_off3 i 0 + 1 * 0 = 1; rw [hi]; rfl
  | ⟨1, _⟩ => show k0_off3 i 1 + 1 * 0 = h.val; rw [hi]; rfl

/-- The head of a point, and its pair of batch elements. -/
abbrev headOf (p : Fin cfg0.N) : Fin 4 := ⟨p.val / 8, by have : p.val < 32 := p.isLt; omega⟩
abbrev pairOf (p : Fin cfg0.N) : Fin 8 := ⟨p.val % 8, by omega⟩

theorem off2 : ∀ p : Fin cfg0.N, k0_off2 (grid0.coords p) = ![0, p.val / 8] := (by decide +kernel : ∀ p : Fin grid0.N, _)
theorem off3 : ∀ p : Fin cfg0.N, k0_off3 (grid0.coords p) = ![1, p.val / 8] := (by decide +kernel : ∀ p : Fin grid0.N, _)

/-- The retention's block at point `p`: row `t` of batch element `j` of the pair. -/
theorem tile_apply (c : Dev nD) (p : Fin cfg0.N) (j : Fin 2) (n : Fin 8) (r : Fin 256) (t : Fin 2048) (ht : t.val = 256 * n.val + r.val)
    (e : Fin 128) :
    tile m c p (ix4 j 0 t e)
      = normed (chunked ((iblk m c 1 p : Vec Ideal S2x4 .f32) (ix2 0 (headOf p))) ((iblk m c 1 p : Vec Ideal S2x4 .f32) (ix2 1 (headOf p)))
          (rowsOf (iblk m c 8 p) j) (rowsOf (iblk m c 9 p) j) (rowsOf (iblk m c 10 p) j) (ctxOf (iblk m c 12 p) j) (ctxOf (iblk m c 13 p) j)
          n.val r.val)
          (fun e => (iblk m c 14 p : Vec Ideal S1x128 .f32) (ix2 0 e)) (rowsOf (iblk m c 11 p) j (256 * n.val + r.val)) e := by
  rw [tile_eq]
  unfold pieces
  rw [outAll_apply c (grid0.coords p) _ _ _ _ _ _ _ _ _ _ _ _ _ _ _ _ _ _ j n r t ht e]
  rw [(hs10 p).read_unread, (hs11 p).read_unread, (hs12 p).read_unread, (hs13 p).read_unread, (hs14 p).read_unread, (hs15 p).read_unread,
    lg0_apply c _ _ _ (headOf p) (off2 p), lg1_apply c _ _ _ (headOf p) (off3 p), (hs3 p).read_unread]
  simp only [scale_apply', (hs16 p).read_unread]

end

end Cert.Mix

end
-- ==== Proof.MixWhole.lean ====
/- The retention as one function of the arrays, and the reference at it. -/
module

public import proofs.«01_k».proof.Proof.MixCell
public import proofs.«01_k».proof.Proof.Gen.ReferenceIdeal.Read

@[expose] public section

noncomputable section

namespace Cert.Mix

open Cert.ReferenceIdeal Cert.ReferenceIdeal.Gen Cert.ReferenceIdeal.Read Idealize.ShloMosaic Idealize.ShloMosaic.TcCoe Idealize.SL.Sem

/-- The rows of block `g` of batch element `b`, by number. -/
def rows (p : Vec Ideal S16x28x2048x128 .bf16) (b : Fin 16) (g : Fin 28) (t : ℕ) (d : Fin 128) : EReal :=
  if h : t < 2048 then p (ix4 b g ⟨t, h⟩ d) else 0

/-- The context rows of block `g` that belong to batch element `b`. -/
def crows (x : Vec Ideal S1x12x4096x128 .bf16) (b : Fin 16) (g : Fin 12) (r : Fin 256) (d : Fin 128) : EReal :=
  x (ix4 0 g ⟨b.val * 256 + r.val, by omega⟩ d)

/-- A head's log decay. -/
def logDecay (x : Vec Ideal S1x4 .f32) (h : Fin 4) : EReal := -(Ideal.exp (x (ix2 0 h)))

/-- Block `n + h` of the projected columns. -/
abbrev col (n : ℕ) (hn : n ≤ 24) (h : Fin 4) : Fin 28 := ⟨n + h.val, by omega⟩
/-- Block `n + h` of the context's. -/
abbrev ccol (n : ℕ) (hn : n ≤ 8) (h : Fin 4) : Fin 12 := ⟨n + h.val, by omega⟩

/-- The retention at an index: both directions, normed over the head's lanes, scaled and gated. -/
def ret (x1 x2 : Vec Ideal S1x4 .f32) (p : Vec Ideal S16x28x2048x128 .bf16) (x : Vec Ideal S1x12x4096x128 .bf16)
    (n : Vec Ideal S1x512 .f32) (b : Fin 16) (h : Fin 4) (t : Fin 2048) : Fin 128 → EReal :=
  normed
    (fun e => dirF (logDecay x1 h) (rows p b (col 8 (by decide) h)) (rows p b (col 12 (by decide) h)) (rows p b (col 24 (by decide) h))
        (crows x b (ccol 4 (by decide) h)) (crows x b (ccol 8 (by decide) h)) t.val e
      + dirB (logDecay x2 h) (rows p b (col 8 (by decide) h)) (rows p b (col 12 (by decide) h)) (rows p b (col 24 (by decide) h))
        (crows x b (ccol 4 (by decide) h)) (crows x b (ccol 8 (by decide) h)) t.val e)
    (fun e => n (ix2 0 ⟨128 * h.val + e.val, by omega⟩))
    (rows p b (col 16 (by decide) h) t.val)

theorem rows_at (p : Vec Ideal S16x28x2048x128 .bf16) (b : Fin 16) (g : Fin 28) (t : Fin 2048) (d : Fin 128) :
    rows p b g t.val d = p (ix4 b g t d) := by
  rw [rows, dif_pos t.isLt]

/-! ## The reference -/

theorem ref_lg1 (x1 : Vec Ideal S1x4 .f32) (h : Fin 4) : val_main_v23 (F := Ideal) x1 (ix1 h) = logDecay x1 h := by
  pointwise [val_main_v23, val_main_v22, val_main_v21, logDecay]

theorem ref_lg2 (x2 : Vec Ideal S1x4 .f32) (h : Fin 4) : val_main_v70 (F := Ideal) x2 (ix1 h) = logDecay x2 h := by
  pointwise [val_main_v70, val_main_v69, val_main_v68, logDecay]

theorem ref_q (p : Vec Ideal S16x28x2048x128 .bf16) (b : Fin 16) (h : Fin 4) (t : Fin 2048) (d : Fin 128) :
    val_main_v1 (F := Ideal) p (ix4 b h t d) = rows p b (col 8 (by decide) h) t.val d := by
  rw [rows_at]
  pointwise [val_main_v1, val_main_v0]

theorem ref_k (p : Vec Ideal S16x28x2048x128 .bf16) (b : Fin 16) (h : Fin 4) (t : Fin 2048) (d : Fin 128) :
    val_main_v3 (F := Ideal) p (ix4 b h t d) = rows p b (col 12 (by decide) h) t.val d := by
  rw [rows_at]
  pointwise [val_main_v3, val_main_v2]

theorem ref_g (p : Vec Ideal S16x28x2048x128 .bf16) (b : Fin 16) (h : Fin 4) (t : Fin 2048) (d : Fin 128) :
    val_main_v5 (F := Ideal) p (ix4 b h t d) = rows p b (col 16 (by decide) h) t.val d := by
  rw [rows_at]
  pointwise [val_main_v5, val_main_v4]

theorem ref_v (p : Vec Ideal S16x28x2048x128 .bf16) (b : Fin 16) (h : Fin 4) (t : Fin 2048) (d : Fin 128) :
    val_main_v7 (F := Ideal) p (ix4 b h t d) = rows p b (col 24 (by decide) h) t.val d := by
  rw [rows_at]
  pointwise [val_main_v7, val_main_v6]

theorem ref_kc (x : Vec Ideal S1x12x4096x128 .bf16) (b : Fin 16) (h : Fin 4) (r : Fin 256) (d : Fin 128) :
    val_main_v11 (F := Ideal) x (ix4 h b r d) = crows x b (ccol 4 (by decide) h) r d := by
  pointwise [val_main_v11, val_main_v10, val_main_v9, val_main_v8, crows]

theorem ref_vc (x : Vec Ideal S1x12x4096x128 .bf16) (b : Fin 16) (h : Fin 4) (r : Fin 256) (d : Fin 128) :
    val_main_v15 (F := Ideal) x (ix4 h b r d) = crows x b (ccol 8 (by decide) h) r d := by
  pointwise [val_main_v15, val_main_v14, val_main_v13, val_main_v12, crows]

theorem ref_scores (p : Vec Ideal S16x28x2048x128 .bf16) (b : Fin 16) (h : Fin 4) (t s : Fin 2048) :
    val_main_v20 (F := Ideal) p (ix4 b h t s)
      = ∑ d : Fin 128, rows p b (col 8 (by decide) h) t.val d * rows p b (col 12 (by decide) h) s.val d := by
  unfold val_main_v20
  have h1 := fun t d => ref_q p b h t d
  have h2 := fun t d => ref_k p b h t d
  generalize val_main_v1 (F := Ideal) p = y1 at h1
  generalize val_main_v3 (F := Ideal) p = y2 at h2
  pointwise [h1, h2]

theorem ref_step (t : Fin 2048) : val_main_v17 (F := Ideal) (ix1 t) = ((t.val : ℝ) : EReal) :=
  num t.val (by omega)

theorem ref_cstep (t : Fin 256) : val_main_v19 (F := Ideal) (ix1 t) = ((t.val : ℝ) : EReal) :=
  num t.val (by omega)

theorem ref_dist1 (t s : Fin 2048) : val_main_v28 (F := Ideal) (ix2 t s) = ((t.val : ℝ) : EReal) - ((s.val : ℝ) : EReal) := by
  have h := ref_step
  pointwise [val_main_v28, val_main_v27, val_main_v26, val_main_v25, val_main_v24, h]

theorem ref_dist2 (t s : Fin 2048) : val_main_v75 (F := Ideal) (ix2 t s) = ((s.val : ℝ) : EReal) - ((t.val : ℝ) : EReal) := by
  have h := ref_step
  pointwise [val_main_v75, val_main_v74, val_main_v73, val_main_v72, val_main_v71, h]

/-- A weight of one direction: zero against the direction. -/
theorem weight_if (l : EReal) (a b : ℕ) :
    (if 0 ≤ ((a : ℝ) : EReal) - ((b : ℝ) : EReal) then Ideal.exp (l * max (((a : ℝ) : EReal) - ((b : ℝ) : EReal)) 0) else 0)
      = if b ≤ a then pw l (a - b) else 0 := by
  by_cases h : b ≤ a
  · rw [num_sub a b h, if_pos h, if_pos (EReal.coe_nonneg.mpr (Nat.cast_nonneg _)), max_eq_left (EReal.coe_nonneg.mpr (Nat.cast_nonneg _))]
    rfl
  · rw [if_neg h, if_neg]
    rw [← EReal.coe_sub, EReal.coe_nonneg, sub_nonneg, Nat.cast_le]
    exact h

theorem ref_zero1 : val_main_call0_v0 (F := Ideal) ix0 = 0 := by
  show val_main_cst_3 (F := Ideal) ix0 = 0
  pointwise [val_main_cst_3]

theorem ref_zero2 : val_main_call1_v0 (F := Ideal) ix0 = 0 := by
  show val_main_cst_7 (F := Ideal) ix0 = 0
  pointwise [val_main_cst_7]

theorem ref_decay1 (x1 : Vec Ideal S1x4 .f32) (h : Fin 4) (t s : Fin 2048) :
    val_main_v44 (F := Ideal) x1 (ix3 h t s) = if s.val ≤ t.val then pw (logDecay x1 h) (t.val - s.val) else 0 := by
  rw [← weight_if]
  have h1 := ref_dist1 t s
  have h2 := ref_lg1 x1 h
  have h3 := ref_zero1
  generalize logDecay x1 h = l at h2 ⊢
  pointwise [val_main_v44, val_main_call0_v2, val_main_call0_v1, val_main_v43, val_main_v42, val_main_v41,
    val_main_v40, val_main_v39, val_main_v38, val_main_v37, val_main_v36, val_main_v35, val_main_v34, val_main_v33, val_main_cst_1,
    val_main_cst_2, h1, h2, h3]

theorem ref_decay2 (x2 : Vec Ideal S1x4 .f32) (h : Fin 4) (t s : Fin 2048) :
    val_main_v89 (F := Ideal) x2 (ix3 h t s) = if t.val ≤ s.val then pw (logDecay x2 h) (s.val - t.val) else 0 := by
  rw [← weight_if]
  have h1 := ref_dist2 t s
  have h2 := ref_lg2 x2 h
  have h3 := ref_zero2
  generalize logDecay x2 h = l at h2 ⊢
  pointwise [val_main_v89, val_main_call1_v2, val_main_call1_v1, val_main_v88, val_main_v87, val_main_v86,
    val_main_v85, val_main_v84, val_main_v83, val_main_v82, val_main_v81, val_main_v80, val_main_v79, val_main_v78, val_main_cst_5,
    val_main_cst_6, h1, h2, h3]

theorem bits_2048 : Ideal.ofBits .f32 0x45000000#32 = (((2048 : ℕ) : ℝ) : EReal) := by
  simp [Ideal.ofBits, Ideal.ieee]
  rw [← EReal.coe_mul]
  norm_num

theorem ref_cdecay1 (x1 : Vec Ideal S1x4 .f32) (h : Fin 4) (j : Fin 256) :
    val_main_v49 (F := Ideal) x1 (ix2 h j) = pw (logDecay x1 h) (255 - j.val) := by
  have h1 := ref_cstep j
  have h2 := ref_lg1 x1 h
  generalize logDecay x1 h = l at h2 ⊢
  have e : val_main_v49 (F := Ideal) x1 (ix2 h j) = Ideal.exp (l * (Ideal.ofBits .f32 0x437F0000#32 - ((j.val : ℝ) : EReal))) := by
    pointwise [val_main_v49, val_main_v48, val_main_v47, val_main_v46, val_main_v45, val_main_v33, val_main_v32, val_main_v31, val_main_cst_0, h1, h2]
  rw [e, bits_255, num_sub 255 j.val (by omega)]
  rfl

theorem ref_cdecay2 (x2 : Vec Ideal S1x4 .f32) (h : Fin 4) (j : Fin 256) :
    val_main_v94 (F := Ideal) x2 (ix2 h j) = pw (logDecay x2 h) j.val := by
  have h1 := ref_cstep j
  have h2 := ref_lg2 x2 h
  generalize logDecay x2 h = l at h2 ⊢
  pointwise [val_main_v94, val_main_v93, val_main_v92, val_main_v91, val_main_v90, val_main_v78, h1, h2, pw]

theorem ref_qdecay1 (x1 : Vec Ideal S1x4 .f32) (h : Fin 4) (t : Fin 2048) :
    val_main_v58 (F := Ideal) x1 (ix2 h t) = pw (logDecay x1 h) (t.val + 1) := by
  have h1 := ref_step t
  have h2 := ref_lg1 x1 h
  generalize logDecay x1 h = l at h2 ⊢
  have e : val_main_v58 (F := Ideal) x1 (ix2 h t) = Ideal.exp (l * (((t.val : ℝ) : EReal) + 1)) := by
    pointwise [val_main_v58, val_main_v57, val_main_v56, val_main_v55, val_main_v54, val_main_v33, val_main_v30, val_main_v29, val_main_cst, h1, h2]
  rw [e, num_add_one]
  rfl

theorem ref_qdecay2 (x2 : Vec Ideal S1x4 .f32) (h : Fin 4) (t : Fin 2048) :
    val_main_v103 (F := Ideal) x2 (ix2 h t) = pw (logDecay x2 h) (2048 - t.val) := by
  have h1 := ref_step t
  have h2 := ref_lg2 x2 h
  generalize logDecay x2 h = l at h2 ⊢
  have e : val_main_v103 (F := Ideal) x2 (ix2 h t) = Ideal.exp (l * (Ideal.ofBits .f32 0x45000000#32 - ((t.val : ℝ) : EReal))) := by
    pointwise [val_main_v103, val_main_v102, val_main_v101, val_main_v100, val_main_v99, val_main_v78, val_main_v77, val_main_v76, val_main_cst_4, h1, h2]
  rw [e, bits_2048, num_sub 2048 t.val (by omega)]
  rfl

section
variable (x1 x2 : Vec Ideal S1x4 .f32) (p : Vec Ideal S16x28x2048x128 .bf16) (x : Vec Ideal S1x12x4096x128 .bf16)
    (n : Vec Ideal S1x512 .f32) (b : Fin 16) (h : Fin 4)

theorem ref_state1 (d e : Fin 128) : val_main_v53 (F := Ideal) x1 x (ix4 b h d e)
    = ctxF (logDecay x1 h) (crows x b (ccol 4 (by decide) h)) (crows x b (ccol 8 (by decide) h)) d e := by
  unfold val_main_v53
  have h1 := fun r d => ref_kc x b h r d
  have h2 := fun r d => ref_vc x b h r d
  have h3 := fun j => ref_cdecay1 x1 h j
  have h4 : ∀ r d, val_main_v52 (F := Ideal) x1 x (ix4 h b r d) = crows x b (ccol 4 (by decide) h) r d * pw (logDecay x1 h) (255 - r.val) := by
    intro r d
    have h1 := h1 r d
    have h3 := h3 r
    generalize crows x b (ccol 4 (by decide) h) r d = a at h1 ⊢
    generalize pw (logDecay x1 h) (255 - r.val) = w at h3 ⊢
    pointwise [val_main_v52, val_main_v51, val_main_v50, h1, h3]
  generalize val_main_v52 (F := Ideal) x1 x = y1 at h4
  generalize val_main_v15 (F := Ideal) x = y2 at h2
  unfold ctxF
  pointwise [h4, h2]

theorem ref_state2 (d e : Fin 128) : val_main_v98 (F := Ideal) x2 x (ix4 b h d e)
    = ctxB (logDecay x2 h) (crows x b (ccol 4 (by decide) h)) (crows x b (ccol 8 (by decide) h)) d e := by
  unfold val_main_v98
  have h1 := fun r d => ref_kc x b h r d
  have h2 := fun r d => ref_vc x b h r d
  have h3 := fun j => ref_cdecay2 x2 h j
  have h4 : ∀ r d, val_main_v97 (F := Ideal) x2 x (ix4 h b r d) = crows x b (ccol 4 (by decide) h) r d * pw (logDecay x2 h) r.val := by
    intro r d
    have h1 := h1 r d
    have h3 := h3 r
    generalize crows x b (ccol 4 (by decide) h) r d = a at h1 ⊢
    generalize pw (logDecay x2 h) r.val = w at h3 ⊢
    pointwise [val_main_v97, val_main_v96, val_main_v95, h1, h3]
  generalize val_main_v97 (F := Ideal) x2 x = y1 at h4
  generalize val_main_v15 (F := Ideal) x = y2 at h2
  unfold ctxB
  pointwise [h4, h2]

theorem ref_dir1 (t : Fin 2048) (e : Fin 128) : val_main_v67 (F := Ideal) x1 p x (ix4 b h t e)
    = dirF (logDecay x1 h) (rows p b (col 8 (by decide) h)) (rows p b (col 12 (by decide) h)) (rows p b (col 24 (by decide) h))
        (crows x b (ccol 4 (by decide) h)) (crows x b (ccol 8 (by decide) h)) t.val e := by
  have hS : ∀ s, val_main_v64 (F := Ideal) x1 p (ix4 b h t s)
      = (∑ d : Fin 128, rows p b (col 8 (by decide) h) t.val d * rows p b (col 12 (by decide) h) s.val d)
        * (if s.val ≤ t.val then pw (logDecay x1 h) (t.val - s.val) else 0) := by
    intro s
    have h1 := ref_scores p b h t s
    have h2 := ref_decay1 x1 h t s
    rw [← h1, ← h2]
    pointwise [val_main_v64, val_main_v63, val_main_v62]
  have hQ : ∀ d, val_main_v61 (F := Ideal) x1 p (ix4 b h t d) = rows p b (col 8 (by decide) h) t.val d * pw (logDecay x1 h) (t.val + 1) := by
    intro d
    have h1 := ref_q p b h t d
    have h2 := ref_qdecay1 x1 h t
    rw [← h1, ← h2]
    pointwise [val_main_v61, val_main_v60, val_main_v59]
  have hV := fun s d => ref_v p b h s d
  have hC := fun d e => ref_state1 x1 x b h d e
  unfold dirF val_main_v67 val_main_v65 val_main_v66
  generalize val_main_v64 (F := Ideal) x1 p = y1 at hS
  generalize val_main_v61 (F := Ideal) x1 p = y2 at hQ
  generalize val_main_v7 (F := Ideal) p = y3 at hV
  generalize val_main_v53 (F := Ideal) x1 x = y4 at hC
  pointwise [hS, hQ, hV, hC]

theorem ref_dir2 (t : Fin 2048) (e : Fin 128) : val_main_v112 (F := Ideal) x2 p x (ix4 b h t e)
    = dirB (logDecay x2 h) (rows p b (col 8 (by decide) h)) (rows p b (col 12 (by decide) h)) (rows p b (col 24 (by decide) h))
        (crows x b (ccol 4 (by decide) h)) (crows x b (ccol 8 (by decide) h)) t.val e := by
  have hS : ∀ s, val_main_v109 (F := Ideal) x2 p (ix4 b h t s)
      = (∑ d : Fin 128, rows p b (col 8 (by decide) h) t.val d * rows p b (col 12 (by decide) h) s.val d)
        * (if t.val ≤ s.val then pw (logDecay x2 h) (s.val - t.val) else 0) := by
    intro s
    have h1 := ref_scores p b h t s
    have h2 := ref_decay2 x2 h t s
    rw [← h1, ← h2]
    pointwise [val_main_v109, val_main_v108, val_main_v107]
  have hQ : ∀ d, val_main_v106 (F := Ideal) x2 p (ix4 b h t d) = rows p b (col 8 (by decide) h) t.val d * pw (logDecay x2 h) (2048 - t.val) := by
    intro d
    have h1 := ref_q p b h t d
    have h2 := ref_qdecay2 x2 h t
    rw [← h1, ← h2]
    pointwise [val_main_v106, val_main_v105, val_main_v104]
  have hV := fun s d => ref_v p b h s d
  have hC := fun d e => ref_state2 x2 x b h d e
  unfold dirB val_main_v112 val_main_v110 val_main_v111
  generalize val_main_v109 (F := Ideal) x2 p = y1 at hS
  generalize val_main_v106 (F := Ideal) x2 p = y2 at hQ
  generalize val_main_v7 (F := Ideal) p = y3 at hV
  generalize val_main_v98 (F := Ideal) x2 x = y4 at hC
  pointwise [hS, hQ, hV, hC]

theorem ref_scale (e : Fin 128) : val_main_v125 (F := Ideal) n (ix3 h 0 e) = n (ix2 0 ⟨128 * h.val + e.val, by omega⟩) := by
  have e' : val_main_v125 (F := Ideal) n (ix3 h 0 e) = n (ix2 0 ⟨h.val * 128 + e.val, by omega⟩) := by
    pointwise [val_main_v125, val_main_v124]
  rw [e']
  exact congrArg n (congrArg (ix2 0) (Fin.ext (by show h.val * 128 + e.val = 128 * h.val + e.val; omega)))

/-- The reference's result. -/
theorem ref_apply (t : Fin 2048) (e : Fin 128) : val_main_v130 (F := Ideal) x1 x2 p x n (ix4 b h t e) = ret x1 x2 p x n b h t e := by
  have hY : ∀ e, val_main_v113 (F := Ideal) x1 x2 p x (ix4 b h t e) = val_main_v67 (F := Ideal) x1 p x (ix4 b h t e) + val_main_v112 (F := Ideal) x2 p x (ix4 b h t e) := by
    intro e
    pointwise [val_main_v113]
  simp only [ref_dir1, ref_dir2] at hY
  have hG := fun e => ref_g p b h t e
  have hN := fun e => ref_scale n h e
  unfold ret normed
  pointwise [val_main_v130, val_main_v129, val_main_v128, val_main_v127, val_main_v126, val_main_v123, val_main_v122, val_main_v121,
    val_main_v120, val_main_v119, val_main_v118, val_main_v117, val_main_v116, val_main_v115, val_main_v114, val_main_cst_8,
    val_main_cst_9, val_main_cst_10, hY, hG, hN]

end

end Cert.Mix

end
-- ==== Proof.MixValue.lean ====
/- The retention's array: every point's block of it, in terms of the argument arrays. -/
module

public import proofs.«01_k».proof.Defs
public import proofs.«01_k».proof.Proof.MixTile
public import proofs.«01_k».proof.Proof.MixWhole
public import Idealize.ShloMosaic.Lib.Pipeline.Value
public import Idealize.ShloMosaic.Lib.Claim

@[expose] public section

noncomputable section

namespace Cert.Mix

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-! ## What the host makes of the small arrays -/

theorem V_lg (c : Dev nD) : V m c main_v8
    = concatenate S2x4 0 [⟨S1x4, broadcastInDim S1x4 ![1] bcast_S4_S1x4_1
          (Host.negf (Host.exp (shapeCast S4 (m ((c : Thread nD τ).loc main_arg1)) shapeCasts_S1x4_S4 : FVec Ideal S4 .f32)))⟩,
        ⟨S1x4, broadcastInDim S1x4 ![1] bcast_S4_S1x4_1
          (Host.negf (Host.exp (shapeCast S4 (m ((c : Thread nD τ).loc main_arg2)) shapeCasts_S1x4_S4 : FVec Ideal S4 .f32)))⟩]
        concatenates_S1x4_S1x4_S2x4_d0 := by
  unfold_abbrev_sides
  after_results
  rfl

theorem V_scale (c : Dev nD) : V m c main_v12
    = shapeCast S1x512 (shapeCast S512 (m ((c : Thread nD τ).loc main_arg7)) shapeCasts_S1x512_S512) shapeCasts_S512_S1x512 := by
  unfold_abbrev_sides
  after_results
  rfl

theorem lg_apply0 (x1 x2 : Vec Ideal S1x4 .f32) (h : Fin 4) :
    (concatenate S2x4 0 [⟨S1x4, broadcastInDim S1x4 ![1] bcast_S4_S1x4_1 (Host.negf (Host.exp (shapeCast S4 x1 shapeCasts_S1x4_S4 : FVec Ideal S4 .f32)))⟩,
        ⟨S1x4, broadcastInDim S1x4 ![1] bcast_S4_S1x4_1 (Host.negf (Host.exp (shapeCast S4 x2 shapeCasts_S1x4_S4 : FVec Ideal S4 .f32)))⟩]
        concatenates_S1x4_S1x4_S2x4_d0 : FVec Ideal S2x4 .f32) (ix2 0 h) = logDecay x1 h := by
  pointwise [logDecay]

theorem lg_apply1 (x1 x2 : Vec Ideal S1x4 .f32) (h : Fin 4) :
    (concatenate S2x4 0 [⟨S1x4, broadcastInDim S1x4 ![1] bcast_S4_S1x4_1 (Host.negf (Host.exp (shapeCast S4 x1 shapeCasts_S1x4_S4 : FVec Ideal S4 .f32)))⟩,
        ⟨S1x4, broadcastInDim S1x4 ![1] bcast_S4_S1x4_1 (Host.negf (Host.exp (shapeCast S4 x2 shapeCasts_S1x4_S4 : FVec Ideal S4 .f32)))⟩]
        concatenates_S1x4_S1x4_S2x4_d0 : FVec Ideal S2x4 .f32) (ix2 1 h) = logDecay x2 h := by
  pointwise [logDecay]

theorem flat_apply (n : Vec Ideal S1x512 .f32) (k : Fin 512) :
    (shapeCast S1x512 (shapeCast S512 n shapeCasts_S1x512_S512) shapeCasts_S512_S1x512 : FVec Ideal S1x512 .f32) (ix2 0 k) = n (ix2 0 k) := by
  pointwise

/-! ## Where a block's index lies in its array -/

theorem ix1' : ∀ t : Fin cfg0.N, win0_1.index t 0 = 0 ∧ win0_1.index t 1 = 0 := (by decide +kernel : ∀ t : Fin grid0.N, _)
theorem ix8' : ∀ t : Fin cfg0.N, win0_8.index t 0 = t.val % 8 ∧ win0_8.index t 1 = 8 + t.val / 8 ∧ win0_8.index t 2 = 0 ∧ win0_8.index t 3 = 0 :=
  (by decide +kernel : ∀ t : Fin grid0.N, _)
theorem ix9' : ∀ t : Fin cfg0.N, win0_9.index t 0 = t.val % 8 ∧ win0_9.index t 1 = 12 + t.val / 8 ∧ win0_9.index t 2 = 0 ∧ win0_9.index t 3 = 0 :=
  (by decide +kernel : ∀ t : Fin grid0.N, _)
theorem ix10' : ∀ t : Fin cfg0.N, win0_10.index t 0 = t.val % 8 ∧ win0_10.index t 1 = 24 + t.val / 8 ∧ win0_10.index t 2 = 0 ∧ win0_10.index t 3 = 0 :=
  (by decide +kernel : ∀ t : Fin grid0.N, _)
theorem ix11' : ∀ t : Fin cfg0.N, win0_11.index t 0 = t.val % 8 ∧ win0_11.index t 1 = 16 + t.val / 8 ∧ win0_11.index t 2 = 0 ∧ win0_11.index t 3 = 0 :=
  (by decide +kernel : ∀ t : Fin grid0.N, _)
theorem ix12' : ∀ t : Fin cfg0.N, win0_12.index t 0 = 0 ∧ win0_12.index t 1 = 4 + t.val / 8 ∧ win0_12.index t 2 = t.val % 8 ∧ win0_12.index t 3 = 0 :=
  (by decide +kernel : ∀ t : Fin grid0.N, _)
theorem ix13' : ∀ t : Fin cfg0.N, win0_13.index t 0 = 0 ∧ win0_13.index t 1 = 8 + t.val / 8 ∧ win0_13.index t 2 = t.val % 8 ∧ win0_13.index t 3 = 0 :=
  (by decide +kernel : ∀ t : Fin grid0.N, _)
theorem ix14' : ∀ t : Fin cfg0.N, win0_14.index t 0 = 0 ∧ win0_14.index t 1 = t.val / 8 := (by decide +kernel : ∀ t : Fin grid0.N, _)
theorem ix16' : ∀ t : Fin cfg0.N, win0_16.index t 0 = t.val % 8 ∧ win0_16.index t 1 = t.val / 8 ∧ win0_16.index t 2 = 0 ∧ win0_16.index t 3 = 0 :=
  (by decide +kernel : ∀ t : Fin grid0.N, _)

/-- The batch element at place `j` of a point's pair. -/
abbrev batchOf (p : Fin cfg0.N) (j : Fin 2) : Fin 16 := ⟨2 * (p.val % 8) + j.val, by omega⟩

theorem emb1 (p : Fin cfg0.N) (j : S2x4.Idx) : ((cfg0.win 1).blk p).view.emb j = j := by
  obtain ⟨a0, a1⟩ := ix1' p
  funext a; apply Fin.ext
  match a with
  | ⟨0, _⟩ => show win0_1.index p 0 * 2 + 1 * (j 0).val = (j 0).val; omega
  | ⟨1, _⟩ => show win0_1.index p 1 * 4 + 1 * (j 1).val = (j 1).val; omega

theorem emb8 (p : Fin cfg0.N) (j : S2x1x2048x128.Idx) :
    ((cfg0.win 8).blk p).view.emb j = (ix4 (batchOf p (j 0)) (col 8 (by decide) (headOf p)) (j 2) (j 3) : S16x28x2048x128.Idx) := by
  obtain ⟨a0, a1, a2, a3⟩ := ix8' p
  have : (j 1).val < 1 := (j 1).isLt
  funext a; apply Fin.ext
  match a with
  | ⟨0, _⟩ => show win0_8.index p 0 * 2 + 1 * (j 0).val = 2 * (p.val % 8) + (j 0).val; omega
  | ⟨1, _⟩ => show win0_8.index p 1 * 1 + 1 * (j 1).val = 8 + p.val / 8; omega
  | ⟨2, _⟩ => show win0_8.index p 2 * 2048 + 1 * (j 2).val = (j 2).val; omega
  | ⟨3, _⟩ => show win0_8.index p 3 * 128 + 1 * (j 3).val = (j 3).val; omega

theorem emb9 (p : Fin cfg0.N) (j : S2x1x2048x128.Idx) :
    ((cfg0.win 9).blk p).view.emb j = (ix4 (batchOf p (j 0)) (col 12 (by decide) (headOf p)) (j 2) (j 3) : S16x28x2048x128.Idx) := by
  obtain ⟨a0, a1, a2, a3⟩ := ix9' p
  have : (j 1).val < 1 := (j 1).isLt
  funext a; apply Fin.ext
  match a with
  | ⟨0, _⟩ => show win0_9.index p 0 * 2 + 1 * (j 0).val = 2 * (p.val % 8) + (j 0).val; omega
  | ⟨1, _⟩ => show win0_9.index p 1 * 1 + 1 * (j 1).val = 12 + p.val / 8; omega
  | ⟨2, _⟩ => show win0_9.index p 2 * 2048 + 1 * (j 2).val = (j 2).val; omega
  | ⟨3, _⟩ => show win0_9.index p 3 * 128 + 1 * (j 3).val = (j 3).val; omega

theorem emb10 (p : Fin cfg0.N) (j : S2x1x2048x128.Idx) :
    ((cfg0.win 10).blk p).view.emb j = (ix4 (batchOf p (j 0)) (col 24 (by decide) (headOf p)) (j 2) (j 3) : S16x28x2048x128.Idx) := by
  obtain ⟨a0, a1, a2, a3⟩ := ix10' p
  have : (j 1).val < 1 := (j 1).isLt
  funext a; apply Fin.ext
  match a with
  | ⟨0, _⟩ => show win0_10.index p 0 * 2 + 1 * (j 0).val = 2 * (p.val % 8) + (j 0).val; omega
  | ⟨1, _⟩ => show win0_10.index p 1 * 1 + 1 * (j 1).val = 24 + p.val / 8; omega
  | ⟨2, _⟩ => show win0_10.index p 2 * 2048 + 1 * (j 2).val = (j 2).val; omega
  | ⟨3, _⟩ => show win0_10.index p 3 * 128 + 1 * (j 3).val = (j 3).val; omega

theorem emb11 (p : Fin cfg0.N) (j : S2x1x2048x128.Idx) :
    ((cfg0.win 11).blk p).view.emb j = (ix4 (batchOf p (j 0)) (col 16 (by decide) (headOf p)) (j 2) (j 3) : S16x28x2048x128.Idx) := by
  obtain ⟨a0, a1, a2, a3⟩ := ix11' p
  have : (j 1).val < 1 := (j 1).isLt
  funext a; apply Fin.ext
  match a with
  | ⟨0, _⟩ => show win0_11.index p 0 * 2 + 1 * (j 0).val = 2 * (p.val % 8) + (j 0).val; omega
  | ⟨1, _⟩ => show win0_11.index p 1 * 1 + 1 * (j 1).val = 16 + p.val / 8; omega
  | ⟨2, _⟩ => show win0_11.index p 2 * 2048 + 1 * (j 2).val = (j 2).val; omega
  | ⟨3, _⟩ => show win0_11.index p 3 * 128 + 1 * (j 3).val = (j 3).val; omega

theorem emb12 (p : Fin cfg0.N) (j : Fin 2) (r : Fin 256) (d : Fin 128) :
    ((cfg0.win 12).blk p).view.emb (ix4 0 0 ⟨256 * j.val + r.val, by omega⟩ d : S1x1x512x128.Idx)
      = (ix4 0 (ccol 4 (by decide) (headOf p)) ⟨(batchOf p j).val * 256 + r.val, by have := (batchOf p j).isLt; omega⟩ d : S1x12x4096x128.Idx) := by
  obtain ⟨a0, a1, a2, a3⟩ := ix12' p
  funext a; apply Fin.ext
  match a with
  | ⟨0, _⟩ => show win0_12.index p 0 * 1 + 1 * 0 = 0; omega
  | ⟨1, _⟩ => show win0_12.index p 1 * 1 + 1 * 0 = 4 + p.val / 8; omega
  | ⟨2, _⟩ => show win0_12.index p 2 * 512 + 1 * (256 * j.val + r.val) = (2 * (p.val % 8) + j.val) * 256 + r.val; omega
  | ⟨3, _⟩ => show win0_12.index p 3 * 128 + 1 * d.val = d.val; omega

theorem emb13 (p : Fin cfg0.N) (j : Fin 2) (r : Fin 256) (d : Fin 128) :
    ((cfg0.win 13).blk p).view.emb (ix4 0 0 ⟨256 * j.val + r.val, by omega⟩ d : S1x1x512x128.Idx)
      = (ix4 0 (ccol 8 (by decide) (headOf p)) ⟨(batchOf p j).val * 256 + r.val, by have := (batchOf p j).isLt; omega⟩ d : S1x12x4096x128.Idx) := by
  obtain ⟨a0, a1, a2, a3⟩ := ix13' p
  funext a; apply Fin.ext
  match a with
  | ⟨0, _⟩ => show win0_13.index p 0 * 1 + 1 * 0 = 0; omega
  | ⟨1, _⟩ => show win0_13.index p 1 * 1 + 1 * 0 = 8 + p.val / 8; omega
  | ⟨2, _⟩ => show win0_13.index p 2 * 512 + 1 * (256 * j.val + r.val) = (2 * (p.val % 8) + j.val) * 256 + r.val; omega
  | ⟨3, _⟩ => show win0_13.index p 3 * 128 + 1 * d.val = d.val; omega

theorem emb14 (p : Fin cfg0.N) (e : Fin 128) :
    ((cfg0.win 14).blk p).view.emb (ix2 0 e : S1x128.Idx) = (ix2 0 ⟨128 * (headOf p).val + e.val, by have := (headOf p).isLt; omega⟩ : S1x512.Idx) := by
  obtain ⟨a0, a1⟩ := ix14' p
  funext a; apply Fin.ext
  match a with
  | ⟨0, _⟩ => show win0_14.index p 0 * 1 + 1 * 0 = 0; omega
  | ⟨1, _⟩ => show win0_14.index p 1 * 128 + 1 * e.val = 128 * (p.val / 8) + e.val; omega

theorem emb16 (p : Fin cfg0.N) (j : S2x1x2048x128.Idx) :
    ((cfg0.win 16).blk p).view.emb j = (ix4 (batchOf p (j 0)) (headOf p) (j 2) (j 3) : S16x4x2048x128.Idx) := by
  obtain ⟨a0, a1, a2, a3⟩ := ix16' p
  have : (j 1).val < 1 := (j 1).isLt
  funext a; apply Fin.ext
  match a with
  | ⟨0, _⟩ => show win0_16.index p 0 * 2 + 1 * (j 0).val = 2 * (p.val % 8) + (j 0).val; omega
  | ⟨1, _⟩ => show win0_16.index p 1 * 1 + 1 * (j 1).val = p.val / 8; omega
  | ⟨2, _⟩ => show win0_16.index p 2 * 2048 + 1 * (j 2).val = (j 2).val; omega
  | ⟨3, _⟩ => show win0_16.index p 3 * 128 + 1 * (j 3).val = (j 3).val; omega

/-! ## The blocks -/

abbrev a1 (c : Dev nD) : Vec Ideal S1x4 .f32 := m ((c : Thread nD τ).loc main_arg1)
abbrev a2 (c : Dev nD) : Vec Ideal S1x4 .f32 := m ((c : Thread nD τ).loc main_arg2)
abbrev a3 (c : Dev nD) : Vec Ideal S16x28x2048x128 .bf16 := m ((c : Thread nD τ).loc main_arg3)
abbrev a5 (c : Dev nD) : Vec Ideal S1x12x4096x128 .bf16 := m ((c : Thread nD τ).loc main_arg5)
abbrev a7 (c : Dev nD) : Vec Ideal S1x512 .f32 := m ((c : Thread nD τ).loc main_arg7)

theorem b1 (c : Dev nD) (p : Fin cfg0.N) (h : Fin 4) : (iblk m c 1 p : Vec Ideal S2x4 .f32) (ix2 0 h) = logDecay (a1 m c) h := by
  refine (congrArg (V m c main_v8) (emb1 p (ix2 0 h))).trans ((congrFun (V_lg m c) _).trans ?_)
  exact lg_apply0 _ _ h
theorem b1' (c : Dev nD) (p : Fin cfg0.N) (h : Fin 4) : (iblk m c 1 p : Vec Ideal S2x4 .f32) (ix2 1 h) = logDecay (a2 m c) h := by
  refine (congrArg (V m c main_v8) (emb1 p (ix2 1 h))).trans ((congrFun (V_lg m c) _).trans ?_)
  exact lg_apply1 _ _ h
theorem b14 (c : Dev nD) (p : Fin cfg0.N) (e : Fin 128) : (iblk m c 14 p : Vec Ideal S1x128 .f32) (ix2 0 e)
    = a7 m c (ix2 0 ⟨128 * (headOf p).val + e.val, by have := (headOf p).isLt; omega⟩) := by
  refine (congrArg (V m c main_v12) (emb14 p e)).trans ((congrFun (V_scale m c) _).trans ?_)
  exact flat_apply _ _

theorem rows_of (x : Vec Ideal S2x1x2048x128 .bf16) (y : Vec Ideal S16x28x2048x128 .bf16) (j : Fin 2) (b : Fin 16) (g : Fin 28)
    (h : ∀ (t : Fin 2048) (d : Fin 128), x (ix4 j 0 t d) = y (ix4 b g t d)) : rowsOf x j = rows y b g := by
  funext t d
  unfold rowsOf rows
  split
  · exact h _ d
  · rfl

theorem b8 (c : Dev nD) (p : Fin cfg0.N) (j : Fin 2) : rowsOf (iblk m c 8 p) j = rows (a3 m c) (batchOf p j) (col 8 (by decide) (headOf p)) :=
  rows_of _ _ _ _ _ fun t d => (congrArg (V m c main_arg3) (emb8 p (ix4 j 0 t d))).trans (congrFun (V_main_arg3 m c) _)
theorem b9 (c : Dev nD) (p : Fin cfg0.N) (j : Fin 2) : rowsOf (iblk m c 9 p) j = rows (a3 m c) (batchOf p j) (col 12 (by decide) (headOf p)) :=
  rows_of _ _ _ _ _ fun t d => (congrArg (V m c main_arg3) (emb9 p (ix4 j 0 t d))).trans (congrFun (V_main_arg3 m c) _)
theorem b10 (c : Dev nD) (p : Fin cfg0.N) (j : Fin 2) : rowsOf (iblk m c 10 p) j = rows (a3 m c) (batchOf p j) (col 24 (by decide) (headOf p)) :=
  rows_of _ _ _ _ _ fun t d => (congrArg (V m c main_arg3) (emb10 p (ix4 j 0 t d))).trans (congrFun (V_main_arg3 m c) _)
theorem b11 (c : Dev nD) (p : Fin cfg0.N) (j : Fin 2) : rowsOf (iblk m c 11 p) j = rows (a3 m c) (batchOf p j) (col 16 (by decide) (headOf p)) :=
  rows_of _ _ _ _ _ fun t d => (congrArg (V m c main_arg3) (emb11 p (ix4 j 0 t d))).trans (congrFun (V_main_arg3 m c) _)
theorem b12 (c : Dev nD) (p : Fin cfg0.N) (j : Fin 2) : ctxOf (iblk m c 12 p) j = crows (a5 m c) (batchOf p j) (ccol 4 (by decide) (headOf p)) :=
  funext fun r => funext fun d => (congrArg (V m c main_arg5) (emb12 p j r d)).trans (congrFun (V_main_arg5 m c) _)
theorem b13 (c : Dev nD) (p : Fin cfg0.N) (j : Fin 2) : ctxOf (iblk m c 13 p) j = crows (a5 m c) (batchOf p j) (ccol 8 (by decide) (headOf p)) :=
  funext fun r => funext fun d => (congrArg (V m c main_arg5) (emb13 p j r d)).trans (congrFun (V_main_arg5 m c) _)

end Cert.Mix

end
-- ==== Proof.MixEquation.lean ====
/- The retention's array is the reference's, where the projected queries, keys and values are finite. -/
module

public import proofs.«01_k».proof.Proof.MixValue
public import proofs.«01_k».proof.Proof.Gen.Pre_finite_ret
public import proofs.«01_k».proof.Proof.Gen.ReferenceIdeal.Run
public import Idealize.ShloMosaic.Lib.ReduceAll

@[expose] public section

noncomputable section

namespace Cert.Mix

open Idealize.ShloMosaic Idealize.ShloMosaic.TcCoe Idealize.SL.Sem
open Idealize.ShloMosaic.Pipeline (Dat)

/-! ## The precondition, entry by entry -/

/-- A value is a real number. -/
def IsReal (x : EReal) : Prop := x = ((x.toReal : ℝ) : EReal)

theorem fin_of_cmp (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    simp [Ideal.cmp, hn] at h
  have h1 : x ≠ ⊤ := ne_of_lt (lt_of_le_of_lt (le_max_left _ _) hlt)
  have h2 : x ≠ ⊥ := by
    rintro rfl
    simp at hlt
  exact (EReal.coe_toReal h1 h2).symm

theorem andi_both (c d : BitVec 1) (h : IntOp.andi c d = 1#1) : c = 1#1 ∧ d = 1#1 := by
  revert c d; decide

instance : Subsingleton (Cert.Pre_finite_ret.S_).Idx := ⟨fun a b => funext fun i => i.elim0⟩

section Pre
open Cert.Pre_finite_ret Cert.Pre_finite_ret.Gen

variable (x0 : Vec Ideal S1x8x15x31 .f32) (x1 x2 : Vec Ideal S1x4 .f32) (x3 : Vec Ideal S16x28x2048x128 .bf16)
  (x4 : Vec Ideal S16x512x2048 .bf16) (x5 : Vec Ideal S1x12x4096x128 .bf16) (x6 : Vec Ideal S1x512x4096 .bf16)
  (x7 : Vec Ideal S1x512 .f32)

theorem qk_apply (b : Fin 16) (g : Fin 8) (t : Fin 2048) (d : Fin 128) :
    cmpf .olt (Host.absf (extf .f32 (extractStridedSlice S16x8x2048x128 ![0, 8, 0, 0] x3 slices_S16x28x2048x128_S16x8x2048x128_0_8_0_0) bitsLt_bf16_f32 : FVec Ideal S16x8x2048x128 .f32))
      (broadcastInDim S16x8x2048x128 ![] bcast_S_S16x8x2048x128 (constant S_ .f32 0x7F800000#32 : FVec Ideal S_ .f32)) (ix4 b g t d)
      = Ideal.cmp .olt (max (x3 (ix4 b ⟨8 + g.val, by omega⟩ t d)) (-(x3 (ix4 b ⟨8 + g.val, by omega⟩ t d)))) (Ideal.ofBits .f32 0x7F800000#32) := by
  pointwise
  rfl

theorem v_apply (b : Fin 16) (g : Fin 4) (t : Fin 2048) (d : Fin 128) :
    cmpf .olt (Host.absf (extf .f32 (extractStridedSlice S16x4x2048x128 ![0, 24, 0, 0] x3 slices_S16x28x2048x128_S16x4x2048x128_0_24_0_0) bitsLt_bf16_f32 : FVec Ideal S16x4x2048x128 .f32))
      (broadcastInDim S16x4x2048x128 ![] bcast_S_S16x4x2048x128 (constant S_ .f32 0x7F800000#32 : FVec Ideal S_ .f32)) (ix4 b g t d)
      = Ideal.cmp .olt (max (x3 (ix4 b ⟨24 + g.val, by omega⟩ t d)) (-(x3 (ix4 b ⟨24 + g.val, by omega⟩ t d)))) (Ideal.ofBits .f32 0x7F800000#32) := by
  pointwise
  rfl

theorem c_apply (g : Fin 8) (t : Fin 4096) (d : Fin 128) :
    cmpf .olt (Host.absf (extf .f32 (extractStridedSlice S1x8x4096x128 ![0, 4, 0, 0] x5 slices_S1x12x4096x128_S1x8x4096x128_0_4_0_0) bitsLt_bf16_f32 : FVec Ideal S1x8x4096x128 .f32))
      (broadcastInDim S1x8x4096x128 ![] bcast_S_S1x8x4096x128 (constant S_ .f32 0x7F800000#32 : FVec Ideal S_ .f32)) (ix4 0 g t d)
      = Ideal.cmp .olt (max (x5 (ix4 0 ⟨4 + g.val, by omega⟩ t d)) (-(x5 (ix4 0 ⟨4 + g.val, by omega⟩ t d)))) (Ideal.ofBits .f32 0x7F800000#32) := by
  pointwise
  rfl

/-- What the precondition says of the entries: the queries' and keys' columns, the values', and the context's are real. -/
theorem entries (h : Cert.Pre_finite_ret.fn (F := Ideal) x0 x1 x2 x3 x4 x5 x6 x7 = fun _ => 1#1) :
    (∀ (b : Fin 16) (g : Fin 8) (t : Fin 2048) (d : Fin 128), IsReal (x3 (ix4 b ⟨8 + g.val, by omega⟩ t d)))
    ∧ (∀ (b : Fin 16) (g : Fin 4) (t : Fin 2048) (d : Fin 128), IsReal (x3 (ix4 b ⟨24 + g.val, by omega⟩ t d)))
    ∧ (∀ (g : Fin 8) (t : Fin 4096) (d : Fin 128), IsReal (x5 (ix4 0 ⟨4 + g.val, by omega⟩ t d))) := by
  obtain ⟨h1, h2⟩ := andi_both _ _ (congrFun h ix0)
  obtain ⟨h3, h4⟩ := andi_both _ _ h1
  refine ⟨fun b g t d => fin_of_cmp _ ?_, fun b g t d => fin_of_cmp _ ?_, fun g t d => fin_of_cmp _ ?_⟩
  · rw [← qk_apply]; exact Host.reduce_andi_all _ _ _ _ _ h3 _
  · rw [← v_apply]; exact Host.reduce_andi_all _ _ _ _ _ h4 _
  · rw [← c_apply]; exact Host.reduce_andi_all _ _ _ _ _ h2 _

end Pre

open Cert.KernelIdeal Cert.KernelIdeal.Gen

theorem logDecay_le (x : Vec Ideal S1x4 .f32) (h : Fin 4) : logDecay x h ≤ 0 := by
  have h0 : 0 ≤ Ideal.exp (x (ix2 0 h)) := by
    generalize x (ix2 0 h) = y
    induction y using EReal.rec with
    | bot => exact le_refl _
    | top => exact le_top
    | coe r => exact EReal.coe_nonneg.mpr (Real.exp_pos r).le
  unfold logDecay
  rw [EReal.neg_le, neg_zero]
  exact h0

theorem rows_real (p : Vec Ideal S16x28x2048x128 .bf16) (b : Fin 16) (g : Fin 28)
    (h : ∀ (t : Fin 2048) (d : Fin 128), IsReal (p (ix4 b g t d))) (n : ℕ) (d : Fin 128) : IsReal (rows p b g n d) := by
  unfold rows
  split
  · exact h _ d
  · simp [IsReal]

/-- What the precondition gives of the launch's arrays. -/
structure AllReal (m : (ℓ : Loc nD τ sig) → Buf (Elt Ideal) ℓ) (c : Dev nD) : Prop where
  q : ∀ b h n d, IsReal (rows (a3 m c) b (col 8 (by decide) h) n d)
  k : ∀ b h n d, IsReal (rows (a3 m c) b (col 12 (by decide) h) n d)
  v : ∀ b h n d, IsReal (rows (a3 m c) b (col 24 (by decide) h) n d)
  kc : ∀ b h r d, IsReal (crows (a5 m c) b (ccol 4 (by decide) h) r d)
  vc : ∀ b h r d, IsReal (crows (a5 m c) b (ccol 8 (by decide) h) r d)

theorem real_of_pre (m : (ℓ : Loc nD τ sig) → Buf (Elt Ideal) ℓ)
    (hm : Cert.Pre_KernelIdeal_finite_ret (hPre_finite_ret := Cert.Pre_finite_ret.Gen.facts) m) (c : Dev nD) : AllReal m c := by
  obtain ⟨h1, h2, h3⟩ := entries _ _ _ _ _ _ _ _ (hm c)
  refine ⟨fun b h => rows_real _ _ _ ?_, fun b h => rows_real _ _ _ ?_, fun b h => rows_real _ _ _ ?_, fun b h r d => ?_, fun b h r d => ?_⟩
  · exact fun t d => h1 b ⟨h.val, by omega⟩ t d
  · intro t d
    have e : (col 12 (by decide) h : Fin 28) = ⟨8 + (⟨4 + h.val, by omega⟩ : Fin 8).val, by show 8 + (4 + h.val) < 28; omega⟩ :=
      Fin.ext (by show 12 + h.val = 8 + (4 + h.val); omega)
    rw [e]; exact h1 b ⟨4 + h.val, by omega⟩ t d
  · exact fun t d => h2 b h t d
  · exact h3 ⟨h.val, by omega⟩ _ d
  · have e : (ccol 8 (by decide) h : Fin 12) = ⟨4 + (⟨4 + h.val, by omega⟩ : Fin 8).val, by show 4 + (4 + h.val) < 12; omega⟩ :=
      Fin.ext (by show 8 + h.val = 4 + (4 + h.val); omega)
    rw [e]; exact h3 ⟨4 + h.val, by omega⟩ _ d

variable (m : (ℓ : Loc nD τ sig) → Buf (Elt Ideal) ℓ)

/-! ## The whole array -/

/-- The result array's contents named by the argument arrays as launched. -/
def Gm (c : Dev nD) : Vec Ideal S16x4x2048x128 .f32 := fun i =>
  ret (a1 m c) (a2 m c) (a3 m c) (a5 m c) (a7 m c) (i 0) (i 1) (i 2) (i 3)

/-- A point's block holds the retention of its two batch elements and its head. -/
theorem tile_ret_at (c : Dev nD) (hr : AllReal m c) (p : Fin cfg0.N) (j : Fin 2) (n : Fin 8) (r : Fin 256) (t : Fin 2048)
    (ht : t.val = 256 * n.val + r.val) (e : Fin 128) :
    tile m c p (ix4 j 0 t e) = ret (a1 m c) (a2 m c) (a3 m c) (a5 m c) (a7 m c) (batchOf p j) (headOf p) t e := by
  rw [tile_apply m c p j n r t ht e, b1, b1', b8, b9, b10, b11, b12, b13]
  unfold ret
  rw [ht]
  congr 1
  · funext e
    exact chunked_eq (logDecay_le _ _) (logDecay_le _ _) _ _ _ _ _ _ _ _ _ _ (hr.q _ _) (hr.k _ _) (hr.v _ _) (hr.kc _ _) (hr.vc _ _)
      _ _ n.isLt r.isLt e
  · funext e
    exact b14 m c p e

theorem tile_ret (c : Dev nD) (hr : AllReal m c) (p : Fin cfg0.N) (j : Fin 2) (t : Fin 2048) (e : Fin 128) :
    tile m c p (ix4 j 0 t e) = ret (a1 m c) (a2 m c) (a3 m c) (a5 m c) (a7 m c) (batchOf p j) (headOf p) t e :=
  tile_ret_at m c hr p j ⟨t.val / 256, by omega⟩ ⟨t.val % 256, by omega⟩ t (Nat.div_add_mod t.val 256).symm e

theorem flushed_eq (c : Dev nD) (hr : AllReal m c) (t : Fin cfg0.N) :
    (dats m 0 c).flushed 16 t = ((cfg0.win 16).blk t).view.read (Elt Ideal) (Gm m c) := by
  show (cfg0.win 16).cut (grid0.coords t) ((dats m 0 c).after 16 t) = _
  rw [after16]
  funext j
  show tile m c t j = Gm m c (((cfg0.win 16).blk t).view.emb j)
  rw [emb16]
  obtain ⟨a, s, e, rfl⟩ : ∃ (a : Fin 2) (s : Fin 2048) (e : Fin 128), j = (ix4 a 0 s e : S2x1x2048x128.Idx) :=
    ⟨j 0, j 2, j 3, funext fun a => match a with
      | ⟨0, _⟩ => rfl
      | ⟨1, _⟩ => Fin.ext (by have : (j 1).val < 1 := (j 1).isLt; show (j 1).val = 0; omega)
      | ⟨2, _⟩ => rfl
      | ⟨3, _⟩ => rfl⟩
  exact tile_ret m c hr t a s e

/-- The point that computes head `h` of batch element `b`. -/
def pointOf (b : Fin 16) (h : Fin 4) : Fin cfg0.N := (⟨8 * h.val + b.val / 2, by omega⟩ : Fin 32)

theorem batchOf_point (b : Fin 16) (h : Fin 4) : batchOf (pointOf b h) ⟨b.val % 2, by omega⟩ = b :=
  Fin.ext (by show 2 * ((8 * h.val + b.val / 2) % 8) + b.val % 2 = b.val; omega)

theorem headOf_point (b : Fin 16) (h : Fin 4) : headOf (pointOf b h) = h :=
  Fin.ext (by show (8 * h.val + b.val / 2) / 8 = h.val; omega)

theorem covered (i : S16x4x2048x128.Idx) :
    ∃ t : Fin cfg0.N, (cfg0.win 16).flush t = true ∧ i ∈ ((cfg0.win 16).blk t).view.set := by
  obtain ⟨b, h, t, e, rfl⟩ : ∃ (b : Fin 16) (h : Fin 4) (t : Fin 2048) (e : Fin 128), i = ix4 b h t e :=
    ⟨i 0, i 1, i 2, i 3, funext fun a => match a with | ⟨0, _⟩ => rfl | ⟨1, _⟩ => rfl | ⟨2, _⟩ => rfl | ⟨3, _⟩ => rfl⟩
  refine ⟨pointOf b h, flush0_16 _, ?_⟩
  have hm := ((cfg0.win 16).blk (pointOf b h)).view.emb_mem_set (ix4 ⟨b.val % 2, by omega⟩ 0 t e : S2x1x2048x128.Idx)
  rw [emb16] at hm
  have hi : (ix4 (batchOf (pointOf b h) ⟨b.val % 2, by omega⟩) (headOf (pointOf b h)) t e : S16x4x2048x128.Idx) = ix4 b h t e := by
    rw [batchOf_point, headOf_point]
  exact hi ▸ hm

theorem final (c : Dev nD) (hr : AllReal m c) : (dats m 0 c).arrAt 16 cfg0.N = Gm m c :=
  (dats m 0 c).arrAt_eq_of_cover 16 (Gm m c) (fun t _ => flushed_eq m c hr t) covered

theorem equation : Cert.algebraic_KernelIdeal_ReferenceIdeal_pre_finite_ret (hKernelIdeal := Cert.KernelIdeal.Gen.facts)
    (hReferenceIdeal := Cert.ReferenceIdeal.Gen.facts) (hPre_finite_ret := Cert.Pre_finite_ret.Gen.facts) := by
  intro m g m' g' hp hm
  refine ⟨fun c => Gm m c, ?_, ?_⟩
  · exact (Idealize.ShloMosaic.θ_run _ _ _).mono
      (fun r h c => ⟨(h.2.2 c).trans (final m c (real_of_pre m hp c)), h.1 c⟩) (run m g)
  · refine (Idealize.ShloMosaic.θ_run _ _ _).mono (fun r h c => ⟨(h c).1.trans ?_, (h c).2⟩) (Cert.ReferenceIdeal.Value.run m' g')
    obtain ⟨h0, h1, h2, h3, h4, h5, h6, h7⟩ := hm c
    rw [Cert.ReferenceIdeal.Read.val_main_v130_eq, h1, h2, h3, h5, h7]
    funext i
    obtain ⟨b, h, t, e, rfl⟩ : ∃ (b : Fin 16) (h : Fin 4) (t : Fin 2048) (e : Fin 128), i = ix4 b h t e :=
      ⟨i 0, i 1, i 2, i 3, funext fun a => match a with | ⟨0, _⟩ => rfl | ⟨1, _⟩ => rfl | ⟨2, _⟩ => rfl | ⟨3, _⟩ => rfl⟩
    exact ref_apply _ _ _ _ _ b h t e

end Cert.Mix

end
-- ==== Proof.PrepTile.lean ====
/- The adaptive modulation and the projection weights' casts, one block: what the kernel computes of it, at an index. -/
module

public import proofs.«01_k».proof.Proof.Gen.PrepIdeal.Value
public import proofs.«01_k».proof.Proof.MixEquation
public import Idealize.ShloMosaic.Lib.Pointwise
public import Idealize.ShloMosaic.Lib.Pipeline.ValueKit.Tiles

@[expose] public section

noncomputable section

namespace Cert.Ada

open Cert.PrepIdeal Cert.PrepIdeal.Gen Idealize.ShloMosaic Idealize.ShloMosaic.TcCoe Idealize.SL.Sem
open Cert.Mix (IsReal)

def silu (t : Ideal .f32) : Ideal .f32 :=
  t * Ideal.div (Ideal.ofBits .f32 0x3F800000#32) (Ideal.ofBits .f32 0x3F800000#32 + Ideal.exp (-t))

theorem isReal_coe (r : ℝ) : IsReal (r : EReal) := by simp [IsReal]

theorem one_eq : Ideal.ofBits .f32 0x3F800000#32 = ((1 : ℝ) : EReal) := by
  simp [Ideal.ofBits, Ideal.ieee]
  rw [← EReal.coe_one]
  norm_cast
  norm_num

theorem silu_real (t : EReal) (h : IsReal t) : IsReal (silu t) := by
  rw [h]
  generalize t.toReal = r
  unfold silu
  rw [one_eq, ← EReal.coe_neg]
  have he : Ideal.exp (((-r : ℝ)) : EReal) = ((Real.exp (-r) : ℝ) : EReal) := rfl
  rw [he, ← EReal.coe_add]
  have hd : Ideal.div ((1 : ℝ) : EReal) ((1 + Real.exp (-r) : ℝ) : EReal) = ((1 / (1 + Real.exp (-r)) : ℝ) : EReal) := by
    have hp : ((1 + Real.exp (-r) : ℝ) : EReal) ≠ 0 := by
      exact_mod_cast (add_pos one_pos (Real.exp_pos _)).ne'
    unfold Ideal.div
    rw [if_neg hp, ← EReal.coe_inv, ← EReal.coe_mul, one_div, one_mul]
  rw [hd, ← EReal.coe_mul]
  exact isReal_coe _

theorem sub_self_real (x : EReal) (h : IsReal x) : x - x = 0 := by
  rw [h, ← EReal.coe_sub, sub_self, EReal.coe_zero]

/-! ## The modulation -/

/-- The conditioning rows through the gate, and what a rounding to half the width would leave of them. -/
def act (x : Vec Ideal S32x1024 .f32) : FVec Ideal S32x1024 .f32 :=
  mulf (shapeCast S32x1024 x shapeCasts_S32x1024_S32x1024) (divf (broadcast S32x1024 (Scalar.ofBits .f32 0x3F800000#32))
    (addf (broadcast S32x1024 (Scalar.ofBits .f32 0x3F800000#32)) (exp (subf (broadcast S32x1024 (Scalar.ofBits .f32 0x00000000#32))
      (shapeCast S32x1024 x shapeCasts_S32x1024_S32x1024)))))

def hi (x : Vec Ideal S32x1024 .f32) : FVec Ideal S32x1024 .bf16 := truncf .bf16 (act x) bitsLt_bf16_f32

def lo (x : Vec Ideal S32x1024 .f32) : FVec Ideal S32x1024 .bf16 :=
  truncf .bf16 (subf (act x) (extf .f32 (hi x) bitsLt_bf16_f32)) bitsLt_bf16_f32

def whi (w : Vec Ideal S1024x384 .f32) : FVec Ideal S1024x384 .bf16 :=
  truncf .bf16 (shapeCast S1024x384 w shapeCasts_S1024x384_S1024x384) bitsLt_bf16_f32

def wlo (w : Vec Ideal S1024x384 .f32) : FVec Ideal S1024x384 .bf16 :=
  truncf .bf16 (subf (shapeCast S1024x384 w shapeCasts_S1024x384_S1024x384) (extf .f32 (whi w) bitsLt_bf16_f32)) bitsLt_bf16_f32

theorem act_apply (x : Vec Ideal S32x1024 .f32) (i : S32x1024.Idx) : act x i = silu (x i) := by
  pointwise [act, silu]
  rw [zero_sub]

theorem hi_apply (x : Vec Ideal S32x1024 .f32) (i : S32x1024.Idx) : hi x i = silu (x i) := act_apply x i

theorem lo_apply (x : Vec Ideal S32x1024 .f32) (i : S32x1024.Idx) (h : IsReal (x i)) : lo x i = 0 := by
  have e : lo x i = act x i - act x i := rfl
  rw [e, act_apply, sub_self_real _ (silu_real _ h)]

theorem whi_apply (w : Vec Ideal S1024x384 .f32) (k : Fin 1024) (o : Fin 384) : whi w (ix2 k o) = w (ix2 k o) := by
  pointwise [whi]

theorem wlo_apply (w : Vec Ideal S1024x384 .f32) (k : Fin 1024) (o : Fin 384) (h : IsReal (w (ix2 k o))) : wlo w (ix2 k o) = 0 := by
  rw [← sub_self_real _ h]
  pointwise [wlo, whi]

/-- Both halves of the rows, stacked, times the weights. -/
def both (a b : FVec Ideal S32x1024 .bf16) (w : FVec Ideal S1024x384 .bf16) : FVec Ideal S64x384 .f32 :=
  matmul dot_S64x1024_S1024x384_S64x384_1_0_0_1_n_n none
    (concatenate S64x1024 0 [⟨S32x1024, a⟩, ⟨S32x1024, b⟩] concatenates_S32x1024_S32x1024_S64x1024_d0) w
    (constant S64x384 .f32 0x00000000#32)

theorem stacked_apply (a b : FVec Ideal S32x1024 .bf16) (r : Fin 64) (k : Fin 1024) :
    (concatenate S64x1024 0 [⟨S32x1024, a⟩, ⟨S32x1024, b⟩] concatenates_S32x1024_S32x1024_S64x1024_d0 : FVec Ideal S64x1024 .bf16) (ix2 r k)
      = if h : r.val < 32 then a (ix2 ⟨r.val, h⟩ k) else b (ix2 ⟨r.val - 32, by omega⟩ k) := by
  pointwise
  repeat' split
  all_goals first | omega | rfl

theorem both_apply (a b : FVec Ideal S32x1024 .bf16) (w : FVec Ideal S1024x384 .bf16) (r : Fin 64) (o : Fin 384) :
    both a b w (ix2 r o) = ∑ k : Fin 1024, (if h : r.val < 32 then a (ix2 ⟨r.val, h⟩ k) else b (ix2 ⟨r.val - 32, by omega⟩ k)) * w (ix2 k o) := by
  have h := stacked_apply a b r
  unfold both
  generalize (concatenate S64x1024 0 [⟨S32x1024, a⟩, ⟨S32x1024, b⟩] concatenates_S32x1024_S32x1024_S64x1024_d0 : FVec Ideal S64x1024 .bf16) = y at h ⊢
  pointwise [h]

def low (a : FVec Ideal S32x1024 .bf16) (w : FVec Ideal S1024x384 .bf16) : FVec Ideal S32x384 .f32 :=
  matmul dot_S32x1024_S1024x384_S32x384_1_0_0_1_n_n none a w (constant S32x384 .f32 0x00000000#32)

theorem low_apply (a : FVec Ideal S32x1024 .bf16) (w : FVec Ideal S1024x384 .bf16) (r : Fin 32) (o : Fin 384) :
    low a w (ix2 r o) = ∑ k : Fin 1024, a (ix2 r k) * w (ix2 k o) := by
  pointwise [low]

theorem pay1_eq (x : Vec Ideal S32x1024 .f32) (w : Vec Ideal S1024x384 .f32) (b : Vec Ideal S1x384 .f32) :
    k0_pay1 x w b = addf (addf (addf (extractStridedSlice S32x384 ![0, 0] (both (hi x) (lo x) (whi w)) slices_S64x384_o0_0_S32x384)
      (extractStridedSlice S32x384 ![32, 0] (both (hi x) (lo x) (whi w)) slices_S64x384_o32_0_S32x384)) (low (hi x) (wlo w)))
      (broadcastTo S32x384 (shapeCast S1x384 b shapeCasts_S1x384_S1x384) broadcasts_S1x384_S32x384) := rfl

theorem sum_apply (y : FVec Ideal S64x384 .f32) (z : FVec Ideal S32x384 .f32) (b : Vec Ideal S1x384 .f32) (r : Fin 32) (o : Fin 384) :
    addf (addf (addf (extractStridedSlice S32x384 ![0, 0] y slices_S64x384_o0_0_S32x384)
      (extractStridedSlice S32x384 ![32, 0] y slices_S64x384_o32_0_S32x384)) z)
      (broadcastTo S32x384 (shapeCast S1x384 b shapeCasts_S1x384_S1x384) broadcasts_S1x384_S32x384) (ix2 r o)
      = y (ix2 ⟨r.val, by omega⟩ o) + y (ix2 ⟨32 + r.val, by omega⟩ o) + z (ix2 r o) + b (ix2 0 o) := by
  pointwise

/-- One entry of the modulation, where the conditioning row and the weights' column are real. -/
theorem pay1_apply (x : Vec Ideal S32x1024 .f32) (w : Vec Ideal S1024x384 .f32) (b : Vec Ideal S1x384 .f32) (r : Fin 32) (o : Fin 384)
    (hx : ∀ k : Fin 1024, IsReal (x (ix2 r k))) (hw : ∀ k : Fin 1024, IsReal (w (ix2 k o))) :
    k0_pay1 x w b (ix2 r o) = (∑ k : Fin 1024, silu (x (ix2 r k)) * w (ix2 k o)) + b (ix2 0 o) := by
  rw [pay1_eq, sum_apply, both_apply, both_apply, low_apply]
  have h1 : (∑ k : Fin 1024, (if h : (⟨r.val, by omega⟩ : Fin 64).val < 32 then hi x (ix2 ⟨(⟨r.val, by omega⟩ : Fin 64).val, h⟩ k)
      else lo x (ix2 ⟨(⟨r.val, by omega⟩ : Fin 64).val - 32, by omega⟩ k)) * whi w (ix2 k o))
      = ∑ k : Fin 1024, silu (x (ix2 r k)) * w (ix2 k o) :=
    Finset.sum_congr rfl fun k _ => by
      rw [dif_pos r.isLt, whi_apply]
      exact congrArg (· * _) (hi_apply x _)
  have h2 : (∑ k : Fin 1024, (if h : (⟨32 + r.val, by omega⟩ : Fin 64).val < 32 then hi x (ix2 ⟨(⟨32 + r.val, by omega⟩ : Fin 64).val, h⟩ k)
      else lo x (ix2 ⟨(⟨32 + r.val, by omega⟩ : Fin 64).val - 32, by omega⟩ k)) * whi w (ix2 k o)) = 0 :=
    Finset.sum_eq_zero fun k _ => by
      have e : (⟨(⟨32 + r.val, by omega⟩ : Fin 64).val - 32, by omega⟩ : Fin 32) = r := Fin.ext (by show 32 + r.val - 32 = r.val; omega)
      rw [dif_neg (by show ¬ 32 + r.val < 32; omega), e, lo_apply x _ (hx k), zero_mul]
  have h3 : (∑ k : Fin 1024, hi x (ix2 r k) * wlo w (ix2 k o)) = 0 :=
    Finset.sum_eq_zero fun k _ => by rw [wlo_apply w k o (hw k), mul_zero]
  rw [h1, h2, h3, add_zero, add_zero]

/-! ## The three blocks -/

theorem mod_block (x0 : Vec Ideal S32x1024 .f32) (x1 : Vec Ideal S1024x384 .f32) (x2 : Vec Ideal S1x384 .f32) (x3 : Vec Ideal S128x4096 .f32) :
    out0_4 x0 x1 x2 x3 = k0_pay1 x0 x1 x2 := by
  have h0 : View.ld x0 r0_0 = x0 := View.ld_unit_zero (funext fun a => by fin_cases a <;> rfl) _ _
  have h1 : View.ld x1 r0_1 = x1 := View.ld_unit_zero (funext fun a => by fin_cases a <;> rfl) _ _
  have h2 : View.ld x2 r0_2 = x2 := View.ld_unit_zero (funext fun a => by fin_cases a <;> rfl) _ _
  unfold out0_4
  rw [h0, h1, h2]
  exact View.canon_cons_unit_zero (funext fun a => by fin_cases a <;> rfl) _ _ _

theorem cast_block (x0 : Vec Ideal S32x1024 .f32) (x1 : Vec Ideal S1024x384 .f32) (x2 : Vec Ideal S1x384 .f32) (x3 : Vec Ideal S128x4096 .f32)
    (r : Fin 128) (o : Fin 4096) : out0_5 x0 x1 x2 x3 (ix2 r o) = x3 (ix2 r o) := by
  have h3 : View.ld x3 r0_4 = x3 := View.ld_unit_zero (funext fun a => by fin_cases a <;> rfl) _ _
  have h : out0_5 x0 x1 x2 x3 = k0_pay3 x3 := by
    unfold out0_5
    rw [h3]
    exact View.canon_cons_unit_zero (funext fun a => by fin_cases a <;> rfl) _ _ _
  rw [h]
  pointwise [k0_pay3, k0_pay2]

theorem values_block (x0 : Vec Ideal S32x1024 .f32) (x1 : Vec Ideal S1024x384 .f32) (x2 : Vec Ideal S1x384 .f32) (x3 : Vec Ideal S128x4096 .f32)
    (o : Fin 512) (r : Fin 128) : out0_6 x0 x1 x2 x3 (ix2 o r) = x3 (ix2 r ⟨1024 + o.val, by omega⟩) := by
  have h3 : View.ld x3 r0_4 = x3 := View.ld_unit_zero (funext fun a => by fin_cases a <;> rfl) _ _
  have h : out0_6 x0 x1 x2 x3 = k0_pay4 x3 := by
    unfold out0_6
    rw [h3]
    exact View.canon_cons_unit_zero (funext fun a => by fin_cases a <;> rfl) _ _ _
  rw [h]
  pointwise [k0_pay4, k0_pay2]

end Cert.Ada

end
-- ==== Proof.PrepValue.lean ====
/- The adaptive modulation and the projection weights' casts: the three result arrays as functions of the arguments, and
   the reference at the same functions. -/
module

public import proofs.«01_k».proof.Defs
public import proofs.«01_k».proof.Proof.PrepTile
public import proofs.«01_k».proof.Proof.Gen.AdaReferenceIdeal.Read
public import proofs.«01_k».proof.Proof.Gen.Pre_finite_ada
public import Idealize.ShloMosaic.Lib.KernelVsHost
public import Idealize.ShloMosaic.Lib.ReduceAll

@[expose] public section

noncomputable section

namespace Cert.Ada

open Cert.PrepIdeal Cert.PrepIdeal.Gen Cert.PrepIdeal.Value Idealize.ShloMosaic Idealize.ShloMosaic.TcCoe Idealize.SL.Sem
open Idealize.ShloMosaic.Pipeline (Dat)
open Cert.Mix (IsReal fin_of_cmp andi_both)

/-- The conditioning rows: sixteen of the batch, one of the context, and zeros. -/
def cond (x : Vec Ideal S16x1024 .f32) (y : Vec Ideal S1024 .f32) (r : Fin 32) (k : Fin 1024) : Ideal .f32 :=
  if h : r.val < 16 then x (ix2 ⟨r.val, h⟩ k) else if r.val < 17 then y (ix1 k) else 0

/-- The modulation. -/
def G4 (x : Vec Ideal S16x1024 .f32) (y : Vec Ideal S1024 .f32) (w : Vec Ideal S1x1024x3072 .f32) (b : Vec Ideal S1x3072 .f32) :
    Vec Ideal S32x3072 .f32 := fun i =>
  (∑ k : Fin 1024, silu (cond x y (i 0) k) * w (ix3 0 k (i 1))) + b (ix2 0 (i 1))

/-- The projection's weights. -/
def G5 (w : Vec Ideal S1x1024x4096 .f32) : Vec Ideal S1024x4096 .bf16 := fun i => w (ix3 0 (i 0) (i 1))

/-- Its columns of the attention's values, transposed. -/
def G6 (w : Vec Ideal S1x1024x4096 .f32) : Vec Ideal S512x1024 .bf16 := fun i =>
  w (ix3 0 (i 1) ⟨1024 + (i 0).val, by have : (i 0).val < 512 := (i 0).isLt; omega⟩)

variable (m : (ℓ : Loc nD τ sig) → Buf (Elt Ideal) ℓ)

/-! ## The arrays as the call finds them -/

/-- The rows joined and padded. -/
def padded (x : Vec Ideal S16x1024 .f32) (y : Vec Ideal S1024 .f32) : FVec Ideal S32x1024 .f32 :=
  pad S32x1024 ![0, 0] ![15, 0] ![0, 0]
    (concatenate S17x1024 0 [⟨S16x1024, x⟩, ⟨S1x1024, (broadcastInDim S1x1024 ![1] bcast_S1024_S1x1024_1 y : FVec Ideal S1x1024 .f32)⟩]
      concatenates_S16x1024_S1x1024_S17x1024_d0 : FVec Ideal S17x1024 .f32)
    (sitofp .f32 (constantI S_ 32 0#32) : FVec Ideal S_ .f32) pads_S17x1024_S32x1024_0150_000 h_S_

theorem V_rows (c : Dev nD) : V m c main_v2
    = padded (m ((c : Thread nD τ).loc main_arg0)) (m ((c : Thread nD τ).loc main_arg1)) := by
  unfold_abbrev_sides
  simp only [hostOps0, hostOps0_1, hostOps0_2, List.flatten_cons, List.flatten_nil, List.append_nil, List.cons_append,
    List.nil_append, StableHlo.TRef.unary, StableHlo.TRef.binary]
  after_results
  rfl

theorem V_w (c : Dev nD) : V m c main_v3
    = shapeCast S1024x3072 (m ((c : Thread nD τ).loc main_arg2)) shapeCasts_S1x1024x3072_S1024x3072 := by
  unfold_abbrev_sides
  simp only [hostOps0, hostOps0_1, hostOps0_2, List.flatten_cons, List.flatten_nil, List.append_nil, List.cons_append,
    List.nil_append, StableHlo.TRef.unary, StableHlo.TRef.binary]
  after_results
  rfl

theorem V_b (c : Dev nD) : V m c main_v6
    = shapeCast S1x3072 (shapeCast S3072 (m ((c : Thread nD τ).loc main_arg3)) shapeCasts_S1x3072_S3072) shapeCasts_S3072_S1x3072 := by
  unfold_abbrev_sides
  simp only [hostOps0, hostOps0_1, hostOps0_2, List.flatten_cons, List.flatten_nil, List.append_nil, List.cons_append,
    List.nil_append, StableHlo.TRef.unary, StableHlo.TRef.binary]
  after_results
  rfl

theorem V_p (c : Dev nD) : V m c main_v5
    = shapeCast S1024x4096 (m ((c : Thread nD τ).loc main_arg4)) shapeCasts_S1x1024x4096_S1024x4096 := by
  unfold_abbrev_sides
  simp only [hostOps0, hostOps0_1, hostOps0_2, List.flatten_cons, List.flatten_nil, List.append_nil, List.cons_append,
    List.nil_append, StableHlo.TRef.unary, StableHlo.TRef.binary]
  after_results
  rfl

theorem zero_apply : (sitofp .f32 (constantI S_ 32 0#32) : FVec Ideal S_ .f32) (Shape.Idx.first h_S_) = 0 :=
  sitofp_zero

theorem padded_apply (x : Vec Ideal S16x1024 .f32) (y : Vec Ideal S1024 .f32) (r : Fin 32) (k : Fin 1024) :
    padded x y (ix2 r k) = cond x y r k := by
  have hz := zero_apply
  unfold padded
  generalize (sitofp .f32 (constantI S_ 32 0#32) : FVec Ideal S_ .f32) = z at hz ⊢
  pointwise [cond, hz]
  repeat' split
  all_goals first
    | omega
    | rfl

theorem w_apply (w : Vec Ideal S1x1024x3072 .f32) (k : Fin 1024) (o : Fin 3072) :
    shapeCast S1024x3072 w shapeCasts_S1x1024x3072_S1024x3072 (ix2 k o) = w (ix3 0 k o) := by
  pointwise

theorem b_apply (b : Vec Ideal S1x3072 .f32) (o : Fin 3072) :
    shapeCast S1x3072 (shapeCast S3072 b shapeCasts_S1x3072_S3072) shapeCasts_S3072_S1x3072 (ix2 0 o) = b (ix2 0 o) := by
  pointwise

theorem p_apply (w : Vec Ideal S1x1024x4096 .f32) (k : Fin 1024) (o : Fin 4096) :
    shapeCast S1024x4096 w shapeCasts_S1x1024x4096_S1024x4096 (ix2 k o) = w (ix3 0 k o) := by
  pointwise

/-! ## The blocks -/

theorem at0 : ∀ t : Fin cfg0.N, win0_0.index t 0 = 0 ∧ win0_0.index t 1 = 0 := (by decide +kernel : ∀ t : Fin grid0.N, _)
theorem at1 : ∀ t : Fin cfg0.N, win0_1.index t 0 = 0 ∧ win0_1.index t 1 = t.val := (by decide +kernel : ∀ t : Fin grid0.N, _)
theorem at2 : ∀ t : Fin cfg0.N, win0_2.index t 0 = 0 ∧ win0_2.index t 1 = t.val := (by decide +kernel : ∀ t : Fin grid0.N, _)
theorem at3 : ∀ t : Fin cfg0.N, win0_3.index t 0 = t.val ∧ win0_3.index t 1 = 0 := (by decide +kernel : ∀ t : Fin grid0.N, _)
theorem at4 : ∀ t : Fin cfg0.N, win0_4.index t 0 = 0 ∧ win0_4.index t 1 = t.val := (by decide +kernel : ∀ t : Fin grid0.N, _)
theorem at5 : ∀ t : Fin cfg0.N, win0_5.index t 0 = t.val ∧ win0_5.index t 1 = 0 := (by decide +kernel : ∀ t : Fin grid0.N, _)
theorem at6 : ∀ t : Fin cfg0.N, win0_6.index t 0 = 0 ∧ win0_6.index t 1 = t.val := (by decide +kernel : ∀ t : Fin grid0.N, _)

theorem lt8 (t : Fin cfg0.N) : t.val < 8 := t.isLt

/-- The column and the row that a block's stand for. -/
def colOf (t : Fin cfg0.N) (o : Fin 384) : Fin 3072 := ⟨384 * t.val + o.val, by have := lt8 t; omega⟩
def rowOf (t : Fin cfg0.N) (r : Fin 128) : Fin 1024 := ⟨128 * t.val + r.val, by have := lt8 t; omega⟩

theorem emb0 (t : Fin cfg0.N) (j : S32x1024.Idx) : ((cfg0.win 0).blk t).view.emb j = j := by
  obtain ⟨a0, a1⟩ := at0 t
  funext a; apply Fin.ext
  match a with
  | ⟨0, _⟩ => show win0_0.index t 0 * 32 + 1 * (j 0).val = (j 0).val; omega
  | ⟨1, _⟩ => show win0_0.index t 1 * 1024 + 1 * (j 1).val = (j 1).val; omega

theorem emb1 (t : Fin cfg0.N) (j : S1024x384.Idx) : ((cfg0.win 1).blk t).view.emb j = (ix2 (j 0) (colOf t (j 1)) : S1024x3072.Idx) := by
  obtain ⟨a0, a1⟩ := at1 t
  funext a; apply Fin.ext
  match a with
  | ⟨0, _⟩ => show win0_1.index t 0 * 1024 + 1 * (j 0).val = (j 0).val; omega
  | ⟨1, _⟩ => show win0_1.index t 1 * 384 + 1 * (j 1).val = 384 * t.val + (j 1).val; omega

theorem emb2 (t : Fin cfg0.N) (j : S1x384.Idx) : ((cfg0.win 2).blk t).view.emb j = (ix2 0 (colOf t (j 1)) : S1x3072.Idx) := by
  obtain ⟨a0, a1⟩ := at2 t
  funext a; apply Fin.ext
  match a with
  | ⟨0, _⟩ => show win0_2.index t 0 * 1 + 1 * (j 0).val = 0; have : (j 0).val < 1 := (j 0).isLt; omega
  | ⟨1, _⟩ => show win0_2.index t 1 * 384 + 1 * (j 1).val = 384 * t.val + (j 1).val; omega

theorem emb3 (t : Fin cfg0.N) (j : S128x4096.Idx) : ((cfg0.win 3).blk t).view.emb j = (ix2 (rowOf t (j 0)) (j 1) : S1024x4096.Idx) := by
  obtain ⟨a0, a1⟩ := at3 t
  funext a; apply Fin.ext
  match a with
  | ⟨0, _⟩ => show win0_3.index t 0 * 128 + 1 * (j 0).val = 128 * t.val + (j 0).val; omega
  | ⟨1, _⟩ => show win0_3.index t 1 * 4096 + 1 * (j 1).val = (j 1).val; omega

theorem emb4 (t : Fin cfg0.N) (j : S32x384.Idx) : ((cfg0.win 4).blk t).view.emb j = (ix2 (j 0) (colOf t (j 1)) : S32x3072.Idx) := by
  obtain ⟨a0, a1⟩ := at4 t
  funext a; apply Fin.ext
  match a with
  | ⟨0, _⟩ => show win0_4.index t 0 * 32 + 1 * (j 0).val = (j 0).val; omega
  | ⟨1, _⟩ => show win0_4.index t 1 * 384 + 1 * (j 1).val = 384 * t.val + (j 1).val; omega

theorem emb5 (t : Fin cfg0.N) (j : S128x4096.Idx) : ((cfg0.win 5).blk t).view.emb j = (ix2 (rowOf t (j 0)) (j 1) : S1024x4096.Idx) := by
  obtain ⟨a0, a1⟩ := at5 t
  funext a; apply Fin.ext
  match a with
  | ⟨0, _⟩ => show win0_5.index t 0 * 128 + 1 * (j 0).val = 128 * t.val + (j 0).val; omega
  | ⟨1, _⟩ => show win0_5.index t 1 * 4096 + 1 * (j 1).val = (j 1).val; omega

theorem emb6 (t : Fin cfg0.N) (j : S512x128.Idx) : ((cfg0.win 6).blk t).view.emb j = (ix2 (j 0) (rowOf t (j 1)) : S512x1024.Idx) := by
  obtain ⟨a0, a1⟩ := at6 t
  funext a; apply Fin.ext
  match a with
  | ⟨0, _⟩ => show win0_6.index t 0 * 512 + 1 * (j 0).val = (j 0).val; omega
  | ⟨1, _⟩ => show win0_6.index t 1 * 128 + 1 * (j 1).val = 128 * t.val + (j 1).val; omega

theorem i0 (c : Dev nD) (t : Fin cfg0.N) (r : Fin 32) (k : Fin 1024) : iblk m c 0 t (ix2 r k : S32x1024.Idx)
    = cond (m ((c : Thread nD τ).loc main_arg0)) (m ((c : Thread nD τ).loc main_arg1)) r k := by
  refine (congrArg (V m c main_v2) (emb0 t (ix2 r k))).trans ((congrFun (V_rows m c) _).trans ?_)
  exact padded_apply _ _ r k
theorem i1 (c : Dev nD) (t : Fin cfg0.N) (k : Fin 1024) (o : Fin 384) : iblk m c 1 t (ix2 k o : S1024x384.Idx)
    = m ((c : Thread nD τ).loc main_arg2) (ix3 0 k (colOf t o)) := by
  refine (congrArg (V m c main_v3) (emb1 t (ix2 k o))).trans ((congrFun (V_w m c) _).trans ?_)
  exact w_apply _ k _
theorem i2 (c : Dev nD) (t : Fin cfg0.N) (o : Fin 384) : iblk m c 2 t (ix2 0 o : S1x384.Idx)
    = m ((c : Thread nD τ).loc main_arg3) (ix2 0 (colOf t o)) := by
  refine (congrArg (V m c main_v6) (emb2 t (ix2 0 o))).trans ((congrFun (V_b m c) _).trans ?_)
  exact b_apply _ _
theorem i3 (c : Dev nD) (t : Fin cfg0.N) (r : Fin 128) (o : Fin 4096) : iblk m c 3 t (ix2 r o : S128x4096.Idx)
    = m ((c : Thread nD τ).loc main_arg4) (ix3 0 (rowOf t r) o) := by
  refine (congrArg (V m c main_v5) (emb3 t (ix2 r o))).trans ((congrFun (V_p m c) _).trans ?_)
  exact p_apply _ _ o

/-! ## The whole arrays -/

/-- The three result arrays' contents named by the argument arrays as launched. -/
abbrev Gm4 (c : Dev nD) : Vec Ideal S32x3072 .f32 :=
  G4 (m ((c : Thread nD τ).loc main_arg0)) (m ((c : Thread nD τ).loc main_arg1)) (m ((c : Thread nD τ).loc main_arg2))
    (m ((c : Thread nD τ).loc main_arg3))
abbrev Gm5 (c : Dev nD) : Vec Ideal S1024x4096 .bf16 := G5 (m ((c : Thread nD τ).loc main_arg4))
abbrev Gm6 (c : Dev nD) : Vec Ideal S512x1024 .bf16 := G6 (m ((c : Thread nD τ).loc main_arg4))

/-- What the precondition gives of the launch's arrays. -/
structure AllReal (c : Dev nD) : Prop where
  rows : ∀ (r : Fin 32) (k : Fin 1024), IsReal (cond (m ((c : Thread nD τ).loc main_arg0)) (m ((c : Thread nD τ).loc main_arg1)) r k)
  w : ∀ (k : Fin 1024) (o : Fin 3072), IsReal ((m ((c : Thread nD τ).loc main_arg2) : Vec Ideal S1x1024x3072 .f32) (ix3 0 k o))

theorem flushed_eq4 (c : Dev nD) (hr : AllReal m c) (t : Fin cfg0.N) :
    (dats m 0 c).flushed 4 t = ((cfg0.win 4).blk t).view.read (Elt Ideal) (Gm4 m c) := by
  rw [flushed4]
  funext j
  obtain ⟨r, o, rfl⟩ : ∃ (r : Fin 32) (o : Fin 384), j = (ix2 r o : S32x384.Idx) :=
    ⟨j 0, j 1, funext fun a => match a with | ⟨0, _⟩ => rfl | ⟨1, _⟩ => rfl⟩
  show out0_4 _ _ _ _ (ix2 r o) = Gm4 m c (((cfg0.win 4).blk t).view.emb (ix2 r o))
  rw [emb4, mod_block]
  refine (pay1_apply _ _ _ r o (fun k => by rw [i0]; exact hr.rows r k) (fun k => by rw [i1]; exact hr.w k _)).trans ?_
  rw [i2]
  exact congrArg (· + _) (Finset.sum_congr rfl fun k _ => by rw [i0, i1]; rfl)

theorem flushed_eq5 (c : Dev nD) (t : Fin cfg0.N) :
    (dats m 0 c).flushed 5 t = ((cfg0.win 5).blk t).view.read (Elt Ideal) (Gm5 m c) := by
  rw [flushed5]
  funext j
  obtain ⟨r, o, rfl⟩ : ∃ (r : Fin 128) (o : Fin 4096), j = (ix2 r o : S128x4096.Idx) :=
    ⟨j 0, j 1, funext fun a => match a with | ⟨0, _⟩ => rfl | ⟨1, _⟩ => rfl⟩
  show out0_5 _ _ _ _ (ix2 r o) = Gm5 m c (((cfg0.win 5).blk t).view.emb (ix2 r o))
  rw [emb5, cast_block, i3]
  rfl

theorem flushed_eq6 (c : Dev nD) (t : Fin cfg0.N) :
    (dats m 0 c).flushed 6 t = ((cfg0.win 6).blk t).view.read (Elt Ideal) (Gm6 m c) := by
  rw [flushed6]
  funext j
  obtain ⟨o, r, rfl⟩ : ∃ (o : Fin 512) (r : Fin 128), j = (ix2 o r : S512x128.Idx) :=
    ⟨j 0, j 1, funext fun a => match a with | ⟨0, _⟩ => rfl | ⟨1, _⟩ => rfl⟩
  show out0_6 _ _ _ _ (ix2 o r) = Gm6 m c (((cfg0.win 6).blk t).view.emb (ix2 o r))
  rw [emb6, values_block, i3]
  rfl

/-- The step whose block holds a column of the modulation, and the one whose block holds a row of the weights. -/
def colStep (o : Fin 3072) : Fin cfg0.N := ⟨o.val / 384, by show _ < 8; omega⟩
def rowStep (r : Fin 1024) : Fin cfg0.N := ⟨r.val / 128, by show _ < 8; omega⟩

theorem colOf_step (o : Fin 3072) : colOf (colStep o) ⟨o.val % 384, Nat.mod_lt _ (by decide)⟩ = o := by
  apply Fin.ext; show 384 * (o.val / 384) + o.val % 384 = o.val; omega
theorem rowOf_step (r : Fin 1024) : rowOf (rowStep r) ⟨r.val % 128, Nat.mod_lt _ (by decide)⟩ = r := by
  apply Fin.ext; show 128 * (r.val / 128) + r.val % 128 = r.val; omega

theorem covered4 (i : S32x3072.Idx) : ∃ t : Fin cfg0.N, (cfg0.win 4).flush t = true ∧ i ∈ ((cfg0.win 4).blk t).view.set := by
  obtain ⟨r, o, rfl⟩ : ∃ (r : Fin 32) (o : Fin 3072), i = ix2 r o :=
    ⟨i 0, i 1, funext fun a => match a with | ⟨0, _⟩ => rfl | ⟨1, _⟩ => rfl⟩
  refine ⟨colStep o, flush0_4 _, ?_⟩
  have h := ((cfg0.win 4).blk (colStep o)).view.emb_mem_set (ix2 r ⟨o.val % 384, Nat.mod_lt _ (by decide)⟩ : S32x384.Idx)
  have hi : ((cfg0.win 4).blk (colStep o)).view.emb (ix2 r ⟨o.val % 384, Nat.mod_lt _ (by decide)⟩ : S32x384.Idx) = (ix2 r o : S32x3072.Idx) := by
    refine (emb4 _ _).trans ?_
    show ix2 r (colOf (colStep o) ⟨o.val % 384, Nat.mod_lt _ (by decide)⟩) = _
    rw [colOf_step]
  rw [hi] at h
  exact h

theorem covered5 (i : S1024x4096.Idx) : ∃ t : Fin cfg0.N, (cfg0.win 5).flush t = true ∧ i ∈ ((cfg0.win 5).blk t).view.set := by
  obtain ⟨r, o, rfl⟩ : ∃ (r : Fin 1024) (o : Fin 4096), i = ix2 r o :=
    ⟨i 0, i 1, funext fun a => match a with | ⟨0, _⟩ => rfl | ⟨1, _⟩ => rfl⟩
  refine ⟨rowStep r, flush0_5 _, ?_⟩
  have h := ((cfg0.win 5).blk (rowStep r)).view.emb_mem_set (ix2 ⟨r.val % 128, Nat.mod_lt _ (by decide)⟩ o : S128x4096.Idx)
  have hi : ((cfg0.win 5).blk (rowStep r)).view.emb (ix2 ⟨r.val % 128, Nat.mod_lt _ (by decide)⟩ o : S128x4096.Idx) = (ix2 r o : S1024x4096.Idx) := by
    refine (emb5 _ _).trans ?_
    show ix2 (rowOf (rowStep r) ⟨r.val % 128, Nat.mod_lt _ (by decide)⟩) o = _
    rw [rowOf_step]
  rw [hi] at h
  exact h

theorem covered6 (i : S512x1024.Idx) : ∃ t : Fin cfg0.N, (cfg0.win 6).flush t = true ∧ i ∈ ((cfg0.win 6).blk t).view.set := by
  obtain ⟨o, r, rfl⟩ : ∃ (o : Fin 512) (r : Fin 1024), i = ix2 o r :=
    ⟨i 0, i 1, funext fun a => match a with | ⟨0, _⟩ => rfl | ⟨1, _⟩ => rfl⟩
  refine ⟨rowStep r, flush0_6 _, ?_⟩
  have h := ((cfg0.win 6).blk (rowStep r)).view.emb_mem_set (ix2 o ⟨r.val % 128, Nat.mod_lt _ (by decide)⟩ : S512x128.Idx)
  have hi : ((cfg0.win 6).blk (rowStep r)).view.emb (ix2 o ⟨r.val % 128, Nat.mod_lt _ (by decide)⟩ : S512x128.Idx) = (ix2 o r : S512x1024.Idx) := by
    refine (emb6 _ _).trans ?_
    show ix2 o (rowOf (rowStep r) ⟨r.val % 128, Nat.mod_lt _ (by decide)⟩) = _
    rw [rowOf_step]
  rw [hi] at h
  exact h

theorem final4 (c : Dev nD) (hr : AllReal m c) : (dats m 0 c).arrAt 4 cfg0.N = Gm4 m c :=
  (dats m 0 c).arrAt_eq_of_cover 4 (Gm4 m c) (fun t _ => flushed_eq4 m c hr t) covered4
theorem final5 (c : Dev nD) : (dats m 0 c).arrAt 5 cfg0.N = Gm5 m c :=
  (dats m 0 c).arrAt_eq_of_cover 5 (Gm5 m c) (fun t _ => flushed_eq5 m c t) covered5
theorem final6 (c : Dev nD) : (dats m 0 c).arrAt 6 cfg0.N = Gm6 m c :=
  (dats m 0 c).arrAt_eq_of_cover 6 (Gm6 m c) (fun t _ => flushed_eq6 m c t) covered6

end Cert.Ada

/-! ## The precondition, entry by entry -/

namespace Cert.Ada.Pre

open Cert.Pre_finite_ada Cert.Pre_finite_ada.Gen Idealize.ShloMosaic Idealize.ShloMosaic.TcCoe Idealize.SL.Sem
open Cert.Mix (IsReal fin_of_cmp andi_both)

instance : Subsingleton (Cert.Pre_finite_ada.S_).Idx := ⟨fun a b => funext fun i => i.elim0⟩

variable (x0 : Vec Ideal S16x1024 .f32) (x1 : Vec Ideal S1024 .f32) (x2 : Vec Ideal S1x1024x3072 .f32) (x3 : Vec Ideal S1x3072 .f32)
  (x4 : Vec Ideal S1x1024x4096 .f32)

theorem c_apply (b : Fin 16) (k : Fin 1024) :
    cmpf .olt (Host.absf (x0 : FVec Ideal S16x1024 .f32))
      (broadcastInDim S16x1024 ![] bcast_S_S16x1024 (constant S_ .f32 0x7F800000#32 : FVec Ideal S_ .f32)) (ix2 b k)
      = Ideal.cmp .olt (max (x0 (ix2 b k)) (-(x0 (ix2 b k)))) (Ideal.ofBits .f32 0x7F800000#32) := by
  pointwise
  rfl

theorem ctx_apply (k : Fin 1024) :
    cmpf .olt (Host.absf (x1 : FVec Ideal S1024 .f32))
      (broadcastInDim S1024 ![] bcast_S_S1024 (constant S_ .f32 0x7F800000#32 : FVec Ideal S_ .f32)) (ix1 k)
      = Ideal.cmp .olt (max (x1 (ix1 k)) (-(x1 (ix1 k)))) (Ideal.ofBits .f32 0x7F800000#32) := by
  pointwise
  rfl

theorem w_apply (k : Fin 1024) (o : Fin 3072) :
    cmpf .olt (Host.absf (x2 : FVec Ideal S1x1024x3072 .f32))
      (broadcastInDim S1x1024x3072 ![] bcast_S_S1x1024x3072 (constant S_ .f32 0x7F800000#32 : FVec Ideal S_ .f32)) (ix3 0 k o)
      = Ideal.cmp .olt (max (x2 (ix3 0 k o)) (-(x2 (ix3 0 k o)))) (Ideal.ofBits .f32 0x7F800000#32) := by
  pointwise
  rfl

theorem entries (h : Cert.Pre_finite_ada.fn (F := Ideal) x0 x1 x2 x3 x4 = fun _ => 1#1) :
    (∀ (b : Fin 16) (k : Fin 1024), IsReal (x0 (ix2 b k))) ∧ (∀ k : Fin 1024, IsReal (x1 (ix1 k)))
    ∧ (∀ (k : Fin 1024) (o : Fin 3072), IsReal (x2 (ix3 0 k o))) := by
  obtain ⟨h1, h2⟩ := andi_both _ _ (congrFun h ix0)
  obtain ⟨h3, h4⟩ := andi_both _ _ h1
  refine ⟨fun b k => fin_of_cmp _ ?_, fun k => fin_of_cmp _ ?_, fun k o => fin_of_cmp _ ?_⟩
  · rw [← c_apply]; exact Host.reduce_andi_all _ _ _ _ _ h3 _
  · rw [← ctx_apply]; exact Host.reduce_andi_all _ _ _ _ _ h4 _
  · rw [← w_apply]; exact Host.reduce_andi_all _ _ _ _ _ h2 _

end Cert.Ada.Pre

/-! ## The reference -/

namespace Cert.Ada.Ref

open Cert.AdaReferenceIdeal Cert.AdaReferenceIdeal.Gen Cert.AdaReferenceIdeal.Read Idealize.ShloMosaic Idealize.ShloMosaic.TcCoe Idealize.SL.Sem

variable (x : Vec Ideal S16x1024 .f32) (y : Vec Ideal S1024 .f32) (w : Vec Ideal S1x1024x3072 .f32) (b : Vec Ideal S1x3072 .f32)
  (p : Vec Ideal S1x1024x4096 .f32)

theorem zeros_apply (r : Fin 15) (k : Fin 1024) : val_main_v1 (F := Ideal) (ix2 r k) = 0 := by
  pointwise [val_main_v1, val_main_cst]

theorem ctx_apply (a : Fin 1) (k : Fin 1024) : val_main_v0 (F := Ideal) y (ix2 a k) = y (ix1 k) := by
  pointwise [val_main_v0]

theorem cond_apply (r : Fin 32) (k : Fin 1024) : val_main_v2 (F := Ideal) x y (ix2 r k) = cond x y r k := by
  have hz := zeros_apply
  have hy := ctx_apply y
  unfold val_main_v2
  generalize val_main_v1 (F := Ideal) = z at hz ⊢
  generalize val_main_v0 (F := Ideal) y = u at hy ⊢
  pointwise [cond, hz, hy]
  repeat' split
  all_goals first
    | omega
    | rfl

theorem act_apply (r : Fin 32) (k : Fin 1024) : val_main_v3 (F := Ideal) x y (ix2 r k) = silu (cond x y r k) := by
  have h := cond_apply x y r k
  pointwise [val_main_v3, val_main_call0_v5, val_main_call0_v4, val_main_call0_cst_0, val_main_call0_v3, val_main_call0_v2, val_main_call0_cst, val_main_call0_v1, val_main_call0_v0, h, silu]

theorem dot_apply (r : Fin 32) (o : Fin 3072) :
    val_main_v5 (F := Ideal) x y w (ix2 r o) = ∑ k : Fin 1024, silu (cond x y r k) * w (ix3 0 k o) := by
  have h := act_apply x y r
  unfold val_main_v5
  generalize val_main_v3 (F := Ideal) x y = a at h ⊢
  pointwise [h, val_main_v4]

theorem eq_G4 : val_main_v9 (F := Ideal) x y w b = G4 x y w b := by
  funext i
  obtain ⟨r, o, rfl⟩ : ∃ (r : Fin 32) (o : Fin 3072), i = ix2 r o :=
    ⟨i 0, i 1, funext fun a => match a with | ⟨0, _⟩ => rfl | ⟨1, _⟩ => rfl⟩
  have h := dot_apply x y w r o
  pointwise [val_main_v9, val_main_v8, val_main_v7, val_main_v6, h, G4]

theorem eq_G5 : val_main_v13 (F := Ideal) p = G5 p := by
  funext i
  obtain ⟨r, o, rfl⟩ : ∃ (r : Fin 1024) (o : Fin 4096), i = ix2 r o :=
    ⟨i 0, i 1, funext fun a => match a with | ⟨0, _⟩ => rfl | ⟨1, _⟩ => rfl⟩
  pointwise [val_main_v13, val_main_v12, G5]

theorem eq_G6 : val_main_v15 (F := Ideal) p = G6 p := by
  funext i
  obtain ⟨o, r, rfl⟩ : ∃ (o : Fin 512) (r : Fin 1024), i = ix2 o r :=
    ⟨i 0, i 1, funext fun a => match a with | ⟨0, _⟩ => rfl | ⟨1, _⟩ => rfl⟩
  pointwise [val_main_v15, val_main_v14, val_main_v11, val_main_v10, G6]

end Cert.Ada.Ref

namespace Cert.Ada

open Cert.PrepIdeal Idealize.ShloMosaic Idealize.ShloMosaic.TcCoe Idealize.SL.Sem
open Cert.Mix (IsReal)

theorem real_of_pre (m : (ℓ : Loc nD τ sig) → Buf (Elt Ideal) ℓ)
    (hm : Cert.Pre_PrepIdeal_finite_ada (hPre_finite_ada := Cert.Pre_finite_ada.Gen.facts) m) (c : Dev nD) : AllReal m c := by
  obtain ⟨h1, h2, h3⟩ := Pre.entries _ _ _ _ _ (hm c)
  refine ⟨fun r k => ?_, h3⟩
  unfold cond
  split
  · exact h1 _ k
  · split
    · exact h2 k
    · simp [IsReal]

theorem equation : Cert.algebraic_PrepIdeal_AdaReferenceIdeal_pre_finite_ada (hPrepIdeal := Cert.PrepIdeal.Gen.facts)
    (hAdaReferenceIdeal := Cert.AdaReferenceIdeal.Gen.facts) (hPre_finite_ada := Cert.Pre_finite_ada.Gen.facts) := by
  intro m g m' g' hp hm
  refine ⟨fun c => Gm4 m c, fun c => Gm5 m c, fun c => Gm6 m c, ?_, ?_⟩
  · exact (Idealize.ShloMosaic.θ_run _ _ _).mono (fun r h c => ⟨(h c).1.trans (final4 m c (real_of_pre m hp c)),
      (h c).2.1.trans (final5 m c), (h c).2.2.1.trans (final6 m c), (h c).2.2.2⟩) (Cert.PrepIdeal.Value.run_blocks m g)
  · refine (Idealize.ShloMosaic.θ_run _ _ _).mono (fun r h c => ⟨(h c).1.trans ?_, (h c).2.1.trans ?_, (h c).2.2.1.trans ?_, (h c).2.2.2⟩)
      (Cert.AdaReferenceIdeal.Value.run m' g')
    · obtain ⟨h0, h1, h2, h3, h4⟩ := hm c
      rw [Cert.AdaReferenceIdeal.Read.val_main_v9_eq, h0, h1, h2, h3]
      exact Ref.eq_G4 _ _ _ _
    · obtain ⟨h0, h1, h2, h3, h4⟩ := hm c
      rw [Cert.AdaReferenceIdeal.Read.val_main_v13_eq, h4]
      exact Ref.eq_G5 _
    · obtain ⟨h0, h1, h2, h3, h4⟩ := hm c
      rw [Cert.AdaReferenceIdeal.Read.val_main_v15_eq, h4]
      exact Ref.eq_G6 _

end Cert.Ada

end
-- ==== Proof.lean ====
/- The claims, assembled: every program runs to its end with its arguments and counters as the frame claims say, and the
   retention, the modulation with its casts, the two input projections and the output projection compute what their
   references compute; the retention where the queries, keys and values are finite, the modulation where the conditioning
   rows and the weights are. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InReferenceIdeal
public import proofs.«01_k».proof.Proof.Gen.CtxProj
public import proofs.«01_k».proof.Proof.Gen.CtxProj.Skeleton
public import proofs.«01_k».proof.Proof.Gen.CtxProj.Launch
public import proofs.«01_k».proof.Proof.Gen.CtxProj.Points
public import proofs.«01_k».proof.Proof.Gen.CtxProj.Frame
public import proofs.«01_k».proof.Proof.Gen.CtxProjIdeal
public import proofs.«01_k».proof.Proof.Gen.CtxProjIdeal.Skeleton
public import proofs.«01_k».proof.Proof.Gen.CtxProjIdeal.Launch
public import proofs.«01_k».proof.Proof.Gen.CtxProjIdeal.Points
public import proofs.«01_k».proof.Proof.Gen.CtxProjIdeal.Frame
public import proofs.«01_k».proof.Proof.Gen.CtxReferenceIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutReferenceIdeal
public import proofs.«01_k».proof.Proof.Gen.InProjIdeal.Value
public import proofs.«01_k».proof.Proof.Gen.CtxProjIdeal.Value
public import proofs.«01_k».proof.Proof.Gen.OutProjIdeal.Value
public import proofs.«01_k».proof.Proof.Gen.ReferenceIdeal.Run
public import proofs.«01_k».proof.Proof.Gen.ReferenceIdeal.Read
public import proofs.«01_k».proof.Proof.Gen.InReferenceIdeal.Run
public import proofs.«01_k».proof.Proof.Gen.InReferenceIdeal.Read
public import proofs.«01_k».proof.Proof.Gen.CtxReferenceIdeal.Run
public import proofs.«01_k».proof.Proof.Gen.CtxReferenceIdeal.Read
public import proofs.«01_k».proof.Proof.Gen.OutReferenceIdeal.Run
public import proofs.«01_k».proof.Proof.Gen.OutReferenceIdeal.Read
public import proofs.«01_k».proof.Proof.MixBits
public import proofs.«01_k».proof.Proof.InValue
public import proofs.«01_k».proof.Proof.CtxValue
public import proofs.«01_k».proof.Proof.OutValue
public import proofs.«01_k».proof.Proof.Gen.Pre_finite_ret
public import proofs.«01_k».proof.Proof.MixEquation
public import proofs.«01_k».proof.Proof.PrepValue
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.AdaReferenceIdeal
public import proofs.«01_k».proof.Proof.Gen.AdaReferenceIdeal.Run
public import proofs.«01_k».proof.Proof.Gen.AdaReferenceIdeal.Read
public import proofs.«01_k».proof.Proof.Gen.Pre_finite_ada
public import Idealize.ShloMosaic.Adequacy
public import Idealize.ShloMosaic.Init

@[expose] public section

noncomputable section

namespace Cert.Proof

open Idealize.ShloMosaic Idealize.SL.Sem Cert.Kernel

theorem frame_KernelIdeal : Cert.quiescent_KernelIdeal (hKernelIdeal := Cert.KernelIdeal.Gen.facts) :=
  fun m ρ _ => (θ_run Cert.KernelIdeal.defs _ _).mono (fun _ h => ⟨h.1, h.2.1⟩) (Cert.Mix.run (F := Ideal) m ρ)

theorem frame_ReferenceIdeal : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩) (Cert.ReferenceIdeal.Value.run (F := Ideal) m ρ)

theorem frame_InReferenceIdeal : Cert.quiescent_InReferenceIdeal (hInReferenceIdeal := Cert.InReferenceIdeal.Gen.facts) :=
  fun m ρ _ => (θ_run Cert.InReferenceIdeal.defs _ _).mono (fun r h => ⟨fun c => (h c).2.2, sem_eq_zero_of_no_sems (by decide) r.2⟩) (Cert.InReferenceIdeal.Value.run (F := Ideal) m ρ)

theorem frame_CtxReferenceIdeal : Cert.quiescent_CtxReferenceIdeal (hCtxReferenceIdeal := Cert.CtxReferenceIdeal.Gen.facts) :=
  fun m ρ _ => (θ_run Cert.CtxReferenceIdeal.defs _ _).mono (fun r h => ⟨fun c => (h c).2.2, sem_eq_zero_of_no_sems (by decide) r.2⟩) (Cert.CtxReferenceIdeal.Value.run (F := Ideal) m ρ)

theorem frame_OutReferenceIdeal : Cert.quiescent_OutReferenceIdeal (hOutReferenceIdeal := Cert.OutReferenceIdeal.Gen.facts) :=
  fun m ρ _ => (θ_run Cert.OutReferenceIdeal.defs _ _).mono (fun r h => ⟨fun c => (h c).2, sem_eq_zero_of_no_sems (by decide) r.2⟩) (Cert.OutReferenceIdeal.Value.run (F := Ideal) m ρ)

theorem frame_AdaReferenceIdeal : Cert.quiescent_AdaReferenceIdeal (hAdaReferenceIdeal := Cert.AdaReferenceIdeal.Gen.facts) :=
  fun m ρ _ => (θ_run Cert.AdaReferenceIdeal.defs _ _).mono (fun r h => ⟨fun c => (h c).2.2.2, sem_eq_zero_of_no_sems (by decide) r.2⟩) (Cert.AdaReferenceIdeal.Value.run (F := Ideal) m ρ)

theorem claim : Cert.Claim := ⟨Cert.Kernel.Gen.facts, Cert.KernelIdeal.Gen.facts, Cert.ReferenceIdeal.Gen.facts, Cert.InProj.Gen.facts, Cert.InProjIdeal.Gen.facts, Cert.InReferenceIdeal.Gen.facts, Cert.CtxProj.Gen.facts, Cert.CtxProjIdeal.Gen.facts, Cert.CtxReferenceIdeal.Gen.facts, Cert.OutProj.Gen.facts, Cert.OutProjIdeal.Gen.facts, Cert.OutReferenceIdeal.Gen.facts, Cert.Prep.Gen.facts, Cert.PrepIdeal.Gen.facts, Cert.AdaReferenceIdeal.Gen.facts, Cert.Pre_finite_ret.Gen.facts, Cert.Pre_finite_ada.Gen.facts,
  Cert.Mix.frame_bits, frame_KernelIdeal, fun m ρ _ => frame_KernelIdeal m ρ trivial,
  frame_ReferenceIdeal, fun m ρ _ => frame_ReferenceIdeal m ρ trivial,
  fun m ρ _ => Cert.InProj.Gen.frame m ρ, fun m ρ _ => Cert.InProjIdeal.Gen.frame m ρ, frame_InReferenceIdeal,
  fun m ρ _ => Cert.CtxProj.Gen.frame m ρ, fun m ρ _ => Cert.CtxProjIdeal.Gen.frame m ρ, frame_CtxReferenceIdeal,
  fun m ρ _ => Cert.OutProj.Gen.frame m ρ, fun m ρ _ => Cert.OutProjIdeal.Gen.frame m ρ, frame_OutReferenceIdeal,
  fun m ρ _ => Cert.Prep.Gen.frame m ρ, fun m ρ _ => Cert.PrepIdeal.Gen.frame m ρ, fun m ρ _ => Cert.PrepIdeal.Gen.frame m ρ,
  frame_AdaReferenceIdeal, fun m ρ _ => frame_AdaReferenceIdeal m ρ trivial,
  trivial, Cert.Mix.equation, trivial, Cert.In.equation, trivial, Cert.Ctx.equation, trivial, Cert.Out.equation,
  trivial, Cert.Ada.equation⟩

end Cert.Proof

end
